-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 4096]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![4096, 512]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v50) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x256x512 : Shape := ⟨3, ![2, 256, 512]⟩
abbrev S512x256 : Shape := ⟨2, ![512, 256]⟩
abbrev S2x256x64x64 : Shape := ⟨4, ![2, 256, 64, 64]⟩
abbrev S256x512 : Shape := ⟨2, ![256, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x256x64x64 : S_.BroadcastsInDim S2x256x64x64 (![] : Fin 0 → Fin S2x256x64x64.rank)
  reducesTo_S2x256x64x64_S_d0_1_2_3 : S2x256x64x64.ReducesTo [0, 1, 2, 3] S_

variable [Facts]

def fn {F : FTy → Type} [FloatOps F] (main_arg0 : FVec F S2x256x512 .bf16) (main_arg1 : FVec F S512x256 .bf16) (main_arg2 : FVec F S2x256x64x64 .bf16) (main_arg3 : FVec F S2x256x64x64 .bf16) (main_arg4 : FVec F S256x512 .bf16) : IVec S_ 1 :=
  let main_v0 : FVec F S2x256x512 .bf16 := Host.absf main_arg0
  let main_cst : FVec F S_ .bf16 := constant S_ .bf16 0x7F80#16
  let main_v1 : FVec F S2x256x512 .bf16 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S512x256 .bf16 := Host.absf main_arg1
  let main_cst_0 : FVec F S_ .bf16 := constant S_ .bf16 0x7F80#16
  let main_v5 : FVec F S512x256 .bf16 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x256x64x64 .bf16 := Host.absf main_arg2
  let main_cst_2 : FVec F S_ .bf16 := constant S_ .bf16 0x7F80#16
  let main_v10 : FVec F S2x256x64x64 .bf16 := broadcastInDim S2x256x64x64 ![] bcast_S_S2x256x64x64 main_cst_2
  let main_v11 : IVec S2x256x64x64 1 := cmpf .olt main_v9 main_v10
  let main_c_3 : IVec S_ 1 := constantI S_ 1 1#1
  let main_v12 : IVec S_ 1 := (fun x v => Host.reduce IntOp.andi x v reducesTo_S2x256x64x64_S_d0_1_2_3 h_S_) main_v11 main_c_3
  let main_v13 : IVec S_ 1 := andi main_v8 main_v12
  main_v13
-- ==== Pre_finite_scores_ReferenceIdeal.lean ====
abbrev S2x256x512 : Shape := ⟨3, ![2, 256, 512]⟩
abbrev S512x4096 : Shape := ⟨2, ![512, 4096]⟩
abbrev S2x256x64x64 : Shape := ⟨4, ![2, 256, 64, 64]⟩
abbrev S4096x512 : Shape := ⟨2, ![4096, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x4096 : S_.BroadcastsInDim S512x4096 (![] : Fin 0 → Fin S512x4096.rank)
  reducesTo_S512x4096_S_d0_1 : S512x4096.ReducesTo [0, 1] S_
  bcast_S_S2x256x64x64 : S_.BroadcastsInDim S2x256x64x64 (![] : Fin 0 → Fin S2x256x64x64.rank)
  reducesTo_S2x256x64x64_S_d0_1_2_3 : S2x256x64x64.ReducesTo [0, 1, 2, 3] S_

variable [Facts]

def fn {F : FTy → Type} [FloatOps F] (main_arg0 : FVec F S2x256x512 .bf16) (main_arg1 : FVec F S512x4096 .bf16) (main_arg2 : FVec F S2x256x64x64 .bf16) (main_arg3 : FVec F S2x256x64x64 .bf16) (main_arg4 : FVec F S4096x512 .bf16) : IVec S_ 1 :=
  let main_v0 : FVec F S2x256x512 .bf16 := Host.absf main_arg0
  let main_cst : FVec F S_ .bf16 := constant S_ .bf16 0x7F80#16
  let main_v1 : FVec F S2x256x512 .bf16 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S512x4096 .bf16 := Host.absf main_arg1
  let main_cst_0 : FVec F S_ .bf16 := constant S_ .bf16 0x7F80#16
  let main_v5 : FVec F S512x4096 .bf16 := broadcastInDim S512x4096 ![] bcast_S_S512x4096 main_cst_0
  let main_v6 : IVec S512x4096 1 := cmpf .olt main_v4 main_v5
  let main_c_1 : IVec S_ 1 := constantI S_ 1 1#1
  let main_v7 : IVec S_ 1 := (fun x v => Host.reduce IntOp.andi x v reducesTo_S512x4096_S_d0_1 h_S_) main_v6 main_c_1
  let main_v8 : IVec S_ 1 := andi main_v3 main_v7
  let main_v9 : FVec F S2x256x64x64 .bf16 := Host.absf main_arg2
  let main_cst_2 : FVec F S_ .bf16 := constant S_ .bf16 0x7F80#16
  let main_v10 : FVec F S2x256x64x64 .bf16 := broadcastInDim S2x256x64x64 ![] bcast_S_S2x256x64x64 main_cst_2
  let main_v11 : IVec S2x256x64x64 1 := cmpf .olt main_v9 main_v10
  let main_c_3 : IVec S_ 1 := constantI S_ 1 1#1
  let main_v12 : IVec S_ 1 := (fun x v => Host.reduce IntOp.andi x v reducesTo_S2x256x64x64_S_d0_1_2_3 h_S_) main_v11 main_c_3
  let main_v13 : IVec S_ 1 := andi main_v8 main_v12
  main_v13
-- ==== Kernel.lean ====
abbrev S2x256x512 : Shape := ⟨3, ![2, 256, 512]⟩
abbrev S512x256 : Shape := ⟨2, ![512, 256]⟩
abbrev S2x256x64x64 : Shape := ⟨4, ![2, 256, 64, 64]⟩
abbrev S256x512 : Shape := ⟨2, ![256, 512]⟩
abbrev S_ : Shape := ⟨0, ![]⟩
abbrev S2x256x4x64 : Shape := ⟨4, ![2, 256, 4, 64]⟩
abbrev S2x256x256 : Shape := ⟨3, ![2, 256, 256]⟩
abbrev S2x16x512 : Shape := ⟨3, ![2, 16, 512]⟩
abbrev S16x2x16x512 : Shape := ⟨4, ![16, 2, 16, 512]⟩
abbrev S16x2 : Shape := ⟨2, ![16, 2]⟩
abbrev S2 : Shape := ⟨1, ![2]⟩
abbrev S1 : Shape := ⟨1, ![1]⟩
abbrev S256x256 : Shape := ⟨2, ![256, 256]⟩
abbrev S1x256x512 : Shape := ⟨3, ![1, 256, 512]⟩
abbrev S256x64 : Shape := ⟨2, ![256, 64]⟩
abbrev S1x256x256 : Shape := ⟨3, ![1, 256, 256]⟩
abbrev S256 : Shape := ⟨1, ![256]⟩
abbrev S256x1 : Shape := ⟨2, ![256, 1]⟩
abbrev S1x1 : Shape := ⟨2, ![1, 1]⟩
abbrev S1x1x16x512 : Shape := ⟨4, ![1, 1, 16, 512]⟩
abbrev S16x512 : Shape := ⟨2, ![16, 512]⟩
abbrev S1x16x512 : Shape := ⟨3, ![1, 16, 512]⟩

abbrev nBuf : Space → Nat
  | .hbm => 39
  | .vmem => 8
  | .smem => 0
  | _ => 0

abbrev bufTy : (tb : Table) → Fin (tcTables nBuf tb) → BufTy
  | .hbm, ⟨0, _⟩ => ⟨S2x256x512, .bf16⟩
  | .hbm, ⟨1, _⟩ => ⟨S512x256, .bf16⟩
  | .hbm, ⟨2, _⟩ => ⟨S2x256x64x64, .bf16⟩
  | .hbm, ⟨3, _⟩ => ⟨S2x256x64x64, .bf16⟩
  | .hbm, ⟨4, _⟩ => ⟨S256x512, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2x256x4x64, .bf16⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S2x256x4x64, .bf16⟩
  | .hbm, ⟨33, _⟩ => ⟨S2x256x256, .bf16⟩
  | .hbm, ⟨34, _⟩ => ⟨S2x256x256, .bf16⟩
  | .hbm, ⟨35, _⟩ => ⟨S_, .bf16⟩
  | .hbm, ⟨36, _⟩ => ⟨S512x256, .bf16⟩
  | .hbm, ⟨37, _⟩ => ⟨S512x256, .bf16⟩
  | .hbm, ⟨38, _⟩ => ⟨S2x256x512, .bf16⟩
  | .local _ .vmem, ⟨0, _⟩ => ⟨S2x256x512, .bf16⟩
  | .local _ .vmem, ⟨1, _⟩ => ⟨S512x256, .bf16⟩
  | .local _ .vmem, ⟨2, _⟩ => ⟨S256x512, .bf16⟩
  | .local _ .vmem, ⟨3, _⟩ => ⟨S2x256x256, .bf16⟩
  | .local _ .vmem, ⟨4, _⟩ => ⟨S2x256x256, .bf16⟩
  | .local _ .vmem, ⟨5, _⟩ => ⟨S2x256x512, .bf16⟩
  | .local _ .vmem, ⟨6, _⟩ => ⟨S2x16x512, .bf16⟩
  | .local _ .vmem, ⟨7, _⟩ => ⟨S16x2x16x512, .bf16⟩
  | _, _ => ⟨S2x256x512, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 135 → Bool
  | ⟨i, _⟩ => dmaSemScopedAt i

abbrev sig : RefSig :=
  (ofTc nBuf bufTy 1 135 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_c_5 : Ref sig .tc := ⟨.hbm, 19, rfl⟩
abbrev main_c_6 : Ref sig .tc := ⟨.hbm, 20, rfl⟩
abbrev main_v9 : Ref sig .tc := ⟨.hbm, 21, rfl⟩
abbrev main_c_7 : Ref sig .tc := ⟨.hbm, 22, rfl⟩
abbrev main_v10 : Ref sig .tc := ⟨.hbm, 23, rfl⟩
abbrev main_c_8 : Ref sig .tc := ⟨.hbm, 24, rfl⟩
abbrev main_v11 : Ref sig .tc := ⟨.hbm, 25, rfl⟩
abbrev main_c_9 : Ref sig .tc := ⟨.hbm, 26, rfl⟩
abbrev main_v12 : Ref sig .tc := ⟨.hbm, 27, rfl⟩
abbrev main_v13 : Ref sig .tc := ⟨.hbm, 28, rfl⟩
abbrev main_c_10 : Ref sig .tc := ⟨.hbm, 29, rfl⟩
abbrev main_c_11 : Ref sig .tc := ⟨.hbm, 30, rfl⟩
abbrev main_c_12 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_10 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v8 : BitVec 32 := Scalar.addi v2 c1_i32_1
  let c16_i32_2 : BitVec 32 := 16#32
  let c0_i32_3 : BitVec 32 := 0#32
  let v9 : BitVec 1 := Scalar.cmpi .eq c16_i32_2 c0_i32_3
  let c1_i32_4 : BitVec 32 := 1#32
  let v10 : BitVec 32 := Scalar.select v9 c1_i32_4 c16_i32_2
  let v11 : BitVec 32 := Scalar.remsi v8 v10
  let c0_i32_6 : BitVec 32 := 0#32
  let v13 : BitVec 1 := Scalar.cmpi .slt v11 c0_i32_6
  let c0_i32_7 : BitVec 32 := 0#32
  let v14 : BitVec 1 := Scalar.cmpi .slt v10 c0_i32_7
  let v15 : BitVec 1 := Scalar.xori v13 v14
  let c0_i32_5 : BitVec 32 := 0#32
  let v12 : BitVec 1 := Scalar.cmpi .ne v11 c0_i32_5
  let v16 : BitVec 1 := Scalar.andi v15 v12
  let v17 : BitVec 32 := Scalar.addi v11 v10
  let v18 : BitVec 32 := Scalar.select v16 v17 v11
  let c1_i32_9 : BitVec 32 := 1#32
  let v19 : BitVec 32 := Scalar.muli v18 c1_i32_9
  let v20 : BitVec 32 := Scalar.addi c0_i32_10 v19
  v20.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v21 : BitVec 32 := Scalar.addi v2 c2_i32
  let c16_i32_11 : BitVec 32 := 16#32
  let c0_i32_12 : BitVec 32 := 0#32
  let v22 : BitVec 1 := Scalar.cmpi .eq c16_i32_11 c0_i32_12
  let c1_i32_13 : BitVec 32 := 1#32
  let v23 : BitVec 32 := Scalar.select v22 c1_i32_13 c16_i32_11
  let v24 : BitVec 32 := Scalar.remsi v21 v23
  let c0_i32_15 : BitVec 32 := 0#32
  let v26 : BitVec 1 := Scalar.cmpi .slt v24 c0_i32_15
  let c0_i32_16 : BitVec 32 := 0#32
  let v27 : BitVec 1 := Scalar.cmpi .slt v23 c0_i32_16
  let v28 : BitVec 1 := Scalar.xori v26 v27
  let c0_i32_14 : BitVec 32 := 0#32
  let v25 : BitVec 1 := Scalar.cmpi .ne v24 c0_i32_14
  let v29 : BitVec 1 := Scalar.andi v28 v25
  let v30 : BitVec 32 := Scalar.addi v24 v23
  let v31 : BitVec 32 := Scalar.select v29 v30 v24
  let c1_i32_18 : BitVec 32 := 1#32
  let v32 : BitVec 32 := Scalar.muli v31 c1_i32_18
  let v33 : BitVec 32 := Scalar.addi c0_i32_19 v32
  v33.toNat
def k0_dev3 (d0 : Dev nD) : Nat :=
  let c0_i32_28 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v34 : BitVec 32 := Scalar.addi v2 c3_i32
  let c16_i32_20 : BitVec 32 := 16#32
  let c0_i32_21 : BitVec 32 := 0#32
  let v35 : BitVec 1 := Scalar.cmpi .eq c16_i32_20 c0_i32_21
  let c1_i32_22 : BitVec 32 := 1#32
  let v36 : BitVec 32 := Scalar.select v35 c1_i32_22 c16_i32_20
  let v37 : BitVec 32 := Scalar.remsi v34 v36
  let c0_i32_24 : BitVec 32 := 0#32
  let v39 : BitVec 1 := Scalar.cmpi .slt v37 c0_i32_24
  let c0_i32_25 : BitVec 32 := 0#32
  let v40 : BitVec 1 := Scalar.cmpi .slt v36 c0_i32_25
  let v41 : BitVec 1 := Scalar.xori v39 v40
  let c0_i32_23 : BitVec 32 := 0#32
  let v38 : BitVec 1 := Scalar.cmpi .ne v37 c0_i32_23
  let v42 : BitVec 1 := Scalar.andi v41 v38
  let v43 : BitVec 32 := Scalar.addi v37 v36
  let v44 : BitVec 32 := Scalar.select v42 v43 v37
  let c1_i32_27 : BitVec 32 := 1#32
  let v45 : BitVec 32 := Scalar.muli v44 c1_i32_27
  let v46 : BitVec 32 := Scalar.addi c0_i32_28 v45
  v46.toNat
def k0_dev4 (d0 : Dev nD) : Nat :=
  let c0_i32_37 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v47 : BitVec 32 := Scalar.addi v2 c4_i32
  let c16_i32_29 : BitVec 32 := 16#32
  let c0_i32_30 : BitVec 32 := 0#32
  let v48 : BitVec 1 := Scalar.cmpi .eq c16_i32_29 c0_i32_30
  let c1_i32_31 : BitVec 32 := 1#32
  let v49 : BitVec 32 := Scalar.select v48 c1_i32_31 c16_i32_29
  let v50 : BitVec 32 := Scalar.remsi v47 v49
  let c0_i32_33 : BitVec 32 := 0#32
  let v52 : BitVec 1 := Scalar.cmpi .slt v50 c0_i32_33
  let c0_i32_34 : BitVec 32 := 0#32
  let v53 : BitVec 1 := Scalar.cmpi .slt v49 c0_i32_34
  let v54 : BitVec 1 := Scalar.xori v52 v53
  let c0_i32_32 : BitVec 32 := 0#32
  let v51 : BitVec 1 := Scalar.cmpi .ne v50 c0_i32_32
  let v55 : BitVec 1 := Scalar.andi v54 v51
  let v56 : BitVec 32 := Scalar.addi v50 v49
  let v57 : BitVec 32 := Scalar.select v55 v56 v50
  let c1_i32_36 : BitVec 32 := 1#32
  let v58 : BitVec 32 := Scalar.muli v57 c1_i32_36
  let v59 : BitVec 32 := Scalar.addi c0_i32_37 v58
  v59.toNat
def k0_dev5 (d0 : Dev nD) : Nat :=
  let c0_i32_46 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v60 : BitVec 32 := Scalar.addi v2 c5_i32
  let c16_i32_38 : BitVec 32 := 16#32
  let c0_i32_39 : BitVec 32 := 0#32
  let v61 : BitVec 1 := Scalar.cmpi .eq c16_i32_38 c0_i32_39
  let c1_i32_40 : BitVec 32 := 1#32
  let v62 : BitVec 32 := Scalar.select v61 c1_i32_40 c16_i32_38
  let v63 : BitVec 32 := Scalar.remsi v60 v62
  let c0_i32_42 : BitVec 32 := 0#32
  let v65 : BitVec 1 := Scalar.cmpi .slt v63 c0_i32_42
  let c0_i32_43 : BitVec 32 := 0#32
  let v66 : BitVec 1 := Scalar.cmpi .slt v62 c0_i32_43
  let v67 : BitVec 1 := Scalar.xori v65 v66
  let c0_i32_41 : BitVec 32 := 0#32
  let v64 : BitVec 1 := Scalar.cmpi .ne v63 c0_i32_41
  let v68 : BitVec 1 := Scalar.andi v67 v64
  let v69 : BitVec 32 := Scalar.addi v63 v62
  let v70 : BitVec 32 := Scalar.select v68 v69 v63
  let c1_i32_45 : BitVec 32 := 1#32
  let v71 : BitVec 32 := Scalar.muli v70 c1_i32_45
  let v72 : BitVec 32 := Scalar.addi c0_i32_46 v71
  v72.toNat
def k0_dev6 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v73 : BitVec 32 := Scalar.addi v2 c6_i32
  let c16_i32_47 : BitVec 32 := 16#32
  let c0_i32_48 : BitVec 32 := 0#32
  let v74 : BitVec 1 := Scalar.cmpi .eq c16_i32_47 c0_i32_48
  let c1_i32_49 : BitVec 32 := 1#32
  let v75 : BitVec 32 := Scalar.select v74 c1_i32_49 c16_i32_47
  let v76 : BitVec 32 := Scalar.remsi v73 v75
  let c0_i32_51 : BitVec 32 := 0#32
  let v78 : BitVec 1 := Scalar.cmpi .slt v76 c0_i32_51
  let c0_i32_52 : BitVec 32 := 0#32
  let v79 : BitVec 1 := Scalar.cmpi .slt v75 c0_i32_52
  let v80 : BitVec 1 := Scalar.xori v78 v79
  let c0_i32_50 : BitVec 32 := 0#32
  let v77 : BitVec 1 := Scalar.cmpi .ne v76 c0_i32_50
  let v81 : BitVec 1 := Scalar.andi v80 v77
  let v82 : BitVec 32 := Scalar.addi v76 v75
  let v83 : BitVec 32 := Scalar.select v81 v82 v76
  let c1_i32_54 : BitVec 32 := 1#32
  let v84 : BitVec 32 := Scalar.muli v83 c1_i32_54
  let v85 : BitVec 32 := Scalar.addi c0_i32_55 v84
  v85.toNat
def k0_dev7 (d0 : Dev nD) : Nat :=
  let c0_i32_64 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v86 : BitVec 32 := Scalar.addi v2 c7_i32
  let c16_i32_56 : BitVec 32 := 16#32
  let c0_i32_57 : BitVec 32 := 0#32
  let v87 : BitVec 1 := Scalar.cmpi .eq c16_i32_56 c0_i32_57
  let c1_i32_58 : BitVec 32 := 1#32
  let v88 : BitVec 32 := Scalar.select v87 c1_i32_58 c16_i32_56
  let v89 : BitVec 32 := Scalar.remsi v86 v88
  let c0_i32_60 : BitVec 32 := 0#32
  let v91 : BitVec 1 := Scalar.cmpi .slt v89 c0_i32_60
  let c0_i32_61 : BitVec 32 := 0#32
  let v92 : BitVec 1 := Scalar.cmpi .slt v88 c0_i32_61
  let v93 : BitVec 1 := Scalar.xori v91 v92
  let c0_i32_59 : BitVec 32 := 0#32
  let v90 : BitVec 1 := Scalar.cmpi .ne v89 c0_i32_59
  let v94 : BitVec 1 := Scalar.andi v93 v90
  let v95 : BitVec 32 := Scalar.addi v89 v88
  let v96 : BitVec 32 := Scalar.select v94 v95 v89
  let c1_i32_63 : BitVec 32 := 1#32
  let v97 : BitVec 32 := Scalar.muli v96 c1_i32_63
  let v98 : BitVec 32 := Scalar.addi c0_i32_64 v97
  v98.toNat
def k0_dev8 (d0 : Dev nD) : Nat :=
  let c0_i32_73 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v99 : BitVec 32 := Scalar.addi v2 c8_i32
  let c16_i32_65 : BitVec 32 := 16#32
  let c0_i32_66 : BitVec 32 := 0#32
  let v100 : BitVec 1 := Scalar.cmpi .eq c16_i32_65 c0_i32_66
  let c1_i32_67 : BitVec 32 := 1#32
  let v101 : BitVec 32 := Scalar.select v100 c1_i32_67 c16_i32_65
  let v102 : BitVec 32 := Scalar.remsi v99 v101
  let c0_i32_69 : BitVec 32 := 0#32
  let v104 : BitVec 1 := Scalar.cmpi .slt v102 c0_i32_69
  let c0_i32_70 : BitVec 32 := 0#32
  let v105 : BitVec 1 := Scalar.cmpi .slt v101 c0_i32_70
  let v106 : BitVec 1 := Scalar.xori v104 v105
  let c0_i32_68 : BitVec 32 := 0#32
  let v103 : BitVec 1 := Scalar.cmpi .ne v102 c0_i32_68
  let v107 : BitVec 1 := Scalar.andi v106 v103
  let v108 : BitVec 32 := Scalar.addi v102 v101
  let v109 : BitVec 32 := Scalar.select v107 v108 v102
  let c1_i32_72 : BitVec 32 := 1#32
  let v110 : BitVec 32 := Scalar.muli v109 c1_i32_72
  let v111 : BitVec 32 := Scalar.addi c0_i32_73 v110
  v111.toNat
def k0_dev9 (d0 : Dev nD) : Nat :=
  let c0_i32_82 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v112 : BitVec 32 := Scalar.addi v2 c9_i32
  let c16_i32_74 : BitVec 32 := 16#32
  let c0_i32_75 : BitVec 32 := 0#32
  let v113 : BitVec 1 := Scalar.cmpi .eq c16_i32_74 c0_i32_75
  let c1_i32_76 : BitVec 32 := 1#32
  let v114 : BitVec 32 := Scalar.select v113 c1_i32_76 c16_i32_74
  let v115 : BitVec 32 := Scalar.remsi v112 v114
  let c0_i32_78 : BitVec 32 := 0#32
  let v117 : BitVec 1 := Scalar.cmpi .slt v115 c0_i32_78
  let c0_i32_79 : BitVec 32 := 0#32
  let v118 : BitVec 1 := Scalar.cmpi .slt v114 c0_i32_79
  let v119 : BitVec 1 := Scalar.xori v117 v118
  let c0_i32_77 : BitVec 32 := 0#32
  let v116 : BitVec 1 := Scalar.cmpi .ne v115 c0_i32_77
  let v120 : BitVec 1 := Scalar.andi v119 v116
  let v121 : BitVec 32 := Scalar.addi v115 v114
  let v122 : BitVec 32 := Scalar.select v120 v121 v115
  let c1_i32_81 : BitVec 32 := 1#32
  let v123 : BitVec 32 := Scalar.muli v122 c1_i32_81
  let v124 : BitVec 32 := Scalar.addi c0_i32_82 v123
  v124.toNat
def k0_dev10 (d0 : Dev nD) : Nat :=
  let c0_i32_91 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v125 : BitVec 32 := Scalar.addi v2 c10_i32
  let c16_i32_83 : BitVec 32 := 16#32
  let c0_i32_84 : BitVec 32 := 0#32
  let v126 : BitVec 1 := Scalar.cmpi .eq c16_i32_83 c0_i32_84
  let c1_i32_85 : BitVec 32 := 1#32
  let v127 : BitVec 32 := Scalar.select v126 c1_i32_85 c16_i32_83
  let v128 : BitVec 32 := Scalar.remsi v125 v127
  let c0_i32_87 : BitVec 32 := 0#32
  let v130 : BitVec 1 := Scalar.cmpi .slt v128 c0_i32_87
  let c0_i32_88 : BitVec 32 := 0#32
  let v131 : BitVec 1 := Scalar.cmpi .slt v127 c0_i32_88
  let v132 : BitVec 1 := Scalar.xori v130 v131
  let c0_i32_86 : BitVec 32 := 0#32
  let v129 : BitVec 1 := Scalar.cmpi .ne v128 c0_i32_86
  let v133 : BitVec 1 := Scalar.andi v132 v129
  let v134 : BitVec 32 := Scalar.addi v128 v127
  let v135 : BitVec 32 := Scalar.select v133 v134 v128
  let c1_i32_90 : BitVec 32 := 1#32
  let v136 : BitVec 32 := Scalar.muli v135 c1_i32_90
  let v137 : BitVec 32 := Scalar.addi c0_i32_91 v136
  v137.toNat
def k0_dev11 (d0 : Dev nD) : Nat :=
  let c0_i32_100 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v138 : BitVec 32 := Scalar.addi v2 c11_i32
  let c16_i32_92 : BitVec 32 := 16#32
  let c0_i32_93 : BitVec 32 := 0#32
  let v139 : BitVec 1 := Scalar.cmpi .eq c16_i32_92 c0_i32_93
  let c1_i32_94 : BitVec 32 := 1#32
  let v140 : BitVec 32 := Scalar.select v139 c1_i32_94 c16_i32_92
  let v141 : BitVec 32 := Scalar.remsi v138 v140
  let c0_i32_96 : BitVec 32 := 0#32
  let v143 : BitVec 1 := Scalar.cmpi .slt v141 c0_i32_96
  let c0_i32_97 : BitVec 32 := 0#32
  let v144 : BitVec 1 := Scalar.cmpi .slt v140 c0_i32_97
  let v145 : BitVec 1 := Scalar.xori v143 v144
  let c0_i32_95 : BitVec 32 := 0#32
  let v142 : BitVec 1 := Scalar.cmpi .ne v141 c0_i32_95
  let v146 : BitVec 1 := Scalar.andi v145 v142
  let v147 : BitVec 32 := Scalar.addi v141 v140
  let v148 : BitVec 32 := Scalar.select v146 v147 v141
  let c1_i32_99 : BitVec 32 := 1#32
  let v149 : BitVec 32 := Scalar.muli v148 c1_i32_99
  let v150 : BitVec 32 := Scalar.addi c0_i32_100 v149
  v150.toNat
def k0_dev12 (d0 : Dev nD) : Nat :=
  let c0_i32_109 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v151 : BitVec 32 := Scalar.addi v2 c12_i32
  let c16_i32_101 : BitVec 32 := 16#32
  let c0_i32_102 : BitVec 32 := 0#32
  let v152 : BitVec 1 := Scalar.cmpi .eq c16_i32_101 c0_i32_102
  let c1_i32_103 : BitVec 32 := 1#32
  let v153 : BitVec 32 := Scalar.select v152 c1_i32_103 c16_i32_101
  let v154 : BitVec 32 := Scalar.remsi v151 v153
  let c0_i32_105 : BitVec 32 := 0#32
  let v156 : BitVec 1 := Scalar.cmpi .slt v154 c0_i32_105
  let c0_i32_106 : BitVec 32 := 0#32
  let v157 : BitVec 1 := Scalar.cmpi .slt v153 c0_i32_106
  let v158 : BitVec 1 := Scalar.xori v156 v157
  let c0_i32_104 : BitVec 32 := 0#32
  let v155 : BitVec 1 := Scalar.cmpi .ne v154 c0_i32_104
  let v159 : BitVec 1 := Scalar.andi v158 v155
  let v160 : BitVec 32 := Scalar.addi v154 v153
  let v161 : BitVec 32 := Scalar.select v159 v160 v154
  let c1_i32_108 : BitVec 32 := 1#32
  let v162 : BitVec 32 := Scalar.muli v161 c1_i32_108
  let v163 : BitVec 32 := Scalar.addi c0_i32_109 v162
  v163.toNat
def k0_dev13 (d0 : Dev nD) : Nat :=
  let c0_i32_118 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v164 : BitVec 32 := Scalar.addi v2 c13_i32
  let c16_i32_110 : BitVec 32 := 16#32
  let c0_i32_111 : BitVec 32 := 0#32
  let v165 : BitVec 1 := Scalar.cmpi .eq c16_i32_110 c0_i32_111
  let c1_i32_112 : BitVec 32 := 1#32
  let v166 : BitVec 32 := Scalar.select v165 c1_i32_112 c16_i32_110
  let v167 : BitVec 32 := Scalar.remsi v164 v166
  let c0_i32_114 : BitVec 32 := 0#32
  let v169 : BitVec 1 := Scalar.cmpi .slt v167 c0_i32_114
  let c0_i32_115 : BitVec 32 := 0#32
  let v170 : BitVec 1 := Scalar.cmpi .slt v166 c0_i32_115
  let v171 : BitVec 1 := Scalar.xori v169 v170
  let c0_i32_113 : BitVec 32 := 0#32
  let v168 : BitVec 1 := Scalar.cmpi .ne v167 c0_i32_113
  let v172 : BitVec 1 := Scalar.andi v171 v168
  let v173 : BitVec 32 := Scalar.addi v167 v166
  let v174 : BitVec 32 := Scalar.select v172 v173 v167
  let c1_i32_117 : BitVec 32 := 1#32
  let v175 : BitVec 32 := Scalar.muli v174 c1_i32_117
  let v176 : BitVec 32 := Scalar.addi c0_i32_118 v175
  v176.toNat
def k0_dev14 (d0 : Dev nD) : Nat :=
  let c0_i32_127 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v177 : BitVec 32 := Scalar.addi v2 c14_i32
  let c16_i32_119 : BitVec 32 := 16#32
  let c0_i32_120 : BitVec 32 := 0#32
  let v178 : BitVec 1 := Scalar.cmpi .eq c16_i32_119 c0_i32_120
  let c1_i32_121 : BitVec 32 := 1#32
  let v179 : BitVec 32 := Scalar.select v178 c1_i32_121 c16_i32_119
  let v180 : BitVec 32 := Scalar.remsi v177 v179
  let c0_i32_123 : BitVec 32 := 0#32
  let v182 : BitVec 1 := Scalar.cmpi .slt v180 c0_i32_123
  let c0_i32_124 : BitVec 32 := 0#32
  let v183 : BitVec 1 := Scalar.cmpi .slt v179 c0_i32_124
  let v184 : BitVec 1 := Scalar.xori v182 v183
  let c0_i32_122 : BitVec 32 := 0#32
  let v181 : BitVec 1 := Scalar.cmpi .ne v180 c0_i32_122
  let v185 : BitVec 1 := Scalar.andi v184 v181
  let v186 : BitVec 32 := Scalar.addi v180 v179
  let v187 : BitVec 32 := Scalar.select v185 v186 v180
  let c1_i32_126 : BitVec 32 := 1#32
  let v188 : BitVec 32 := Scalar.muli v187 c1_i32_126
  let v189 : BitVec 32 := Scalar.addi c0_i32_127 v188
  v189.toNat
def k0_dev15 (d0 : Dev nD) : Nat :=
  let c0_i32_136 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v190 : BitVec 32 := Scalar.addi v2 c15_i32
  let c16_i32_128 : BitVec 32 := 16#32
  let c0_i32_129 : BitVec 32 := 0#32
  let v191 : BitVec 1 := Scalar.cmpi .eq c16_i32_128 c0_i32_129
  let c1_i32_130 : BitVec 32 := 1#32
  let v192 : BitVec 32 := Scalar.select v191 c1_i32_130 c16_i32_128
  let v193 : BitVec 32 := Scalar.remsi v190 v192
  let c0_i32_132 : BitVec 32 := 0#32
  let v195 : BitVec 1 := Scalar.cmpi .slt v193 c0_i32_132
  let c0_i32_133 : BitVec 32 := 0#32
  let v196 : BitVec 1 := Scalar.cmpi .slt v192 c0_i32_133
  let v197 : BitVec 1 := Scalar.xori v195 v196
  let c0_i32_131 : BitVec 32 := 0#32
  let v194 : BitVec 1 := Scalar.cmpi .ne v193 c0_i32_131
  let v198 : BitVec 1 := Scalar.andi v197 v194
  let v199 : BitVec 32 := Scalar.addi v193 v192
  let v200 : BitVec 32 := Scalar.select v198 v199 v193
  let c1_i32_135 : BitVec 32 := 1#32
  let v201 : BitVec 32 := Scalar.muli v200 c1_i32_135
  let v202 : BitVec 32 := Scalar.addi c0_i32_136 v201
  v202.toNat
def k0_off1 (d0 : Dev nD) (c1_i32_211 : BitVec 32) : Fin 3 → Nat :=
  let c0_i32_219 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v364 : BitVec 32 := Scalar.addi v2 c1_i32_211
  let c16_i32_212 : BitVec 32 := 16#32
  let c0_i32_213 : BitVec 32 := 0#32
  let v365 : BitVec 1 := Scalar.cmpi .eq c16_i32_212 c0_i32_213
  let c1_i32_214 : BitVec 32 := 1#32
  let v366 : BitVec 32 := Scalar.select v365 c1_i32_214 c16_i32_212
  let v367 : BitVec 32 := Scalar.remsi v364 v366
  let c0_i32_216 : BitVec 32 := 0#32
  let v369 : BitVec 1 := Scalar.cmpi .slt v367 c0_i32_216
  let c0_i32_217 : BitVec 32 := 0#32
  let v370 : BitVec 1 := Scalar.cmpi .slt v366 c0_i32_217
  let v371 : BitVec 1 := Scalar.xori v369 v370
  let c0_i32_215 : BitVec 32 := 0#32
  let v368 : BitVec 1 := Scalar.cmpi .ne v367 c0_i32_215
  let v372 : BitVec 1 := Scalar.andi v371 v368
  let v373 : BitVec 32 := Scalar.addi v367 v366
  let v374 : BitVec 32 := Scalar.select v372 v373 v367
  let c16_i32_218 : BitVec 32 := 16#32
  let v375 : BitVec 32 := Scalar.muli v374 c16_i32_218
  let c0_i32_230 : BitVec 32 := 0#32
  ![0, v375.toNat, 0]
def k0_dev16 (d0 : Dev nD) : Nat :=
  let c0_i32_227 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_211 : BitVec 32 := 1#32
  let v364 : BitVec 32 := Scalar.addi v2 c1_i32_211
  let c16_i32_212 : BitVec 32 := 16#32
  let c0_i32_213 : BitVec 32 := 0#32
  let v365 : BitVec 1 := Scalar.cmpi .eq c16_i32_212 c0_i32_213
  let c1_i32_214 : BitVec 32 := 1#32
  let v366 : BitVec 32 := Scalar.select v365 c1_i32_214 c16_i32_212
  let v367 : BitVec 32 := Scalar.remsi v364 v366
  let c0_i32_216 : BitVec 32 := 0#32
  let v369 : BitVec 1 := Scalar.cmpi .slt v367 c0_i32_216
  let c0_i32_217 : BitVec 32 := 0#32
  let v370 : BitVec 1 := Scalar.cmpi .slt v366 c0_i32_217
  let v371 : BitVec 1 := Scalar.xori v369 v370
  let c0_i32_215 : BitVec 32 := 0#32
  let v368 : BitVec 1 := Scalar.cmpi .ne v367 c0_i32_215
  let v372 : BitVec 1 := Scalar.andi v371 v368
  let v373 : BitVec 32 := Scalar.addi v367 v366
  let v374 : BitVec 32 := Scalar.select v372 v373 v367
  let c1_i32_226 : BitVec 32 := 1#32
  let v376 : BitVec 32 := Scalar.muli v374 c1_i32_226
  let v377 : BitVec 32 := Scalar.addi c0_i32_227 v376
  v377.toNat
def k0_dev17 (d0 : Dev nD) : Nat :=
  let c0_i32_247 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_231 : BitVec 32 := 2#32
  let v386 : BitVec 32 := Scalar.addi v2 c2_i32_231
  let c16_i32_232 : BitVec 32 := 16#32
  let c0_i32_233 : BitVec 32 := 0#32
  let v387 : BitVec 1 := Scalar.cmpi .eq c16_i32_232 c0_i32_233
  let c1_i32_234 : BitVec 32 := 1#32
  let v388 : BitVec 32 := Scalar.select v387 c1_i32_234 c16_i32_232
  let v389 : BitVec 32 := Scalar.remsi v386 v388
  let c0_i32_236 : BitVec 32 := 0#32
  let v391 : BitVec 1 := Scalar.cmpi .slt v389 c0_i32_236
  let c0_i32_237 : BitVec 32 := 0#32
  let v392 : BitVec 1 := Scalar.cmpi .slt v388 c0_i32_237
  let v393 : BitVec 1 := Scalar.xori v391 v392
  let c0_i32_235 : BitVec 32 := 0#32
  let v390 : BitVec 1 := Scalar.cmpi .ne v389 c0_i32_235
  let v394 : BitVec 1 := Scalar.andi v393 v390
  let v395 : BitVec 32 := Scalar.addi v389 v388
  let v396 : BitVec 32 := Scalar.select v394 v395 v389
  let c1_i32_246 : BitVec 32 := 1#32
  let v398 : BitVec 32 := Scalar.muli v396 c1_i32_246
  let v399 : BitVec 32 := Scalar.addi c0_i32_247 v398
  v399.toNat
def k0_dev18 (d0 : Dev nD) : Nat :=
  let c0_i32_267 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_251 : BitVec 32 := 3#32
  let v408 : BitVec 32 := Scalar.addi v2 c3_i32_251
  let c16_i32_252 : BitVec 32 := 16#32
  let c0_i32_253 : BitVec 32 := 0#32
  let v409 : BitVec 1 := Scalar.cmpi .eq c16_i32_252 c0_i32_253
  let c1_i32_254 : BitVec 32 := 1#32
  let v410 : BitVec 32 := Scalar.select v409 c1_i32_254 c16_i32_252
  let v411 : BitVec 32 := Scalar.remsi v408 v410
  let c0_i32_256 : BitVec 32 := 0#32
  let v413 : BitVec 1 := Scalar.cmpi .slt v411 c0_i32_256
  let c0_i32_257 : BitVec 32 := 0#32
  let v414 : BitVec 1 := Scalar.cmpi .slt v410 c0_i32_257
  let v415 : BitVec 1 := Scalar.xori v413 v414
  let c0_i32_255 : BitVec 32 := 0#32
  let v412 : BitVec 1 := Scalar.cmpi .ne v411 c0_i32_255
  let v416 : BitVec 1 := Scalar.andi v415 v412
  let v417 : BitVec 32 := Scalar.addi v411 v410
  let v418 : BitVec 32 := Scalar.select v416 v417 v411
  let c1_i32_266 : BitVec 32 := 1#32
  let v420 : BitVec 32 := Scalar.muli v418 c1_i32_266
  let v421 : BitVec 32 := Scalar.addi c0_i32_267 v420
  v421.toNat
def k0_dev19 (d0 : Dev nD) : Nat :=
  let c0_i32_287 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_271 : BitVec 32 := 4#32
  let v430 : BitVec 32 := Scalar.addi v2 c4_i32_271
  let c16_i32_272 : BitVec 32 := 16#32
  let c0_i32_273 : BitVec 32 := 0#32
  let v431 : BitVec 1 := Scalar.cmpi .eq c16_i32_272 c0_i32_273
  let c1_i32_274 : BitVec 32 := 1#32
  let v432 : BitVec 32 := Scalar.select v431 c1_i32_274 c16_i32_272
  let v433 : BitVec 32 := Scalar.remsi v430 v432
  let c0_i32_276 : BitVec 32 := 0#32
  let v435 : BitVec 1 := Scalar.cmpi .slt v433 c0_i32_276
  let c0_i32_277 : BitVec 32 := 0#32
  let v436 : BitVec 1 := Scalar.cmpi .slt v432 c0_i32_277
  let v437 : BitVec 1 := Scalar.xori v435 v436
  let c0_i32_275 : BitVec 32 := 0#32
  let v434 : BitVec 1 := Scalar.cmpi .ne v433 c0_i32_275
  let v438 : BitVec 1 := Scalar.andi v437 v434
  let v439 : BitVec 32 := Scalar.addi v433 v432
  let v440 : BitVec 32 := Scalar.select v438 v439 v433
  let c1_i32_286 : BitVec 32 := 1#32
  let v442 : BitVec 32 := Scalar.muli v440 c1_i32_286
  let v443 : BitVec 32 := Scalar.addi c0_i32_287 v442
  v443.toNat
def k0_dev20 (d0 : Dev nD) : Nat :=
  let c0_i32_307 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_291 : BitVec 32 := 5#32
  let v452 : BitVec 32 := Scalar.addi v2 c5_i32_291
  let c16_i32_292 : BitVec 32 := 16#32
  let c0_i32_293 : BitVec 32 := 0#32
  let v453 : BitVec 1 := Scalar.cmpi .eq c16_i32_292 c0_i32_293
  let c1_i32_294 : BitVec 32 := 1#32
  let v454 : BitVec 32 := Scalar.select v453 c1_i32_294 c16_i32_292
  let v455 : BitVec 32 := Scalar.remsi v452 v454
  let c0_i32_296 : BitVec 32 := 0#32
  let v457 : BitVec 1 := Scalar.cmpi .slt v455 c0_i32_296
  let c0_i32_297 : BitVec 32 := 0#32
  let v458 : BitVec 1 := Scalar.cmpi .slt v454 c0_i32_297
  let v459 : BitVec 1 := Scalar.xori v457 v458
  let c0_i32_295 : BitVec 32 := 0#32
  let v456 : BitVec 1 := Scalar.cmpi .ne v455 c0_i32_295
  let v460 : BitVec 1 := Scalar.andi v459 v456
  let v461 : BitVec 32 := Scalar.addi v455 v454
  let v462 : BitVec 32 := Scalar.select v460 v461 v455
  let c1_i32_306 : BitVec 32 := 1#32
  let v464 : BitVec 32 := Scalar.muli v462 c1_i32_306
  let v465 : BitVec 32 := Scalar.addi c0_i32_307 v464
  v465.toNat
def k0_dev21 (d0 : Dev nD) : Nat :=
  let c0_i32_327 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_311 : BitVec 32 := 6#32
  let v474 : BitVec 32 := Scalar.addi v2 c6_i32_311
  let c16_i32_312 : BitVec 32 := 16#32
  let c0_i32_313 : BitVec 32 := 0#32
  let v475 : BitVec 1 := Scalar.cmpi .eq c16_i32_312 c0_i32_313
  let c1_i32_314 : BitVec 32 := 1#32
  let v476 : BitVec 32 := Scalar.select v475 c1_i32_314 c16_i32_312
  let v477 : BitVec 32 := Scalar.remsi v474 v476
  let c0_i32_316 : BitVec 32 := 0#32
  let v479 : BitVec 1 := Scalar.cmpi .slt v477 c0_i32_316
  let c0_i32_317 : BitVec 32 := 0#32
  let v480 : BitVec 1 := Scalar.cmpi .slt v476 c0_i32_317
  let v481 : BitVec 1 := Scalar.xori v479 v480
  let c0_i32_315 : BitVec 32 := 0#32
  let v478 : BitVec 1 := Scalar.cmpi .ne v477 c0_i32_315
  let v482 : BitVec 1 := Scalar.andi v481 v478
  let v483 : BitVec 32 := Scalar.addi v477 v476
  let v484 : BitVec 32 := Scalar.select v482 v483 v477
  let c1_i32_326 : BitVec 32 := 1#32
  let v486 : BitVec 32 := Scalar.muli v484 c1_i32_326
  let v487 : BitVec 32 := Scalar.addi c0_i32_327 v486
  v487.toNat
def k0_dev22 (d0 : Dev nD) : Nat :=
  let c0_i32_347 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_331 : BitVec 32 := 7#32
  let v496 : BitVec 32 := Scalar.addi v2 c7_i32_331
  let c16_i32_332 : BitVec 32 := 16#32
  let c0_i32_333 : BitVec 32 := 0#32
  let v497 : BitVec 1 := Scalar.cmpi .eq c16_i32_332 c0_i32_333
  let c1_i32_334 : BitVec 32 := 1#32
  let v498 : BitVec 32 := Scalar.select v497 c1_i32_334 c16_i32_332
  let v499 : BitVec 32 := Scalar.remsi v496 v498
  let c0_i32_336 : BitVec 32 := 0#32
  let v501 : BitVec 1 := Scalar.cmpi .slt v499 c0_i32_336
  let c0_i32_337 : BitVec 32 := 0#32
  let v502 : BitVec 1 := Scalar.cmpi .slt v498 c0_i32_337
  let v503 : BitVec 1 := Scalar.xori v501 v502
  let c0_i32_335 : BitVec 32 := 0#32
  let v500 : BitVec 1 := Scalar.cmpi .ne v499 c0_i32_335
  let v504 : BitVec 1 := Scalar.andi v503 v500
  let v505 : BitVec 32 := Scalar.addi v499 v498
  let v506 : BitVec 32 := Scalar.select v504 v505 v499
  let c1_i32_346 : BitVec 32 := 1#32
  let v508 : BitVec 32 := Scalar.muli v506 c1_i32_346
  let v509 : BitVec 32 := Scalar.addi c0_i32_347 v508
  v509.toNat
def k0_dev23 (d0 : Dev nD) : Nat :=
  let c0_i32_367 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_351 : BitVec 32 := 8#32
  let v518 : BitVec 32 := Scalar.addi v2 c8_i32_351
  let c16_i32_352 : BitVec 32 := 16#32
  let c0_i32_353 : BitVec 32 := 0#32
  let v519 : BitVec 1 := Scalar.cmpi .eq c16_i32_352 c0_i32_353
  let c1_i32_354 : BitVec 32 := 1#32
  let v520 : BitVec 32 := Scalar.select v519 c1_i32_354 c16_i32_352
  let v521 : BitVec 32 := Scalar.remsi v518 v520
  let c0_i32_356 : BitVec 32 := 0#32
  let v523 : BitVec 1 := Scalar.cmpi .slt v521 c0_i32_356
  let c0_i32_357 : BitVec 32 := 0#32
  let v524 : BitVec 1 := Scalar.cmpi .slt v520 c0_i32_357
  let v525 : BitVec 1 := Scalar.xori v523 v524
  let c0_i32_355 : BitVec 32 := 0#32
  let v522 : BitVec 1 := Scalar.cmpi .ne v521 c0_i32_355
  let v526 : BitVec 1 := Scalar.andi v525 v522
  let v527 : BitVec 32 := Scalar.addi v521 v520
  let v528 : BitVec 32 := Scalar.select v526 v527 v521
  let c1_i32_366 : BitVec 32 := 1#32
  let v530 : BitVec 32 := Scalar.muli v528 c1_i32_366
  let v531 : BitVec 32 := Scalar.addi c0_i32_367 v530
  v531.toNat
def k0_dev24 (d0 : Dev nD) : Nat :=
  let c0_i32_387 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_371 : BitVec 32 := 9#32
  let v540 : BitVec 32 := Scalar.addi v2 c9_i32_371
  let c16_i32_372 : BitVec 32 := 16#32
  let c0_i32_373 : BitVec 32 := 0#32
  let v541 : BitVec 1 := Scalar.cmpi .eq c16_i32_372 c0_i32_373
  let c1_i32_374 : BitVec 32 := 1#32
  let v542 : BitVec 32 := Scalar.select v541 c1_i32_374 c16_i32_372
  let v543 : BitVec 32 := Scalar.remsi v540 v542
  let c0_i32_376 : BitVec 32 := 0#32
  let v545 : BitVec 1 := Scalar.cmpi .slt v543 c0_i32_376
  let c0_i32_377 : BitVec 32 := 0#32
  let v546 : BitVec 1 := Scalar.cmpi .slt v542 c0_i32_377
  let v547 : BitVec 1 := Scalar.xori v545 v546
  let c0_i32_375 : BitVec 32 := 0#32
  let v544 : BitVec 1 := Scalar.cmpi .ne v543 c0_i32_375
  let v548 : BitVec 1 := Scalar.andi v547 v544
  let v549 : BitVec 32 := Scalar.addi v543 v542
  let v550 : BitVec 32 := Scalar.select v548 v549 v543
  let c1_i32_386 : BitVec 32 := 1#32
  let v552 : BitVec 32 := Scalar.muli v550 c1_i32_386
  let v553 : BitVec 32 := Scalar.addi c0_i32_387 v552
  v553.toNat
def k0_dev25 (d0 : Dev nD) : Nat :=
  let c0_i32_407 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_391 : BitVec 32 := 10#32
  let v562 : BitVec 32 := Scalar.addi v2 c10_i32_391
  let c16_i32_392 : BitVec 32 := 16#32
  let c0_i32_393 : BitVec 32 := 0#32
  let v563 : BitVec 1 := Scalar.cmpi .eq c16_i32_392 c0_i32_393
  let c1_i32_394 : BitVec 32 := 1#32
  let v564 : BitVec 32 := Scalar.select v563 c1_i32_394 c16_i32_392
  let v565 : BitVec 32 := Scalar.remsi v562 v564
  let c0_i32_396 : BitVec 32 := 0#32
  let v567 : BitVec 1 := Scalar.cmpi .slt v565 c0_i32_396
  let c0_i32_397 : BitVec 32 := 0#32
  let v568 : BitVec 1 := Scalar.cmpi .slt v564 c0_i32_397
  let v569 : BitVec 1 := Scalar.xori v567 v568
  let c0_i32_395 : BitVec 32 := 0#32
  let v566 : BitVec 1 := Scalar.cmpi .ne v565 c0_i32_395
  let v570 : BitVec 1 := Scalar.andi v569 v566
  let v571 : BitVec 32 := Scalar.addi v565 v564
  let v572 : BitVec 32 := Scalar.select v570 v571 v565
  let c1_i32_406 : BitVec 32 := 1#32
  let v574 : BitVec 32 := Scalar.muli v572 c1_i32_406
  let v575 : BitVec 32 := Scalar.addi c0_i32_407 v574
  v575.toNat
def k0_dev26 (d0 : Dev nD) : Nat :=
  let c0_i32_427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_411 : BitVec 32 := 11#32
  let v584 : BitVec 32 := Scalar.addi v2 c11_i32_411
  let c16_i32_412 : BitVec 32 := 16#32
  let c0_i32_413 : BitVec 32 := 0#32
  let v585 : BitVec 1 := Scalar.cmpi .eq c16_i32_412 c0_i32_413
  let c1_i32_414 : BitVec 32 := 1#32
  let v586 : BitVec 32 := Scalar.select v585 c1_i32_414 c16_i32_412
  let v587 : BitVec 32 := Scalar.remsi v584 v586
  let c0_i32_416 : BitVec 32 := 0#32
  let v589 : BitVec 1 := Scalar.cmpi .slt v587 c0_i32_416
  let c0_i32_417 : BitVec 32 := 0#32
  let v590 : BitVec 1 := Scalar.cmpi .slt v586 c0_i32_417
  let v591 : BitVec 1 := Scalar.xori v589 v590
  let c0_i32_415 : BitVec 32 := 0#32
  let v588 : BitVec 1 := Scalar.cmpi .ne v587 c0_i32_415
  let v592 : BitVec 1 := Scalar.andi v591 v588
  let v593 : BitVec 32 := Scalar.addi v587 v586
  let v594 : BitVec 32 := Scalar.select v592 v593 v587
  let c1_i32_426 : BitVec 32 := 1#32
  let v596 : BitVec 32 := Scalar.muli v594 c1_i32_426
  let v597 : BitVec 32 := Scalar.addi c0_i32_427 v596
  v597.toNat
def k0_dev27 (d0 : Dev nD) : Nat :=
  let c0_i32_447 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_431 : BitVec 32 := 12#32
  let v606 : BitVec 32 := Scalar.addi v2 c12_i32_431
  let c16_i32_432 : BitVec 32 := 16#32
  let c0_i32_433 : BitVec 32 := 0#32
  let v607 : BitVec 1 := Scalar.cmpi .eq c16_i32_432 c0_i32_433
  let c1_i32_434 : BitVec 32 := 1#32
  let v608 : BitVec 32 := Scalar.select v607 c1_i32_434 c16_i32_432
  let v609 : BitVec 32 := Scalar.remsi v606 v608
  let c0_i32_436 : BitVec 32 := 0#32
  let v611 : BitVec 1 := Scalar.cmpi .slt v609 c0_i32_436
  let c0_i32_437 : BitVec 32 := 0#32
  let v612 : BitVec 1 := Scalar.cmpi .slt v608 c0_i32_437
  let v613 : BitVec 1 := Scalar.xori v611 v612
  let c0_i32_435 : BitVec 32 := 0#32
  let v610 : BitVec 1 := Scalar.cmpi .ne v609 c0_i32_435
  let v614 : BitVec 1 := Scalar.andi v613 v610
  let v615 : BitVec 32 := Scalar.addi v609 v608
  let v616 : BitVec 32 := Scalar.select v614 v615 v609
  let c1_i32_446 : BitVec 32 := 1#32
  let v618 : BitVec 32 := Scalar.muli v616 c1_i32_446
  let v619 : BitVec 32 := Scalar.addi c0_i32_447 v618
  v619.toNat
def k0_dev28 (d0 : Dev nD) : Nat :=
  let c0_i32_467 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_451 : BitVec 32 := 13#32
  let v628 : BitVec 32 := Scalar.addi v2 c13_i32_451
  let c16_i32_452 : BitVec 32 := 16#32
  let c0_i32_453 : BitVec 32 := 0#32
  let v629 : BitVec 1 := Scalar.cmpi .eq c16_i32_452 c0_i32_453
  let c1_i32_454 : BitVec 32 := 1#32
  let v630 : BitVec 32 := Scalar.select v629 c1_i32_454 c16_i32_452
  let v631 : BitVec 32 := Scalar.remsi v628 v630
  let c0_i32_456 : BitVec 32 := 0#32
  let v633 : BitVec 1 := Scalar.cmpi .slt v631 c0_i32_456
  let c0_i32_457 : BitVec 32 := 0#32
  let v634 : BitVec 1 := Scalar.cmpi .slt v630 c0_i32_457
  let v635 : BitVec 1 := Scalar.xori v633 v634
  let c0_i32_455 : BitVec 32 := 0#32
  let v632 : BitVec 1 := Scalar.cmpi .ne v631 c0_i32_455
  let v636 : BitVec 1 := Scalar.andi v635 v632
  let v637 : BitVec 32 := Scalar.addi v631 v630
  let v638 : BitVec 32 := Scalar.select v636 v637 v631
  let c1_i32_466 : BitVec 32 := 1#32
  let v640 : BitVec 32 := Scalar.muli v638 c1_i32_466
  let v641 : BitVec 32 := Scalar.addi c0_i32_467 v640
  v641.toNat
def k0_dev29 (d0 : Dev nD) : Nat :=
  let c0_i32_487 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_471 : BitVec 32 := 14#32
  let v650 : BitVec 32 := Scalar.addi v2 c14_i32_471
  let c16_i32_472 : BitVec 32 := 16#32
  let c0_i32_473 : BitVec 32 := 0#32
  let v651 : BitVec 1 := Scalar.cmpi .eq c16_i32_472 c0_i32_473
  let c1_i32_474 : BitVec 32 := 1#32
  let v652 : BitVec 32 := Scalar.select v651 c1_i32_474 c16_i32_472
  let v653 : BitVec 32 := Scalar.remsi v650 v652
  let c0_i32_476 : BitVec 32 := 0#32
  let v655 : BitVec 1 := Scalar.cmpi .slt v653 c0_i32_476
  let c0_i32_477 : BitVec 32 := 0#32
  let v656 : BitVec 1 := Scalar.cmpi .slt v652 c0_i32_477
  let v657 : BitVec 1 := Scalar.xori v655 v656
  let c0_i32_475 : BitVec 32 := 0#32
  let v654 : BitVec 1 := Scalar.cmpi .ne v653 c0_i32_475
  let v658 : BitVec 1 := Scalar.andi v657 v654
  let v659 : BitVec 32 := Scalar.addi v653 v652
  let v660 : BitVec 32 := Scalar.select v658 v659 v653
  let c1_i32_486 : BitVec 32 := 1#32
  let v662 : BitVec 32 := Scalar.muli v660 c1_i32_486
  let v663 : BitVec 32 := Scalar.addi c0_i32_487 v662
  v663.toNat
def k0_dev30 (d0 : Dev nD) : Nat :=
  let c0_i32_507 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_491 : BitVec 32 := 15#32
  let v672 : BitVec 32 := Scalar.addi v2 c15_i32_491
  let c16_i32_492 : BitVec 32 := 16#32
  let c0_i32_493 : BitVec 32 := 0#32
  let v673 : BitVec 1 := Scalar.cmpi .eq c16_i32_492 c0_i32_493
  let c1_i32_494 : BitVec 32 := 1#32
  let v674 : BitVec 32 := Scalar.select v673 c1_i32_494 c16_i32_492
  let v675 : BitVec 32 := Scalar.remsi v672 v674
  let c0_i32_496 : BitVec 32 := 0#32
  let v677 : BitVec 1 := Scalar.cmpi .slt v675 c0_i32_496
  let c0_i32_497 : BitVec 32 := 0#32
  let v678 : BitVec 1 := Scalar.cmpi .slt v674 c0_i32_497
  let v679 : BitVec 1 := Scalar.xori v677 v678
  let c0_i32_495 : BitVec 32 := 0#32
  let v676 : BitVec 1 := Scalar.cmpi .ne v675 c0_i32_495
  let v680 : BitVec 1 := Scalar.andi v679 v676
  let v681 : BitVec 32 := Scalar.addi v675 v674
  let v682 : BitVec 32 := Scalar.select v680 v681 v675
  let c1_i32_506 : BitVec 32 := 1#32
  let v684 : BitVec 32 := Scalar.muli v682 c1_i32_506
  let v685 : BitVec 32 := Scalar.addi c0_i32_507 v684
  v685.toNat
def k0_off2 (d0 : Dev nD) (c1_i32_558 : BitVec 32) : Fin 3 → Nat :=
  let c1_i32_566 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v773 : BitVec 32 := Scalar.addi v2 c1_i32_558
  let c16_i32_559 : BitVec 32 := 16#32
  let c0_i32_560 : BitVec 32 := 0#32
  let v774 : BitVec 1 := Scalar.cmpi .eq c16_i32_559 c0_i32_560
  let c1_i32_561 : BitVec 32 := 1#32
  let v775 : BitVec 32 := Scalar.select v774 c1_i32_561 c16_i32_559
  let v776 : BitVec 32 := Scalar.remsi v773 v775
  let c0_i32_563 : BitVec 32 := 0#32
  let v778 : BitVec 1 := Scalar.cmpi .slt v776 c0_i32_563
  let c0_i32_564 : BitVec 32 := 0#32
  let v779 : BitVec 1 := Scalar.cmpi .slt v775 c0_i32_564
  let v780 : BitVec 1 := Scalar.xori v778 v779
  let c0_i32_562 : BitVec 32 := 0#32
  let v777 : BitVec 1 := Scalar.cmpi .ne v776 c0_i32_562
  let v781 : BitVec 1 := Scalar.andi v780 v777
  let v782 : BitVec 32 := Scalar.addi v776 v775
  let v783 : BitVec 32 := Scalar.select v781 v782 v776
  let c16_i32_565 : BitVec 32 := 16#32
  let v784 : BitVec 32 := Scalar.muli v783 c16_i32_565
  let c0_i32_577 : BitVec 32 := 0#32
  ![1, v784.toNat, 0]
def k0_dev31 (d0 : Dev nD) : Nat :=
  let c0_i32_574 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_558 : BitVec 32 := 1#32
  let v773 : BitVec 32 := Scalar.addi v2 c1_i32_558
  let c16_i32_559 : BitVec 32 := 16#32
  let c0_i32_560 : BitVec 32 := 0#32
  let v774 : BitVec 1 := Scalar.cmpi .eq c16_i32_559 c0_i32_560
  let c1_i32_561 : BitVec 32 := 1#32
  let v775 : BitVec 32 := Scalar.select v774 c1_i32_561 c16_i32_559
  let v776 : BitVec 32 := Scalar.remsi v773 v775
  let c0_i32_563 : BitVec 32 := 0#32
  let v778 : BitVec 1 := Scalar.cmpi .slt v776 c0_i32_563
  let c0_i32_564 : BitVec 32 := 0#32
  let v779 : BitVec 1 := Scalar.cmpi .slt v775 c0_i32_564
  let v780 : BitVec 1 := Scalar.xori v778 v779
  let c0_i32_562 : BitVec 32 := 0#32
  let v777 : BitVec 1 := Scalar.cmpi .ne v776 c0_i32_562
  let v781 : BitVec 1 := Scalar.andi v780 v777
  let v782 : BitVec 32 := Scalar.addi v776 v775
  let v783 : BitVec 32 := Scalar.select v781 v782 v776
  let c1_i32_573 : BitVec 32 := 1#32
  let v785 : BitVec 32 := Scalar.muli v783 c1_i32_573
  let v786 : BitVec 32 := Scalar.addi c0_i32_574 v785
  v786.toNat
def k0_dev32 (d0 : Dev nD) : Nat :=
  let c0_i32_594 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_578 : BitVec 32 := 2#32
  let v795 : BitVec 32 := Scalar.addi v2 c2_i32_578
  let c16_i32_579 : BitVec 32 := 16#32
  let c0_i32_580 : BitVec 32 := 0#32
  let v796 : BitVec 1 := Scalar.cmpi .eq c16_i32_579 c0_i32_580
  let c1_i32_581 : BitVec 32 := 1#32
  let v797 : BitVec 32 := Scalar.select v796 c1_i32_581 c16_i32_579
  let v798 : BitVec 32 := Scalar.remsi v795 v797
  let c0_i32_583 : BitVec 32 := 0#32
  let v800 : BitVec 1 := Scalar.cmpi .slt v798 c0_i32_583
  let c0_i32_584 : BitVec 32 := 0#32
  let v801 : BitVec 1 := Scalar.cmpi .slt v797 c0_i32_584
  let v802 : BitVec 1 := Scalar.xori v800 v801
  let c0_i32_582 : BitVec 32 := 0#32
  let v799 : BitVec 1 := Scalar.cmpi .ne v798 c0_i32_582
  let v803 : BitVec 1 := Scalar.andi v802 v799
  let v804 : BitVec 32 := Scalar.addi v798 v797
  let v805 : BitVec 32 := Scalar.select v803 v804 v798
  let c1_i32_593 : BitVec 32 := 1#32
  let v807 : BitVec 32 := Scalar.muli v805 c1_i32_593
  let v808 : BitVec 32 := Scalar.addi c0_i32_594 v807
  v808.toNat
def k0_dev33 (d0 : Dev nD) : Nat :=
  let c0_i32_614 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_598 : BitVec 32 := 3#32
  let v817 : BitVec 32 := Scalar.addi v2 c3_i32_598
  let c16_i32_599 : BitVec 32 := 16#32
  let c0_i32_600 : BitVec 32 := 0#32
  let v818 : BitVec 1 := Scalar.cmpi .eq c16_i32_599 c0_i32_600
  let c1_i32_601 : BitVec 32 := 1#32
  let v819 : BitVec 32 := Scalar.select v818 c1_i32_601 c16_i32_599
  let v820 : BitVec 32 := Scalar.remsi v817 v819
  let c0_i32_603 : BitVec 32 := 0#32
  let v822 : BitVec 1 := Scalar.cmpi .slt v820 c0_i32_603
  let c0_i32_604 : BitVec 32 := 0#32
  let v823 : BitVec 1 := Scalar.cmpi .slt v819 c0_i32_604
  let v824 : BitVec 1 := Scalar.xori v822 v823
  let c0_i32_602 : BitVec 32 := 0#32
  let v821 : BitVec 1 := Scalar.cmpi .ne v820 c0_i32_602
  let v825 : BitVec 1 := Scalar.andi v824 v821
  let v826 : BitVec 32 := Scalar.addi v820 v819
  let v827 : BitVec 32 := Scalar.select v825 v826 v820
  let c1_i32_613 : BitVec 32 := 1#32
  let v829 : BitVec 32 := Scalar.muli v827 c1_i32_613
  let v830 : BitVec 32 := Scalar.addi c0_i32_614 v829
  v830.toNat
def k0_dev34 (d0 : Dev nD) : Nat :=
  let c0_i32_634 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_618 : BitVec 32 := 4#32
  let v839 : BitVec 32 := Scalar.addi v2 c4_i32_618
  let c16_i32_619 : BitVec 32 := 16#32
  let c0_i32_620 : BitVec 32 := 0#32
  let v840 : BitVec 1 := Scalar.cmpi .eq c16_i32_619 c0_i32_620
  let c1_i32_621 : BitVec 32 := 1#32
  let v841 : BitVec 32 := Scalar.select v840 c1_i32_621 c16_i32_619
  let v842 : BitVec 32 := Scalar.remsi v839 v841
  let c0_i32_623 : BitVec 32 := 0#32
  let v844 : BitVec 1 := Scalar.cmpi .slt v842 c0_i32_623
  let c0_i32_624 : BitVec 32 := 0#32
  let v845 : BitVec 1 := Scalar.cmpi .slt v841 c0_i32_624
  let v846 : BitVec 1 := Scalar.xori v844 v845
  let c0_i32_622 : BitVec 32 := 0#32
  let v843 : BitVec 1 := Scalar.cmpi .ne v842 c0_i32_622
  let v847 : BitVec 1 := Scalar.andi v846 v843
  let v848 : BitVec 32 := Scalar.addi v842 v841
  let v849 : BitVec 32 := Scalar.select v847 v848 v842
  let c1_i32_633 : BitVec 32 := 1#32
  let v851 : BitVec 32 := Scalar.muli v849 c1_i32_633
  let v852 : BitVec 32 := Scalar.addi c0_i32_634 v851
  v852.toNat
def k0_dev35 (d0 : Dev nD) : Nat :=
  let c0_i32_654 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_638 : BitVec 32 := 5#32
  let v861 : BitVec 32 := Scalar.addi v2 c5_i32_638
  let c16_i32_639 : BitVec 32 := 16#32
  let c0_i32_640 : BitVec 32 := 0#32
  let v862 : BitVec 1 := Scalar.cmpi .eq c16_i32_639 c0_i32_640
  let c1_i32_641 : BitVec 32 := 1#32
  let v863 : BitVec 32 := Scalar.select v862 c1_i32_641 c16_i32_639
  let v864 : BitVec 32 := Scalar.remsi v861 v863
  let c0_i32_643 : BitVec 32 := 0#32
  let v866 : BitVec 1 := Scalar.cmpi .slt v864 c0_i32_643
  let c0_i32_644 : BitVec 32 := 0#32
  let v867 : BitVec 1 := Scalar.cmpi .slt v863 c0_i32_644
  let v868 : BitVec 1 := Scalar.xori v866 v867
  let c0_i32_642 : BitVec 32 := 0#32
  let v865 : BitVec 1 := Scalar.cmpi .ne v864 c0_i32_642
  let v869 : BitVec 1 := Scalar.andi v868 v865
  let v870 : BitVec 32 := Scalar.addi v864 v863
  let v871 : BitVec 32 := Scalar.select v869 v870 v864
  let c1_i32_653 : BitVec 32 := 1#32
  let v873 : BitVec 32 := Scalar.muli v871 c1_i32_653
  let v874 : BitVec 32 := Scalar.addi c0_i32_654 v873
  v874.toNat
def k0_dev36 (d0 : Dev nD) : Nat :=
  let c0_i32_674 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_658 : BitVec 32 := 6#32
  let v883 : BitVec 32 := Scalar.addi v2 c6_i32_658
  let c16_i32_659 : BitVec 32 := 16#32
  let c0_i32_660 : BitVec 32 := 0#32
  let v884 : BitVec 1 := Scalar.cmpi .eq c16_i32_659 c0_i32_660
  let c1_i32_661 : BitVec 32 := 1#32
  let v885 : BitVec 32 := Scalar.select v884 c1_i32_661 c16_i32_659
  let v886 : BitVec 32 := Scalar.remsi v883 v885
  let c0_i32_663 : BitVec 32 := 0#32
  let v888 : BitVec 1 := Scalar.cmpi .slt v886 c0_i32_663
  let c0_i32_664 : BitVec 32 := 0#32
  let v889 : BitVec 1 := Scalar.cmpi .slt v885 c0_i32_664
  let v890 : BitVec 1 := Scalar.xori v888 v889
  let c0_i32_662 : BitVec 32 := 0#32
  let v887 : BitVec 1 := Scalar.cmpi .ne v886 c0_i32_662
  let v891 : BitVec 1 := Scalar.andi v890 v887
  let v892 : BitVec 32 := Scalar.addi v886 v885
  let v893 : BitVec 32 := Scalar.select v891 v892 v886
  let c1_i32_673 : BitVec 32 := 1#32
  let v895 : BitVec 32 := Scalar.muli v893 c1_i32_673
  let v896 : BitVec 32 := Scalar.addi c0_i32_674 v895
  v896.toNat
def k0_dev37 (d0 : Dev nD) : Nat :=
  let c0_i32_694 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_678 : BitVec 32 := 7#32
  let v905 : BitVec 32 := Scalar.addi v2 c7_i32_678
  let c16_i32_679 : BitVec 32 := 16#32
  let c0_i32_680 : BitVec 32 := 0#32
  let v906 : BitVec 1 := Scalar.cmpi .eq c16_i32_679 c0_i32_680
  let c1_i32_681 : BitVec 32 := 1#32
  let v907 : BitVec 32 := Scalar.select v906 c1_i32_681 c16_i32_679
  let v908 : BitVec 32 := Scalar.remsi v905 v907
  let c0_i32_683 : BitVec 32 := 0#32
  let v910 : BitVec 1 := Scalar.cmpi .slt v908 c0_i32_683
  let c0_i32_684 : BitVec 32 := 0#32
  let v911 : BitVec 1 := Scalar.cmpi .slt v907 c0_i32_684
  let v912 : BitVec 1 := Scalar.xori v910 v911
  let c0_i32_682 : BitVec 32 := 0#32
  let v909 : BitVec 1 := Scalar.cmpi .ne v908 c0_i32_682
  let v913 : BitVec 1 := Scalar.andi v912 v909
  let v914 : BitVec 32 := Scalar.addi v908 v907
  let v915 : BitVec 32 := Scalar.select v913 v914 v908
  let c1_i32_693 : BitVec 32 := 1#32
  let v917 : BitVec 32 := Scalar.muli v915 c1_i32_693
  let v918 : BitVec 32 := Scalar.addi c0_i32_694 v917
  v918.toNat
def k0_dev38 (d0 : Dev nD) : Nat :=
  let c0_i32_714 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_698 : BitVec 32 := 8#32
  let v927 : BitVec 32 := Scalar.addi v2 c8_i32_698
  let c16_i32_699 : BitVec 32 := 16#32
  let c0_i32_700 : BitVec 32 := 0#32
  let v928 : BitVec 1 := Scalar.cmpi .eq c16_i32_699 c0_i32_700
  let c1_i32_701 : BitVec 32 := 1#32
  let v929 : BitVec 32 := Scalar.select v928 c1_i32_701 c16_i32_699
  let v930 : BitVec 32 := Scalar.remsi v927 v929
  let c0_i32_703 : BitVec 32 := 0#32
  let v932 : BitVec 1 := Scalar.cmpi .slt v930 c0_i32_703
  let c0_i32_704 : BitVec 32 := 0#32
  let v933 : BitVec 1 := Scalar.cmpi .slt v929 c0_i32_704
  let v934 : BitVec 1 := Scalar.xori v932 v933
  let c0_i32_702 : BitVec 32 := 0#32
  let v931 : BitVec 1 := Scalar.cmpi .ne v930 c0_i32_702
  let v935 : BitVec 1 := Scalar.andi v934 v931
  let v936 : BitVec 32 := Scalar.addi v930 v929
  let v937 : BitVec 32 := Scalar.select v935 v936 v930
  let c1_i32_713 : BitVec 32 := 1#32
  let v939 : BitVec 32 := Scalar.muli v937 c1_i32_713
  let v940 : BitVec 32 := Scalar.addi c0_i32_714 v939
  v940.toNat
def k0_dev39 (d0 : Dev nD) : Nat :=
  let c0_i32_734 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_718 : BitVec 32 := 9#32
  let v949 : BitVec 32 := Scalar.addi v2 c9_i32_718
  let c16_i32_719 : BitVec 32 := 16#32
  let c0_i32_720 : BitVec 32 := 0#32
  let v950 : BitVec 1 := Scalar.cmpi .eq c16_i32_719 c0_i32_720
  let c1_i32_721 : BitVec 32 := 1#32
  let v951 : BitVec 32 := Scalar.select v950 c1_i32_721 c16_i32_719
  let v952 : BitVec 32 := Scalar.remsi v949 v951
  let c0_i32_723 : BitVec 32 := 0#32
  let v954 : BitVec 1 := Scalar.cmpi .slt v952 c0_i32_723
  let c0_i32_724 : BitVec 32 := 0#32
  let v955 : BitVec 1 := Scalar.cmpi .slt v951 c0_i32_724
  let v956 : BitVec 1 := Scalar.xori v954 v955
  let c0_i32_722 : BitVec 32 := 0#32
  let v953 : BitVec 1 := Scalar.cmpi .ne v952 c0_i32_722
  let v957 : BitVec 1 := Scalar.andi v956 v953
  let v958 : BitVec 32 := Scalar.addi v952 v951
  let v959 : BitVec 32 := Scalar.select v957 v958 v952
  let c1_i32_733 : BitVec 32 := 1#32
  let v961 : BitVec 32 := Scalar.muli v959 c1_i32_733
  let v962 : BitVec 32 := Scalar.addi c0_i32_734 v961
  v962.toNat
def k0_dev40 (d0 : Dev nD) : Nat :=
  let c0_i32_754 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_738 : BitVec 32 := 10#32
  let v971 : BitVec 32 := Scalar.addi v2 c10_i32_738
  let c16_i32_739 : BitVec 32 := 16#32
  let c0_i32_740 : BitVec 32 := 0#32
  let v972 : BitVec 1 := Scalar.cmpi .eq c16_i32_739 c0_i32_740
  let c1_i32_741 : BitVec 32 := 1#32
  let v973 : BitVec 32 := Scalar.select v972 c1_i32_741 c16_i32_739
  let v974 : BitVec 32 := Scalar.remsi v971 v973
  let c0_i32_743 : BitVec 32 := 0#32
  let v976 : BitVec 1 := Scalar.cmpi .slt v974 c0_i32_743
  let c0_i32_744 : BitVec 32 := 0#32
  let v977 : BitVec 1 := Scalar.cmpi .slt v973 c0_i32_744
  let v978 : BitVec 1 := Scalar.xori v976 v977
  let c0_i32_742 : BitVec 32 := 0#32
  let v975 : BitVec 1 := Scalar.cmpi .ne v974 c0_i32_742
  let v979 : BitVec 1 := Scalar.andi v978 v975
  let v980 : BitVec 32 := Scalar.addi v974 v973
  let v981 : BitVec 32 := Scalar.select v979 v980 v974
  let c1_i32_753 : BitVec 32 := 1#32
  let v983 : BitVec 32 := Scalar.muli v981 c1_i32_753
  let v984 : BitVec 32 := Scalar.addi c0_i32_754 v983
  v984.toNat
def k0_dev41 (d0 : Dev nD) : Nat :=
  let c0_i32_774 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_758 : BitVec 32 := 11#32
  let v993 : BitVec 32 := Scalar.addi v2 c11_i32_758
  let c16_i32_759 : BitVec 32 := 16#32
  let c0_i32_760 : BitVec 32 := 0#32
  let v994 : BitVec 1 := Scalar.cmpi .eq c16_i32_759 c0_i32_760
  let c1_i32_761 : BitVec 32 := 1#32
  let v995 : BitVec 32 := Scalar.select v994 c1_i32_761 c16_i32_759
  let v996 : BitVec 32 := Scalar.remsi v993 v995
  let c0_i32_763 : BitVec 32 := 0#32
  let v998 : BitVec 1 := Scalar.cmpi .slt v996 c0_i32_763
  let c0_i32_764 : BitVec 32 := 0#32
  let v999 : BitVec 1 := Scalar.cmpi .slt v995 c0_i32_764
  let v1000 : BitVec 1 := Scalar.xori v998 v999
  let c0_i32_762 : BitVec 32 := 0#32
  let v997 : BitVec 1 := Scalar.cmpi .ne v996 c0_i32_762
  let v1001 : BitVec 1 := Scalar.andi v1000 v997
  let v1002 : BitVec 32 := Scalar.addi v996 v995
  let v1003 : BitVec 32 := Scalar.select v1001 v1002 v996
  let c1_i32_773 : BitVec 32 := 1#32
  let v1005 : BitVec 32 := Scalar.muli v1003 c1_i32_773
  let v1006 : BitVec 32 := Scalar.addi c0_i32_774 v1005
  v1006.toNat
def k0_dev42 (d0 : Dev nD) : Nat :=
  let c0_i32_794 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_778 : BitVec 32 := 12#32
  let v1015 : BitVec 32 := Scalar.addi v2 c12_i32_778
  let c16_i32_779 : BitVec 32 := 16#32
  let c0_i32_780 : BitVec 32 := 0#32
  let v1016 : BitVec 1 := Scalar.cmpi .eq c16_i32_779 c0_i32_780
  let c1_i32_781 : BitVec 32 := 1#32
  let v1017 : BitVec 32 := Scalar.select v1016 c1_i32_781 c16_i32_779
  let v1018 : BitVec 32 := Scalar.remsi v1015 v1017
  let c0_i32_783 : BitVec 32 := 0#32
  let v1020 : BitVec 1 := Scalar.cmpi .slt v1018 c0_i32_783
  let c0_i32_784 : BitVec 32 := 0#32
  let v1021 : BitVec 1 := Scalar.cmpi .slt v1017 c0_i32_784
  let v1022 : BitVec 1 := Scalar.xori v1020 v1021
  let c0_i32_782 : BitVec 32 := 0#32
  let v1019 : BitVec 1 := Scalar.cmpi .ne v1018 c0_i32_782
  let v1023 : BitVec 1 := Scalar.andi v1022 v1019
  let v1024 : BitVec 32 := Scalar.addi v1018 v1017
  let v1025 : BitVec 32 := Scalar.select v1023 v1024 v1018
  let c1_i32_793 : BitVec 32 := 1#32
  let v1027 : BitVec 32 := Scalar.muli v1025 c1_i32_793
  let v1028 : BitVec 32 := Scalar.addi c0_i32_794 v1027
  v1028.toNat
def k0_dev43 (d0 : Dev nD) : Nat :=
  let c0_i32_814 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_798 : BitVec 32 := 13#32
  let v1037 : BitVec 32 := Scalar.addi v2 c13_i32_798
  let c16_i32_799 : BitVec 32 := 16#32
  let c0_i32_800 : BitVec 32 := 0#32
  let v1038 : BitVec 1 := Scalar.cmpi .eq c16_i32_799 c0_i32_800
  let c1_i32_801 : BitVec 32 := 1#32
  let v1039 : BitVec 32 := Scalar.select v1038 c1_i32_801 c16_i32_799
  let v1040 : BitVec 32 := Scalar.remsi v1037 v1039
  let c0_i32_803 : BitVec 32 := 0#32
  let v1042 : BitVec 1 := Scalar.cmpi .slt v1040 c0_i32_803
  let c0_i32_804 : BitVec 32 := 0#32
  let v1043 : BitVec 1 := Scalar.cmpi .slt v1039 c0_i32_804
  let v1044 : BitVec 1 := Scalar.xori v1042 v1043
  let c0_i32_802 : BitVec 32 := 0#32
  let v1041 : BitVec 1 := Scalar.cmpi .ne v1040 c0_i32_802
  let v1045 : BitVec 1 := Scalar.andi v1044 v1041
  let v1046 : BitVec 32 := Scalar.addi v1040 v1039
  let v1047 : BitVec 32 := Scalar.select v1045 v1046 v1040
  let c1_i32_813 : BitVec 32 := 1#32
  let v1049 : BitVec 32 := Scalar.muli v1047 c1_i32_813
  let v1050 : BitVec 32 := Scalar.addi c0_i32_814 v1049
  v1050.toNat
def k0_dev44 (d0 : Dev nD) : Nat :=
  let c0_i32_834 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_818 : BitVec 32 := 14#32
  let v1059 : BitVec 32 := Scalar.addi v2 c14_i32_818
  let c16_i32_819 : BitVec 32 := 16#32
  let c0_i32_820 : BitVec 32 := 0#32
  let v1060 : BitVec 1 := Scalar.cmpi .eq c16_i32_819 c0_i32_820
  let c1_i32_821 : BitVec 32 := 1#32
  let v1061 : BitVec 32 := Scalar.select v1060 c1_i32_821 c16_i32_819
  let v1062 : BitVec 32 := Scalar.remsi v1059 v1061
  let c0_i32_823 : BitVec 32 := 0#32
  let v1064 : BitVec 1 := Scalar.cmpi .slt v1062 c0_i32_823
  let c0_i32_824 : BitVec 32 := 0#32
  let v1065 : BitVec 1 := Scalar.cmpi .slt v1061 c0_i32_824
  let v1066 : BitVec 1 := Scalar.xori v1064 v1065
  let c0_i32_822 : BitVec 32 := 0#32
  let v1063 : BitVec 1 := Scalar.cmpi .ne v1062 c0_i32_822
  let v1067 : BitVec 1 := Scalar.andi v1066 v1063
  let v1068 : BitVec 32 := Scalar.addi v1062 v1061
  let v1069 : BitVec 32 := Scalar.select v1067 v1068 v1062
  let c1_i32_833 : BitVec 32 := 1#32
  let v1071 : BitVec 32 := Scalar.muli v1069 c1_i32_833
  let v1072 : BitVec 32 := Scalar.addi c0_i32_834 v1071
  v1072.toNat
def k0_dev45 (d0 : Dev nD) : Nat :=
  let c0_i32_854 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_838 : BitVec 32 := 15#32
  let v1081 : BitVec 32 := Scalar.addi v2 c15_i32_838
  let c16_i32_839 : BitVec 32 := 16#32
  let c0_i32_840 : BitVec 32 := 0#32
  let v1082 : BitVec 1 := Scalar.cmpi .eq c16_i32_839 c0_i32_840
  let c1_i32_841 : BitVec 32 := 1#32
  let v1083 : BitVec 32 := Scalar.select v1082 c1_i32_841 c16_i32_839
  let v1084 : BitVec 32 := Scalar.remsi v1081 v1083
  let c0_i32_843 : BitVec 32 := 0#32
  let v1086 : BitVec 1 := Scalar.cmpi .slt v1084 c0_i32_843
  let c0_i32_844 : BitVec 32 := 0#32
  let v1087 : BitVec 1 := Scalar.cmpi .slt v1083 c0_i32_844
  let v1088 : BitVec 1 := Scalar.xori v1086 v1087
  let c0_i32_842 : BitVec 32 := 0#32
  let v1085 : BitVec 1 := Scalar.cmpi .ne v1084 c0_i32_842
  let v1089 : BitVec 1 := Scalar.andi v1088 v1085
  let v1090 : BitVec 32 := Scalar.addi v1084 v1083
  let v1091 : BitVec 32 := Scalar.select v1089 v1090 v1084
  let c1_i32_853 : BitVec 32 := 1#32
  let v1093 : BitVec 32 := Scalar.muli v1091 c1_i32_853
  let v1094 : BitVec 32 := Scalar.addi c0_i32_854 v1093
  v1094.toNat
def k0_off3 (d0 : Dev nD) : Fin 3 → Nat :=
  let c0_1174 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_1173 : BitVec 32 := 16#32
  let v1388 : BitVec 32 := Scalar.muli v2 c16_i32_1173
  let v1389 : Index := Scalar.indexCast v1388
  let c0_1175 : Index := 0#32
  ![0, v1389.toNat, 0]
def k0_off4 (d0 : Dev nD) : Fin 3 → Nat :=
  let c0_i32_1227 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_1225 : BitVec 32 := 16#32
  let v1457 : BitVec 32 := Scalar.muli v2 c16_i32_1225
  let c0_i32_1229 : BitVec 32 := 0#32
  ![0, v1457.toNat, 0]
def k0_dev46 (d0 : Dev nD) : Nat :=
  let c0_i32_1247 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1232 : BitVec 32 := 1#32
  let v1464 : BitVec 32 := Scalar.addi v2 c1_i32_1232
  let c16_i32_1233 : BitVec 32 := 16#32
  let c0_i32_1234 : BitVec 32 := 0#32
  let v1465 : BitVec 1 := Scalar.cmpi .eq c16_i32_1233 c0_i32_1234
  let c1_i32_1235 : BitVec 32 := 1#32
  let v1466 : BitVec 32 := Scalar.select v1465 c1_i32_1235 c16_i32_1233
  let v1467 : BitVec 32 := Scalar.remsi v1464 v1466
  let c0_i32_1237 : BitVec 32 := 0#32
  let v1469 : BitVec 1 := Scalar.cmpi .slt v1467 c0_i32_1237
  let c0_i32_1238 : BitVec 32 := 0#32
  let v1470 : BitVec 1 := Scalar.cmpi .slt v1466 c0_i32_1238
  let v1471 : BitVec 1 := Scalar.xori v1469 v1470
  let c0_i32_1236 : BitVec 32 := 0#32
  let v1468 : BitVec 1 := Scalar.cmpi .ne v1467 c0_i32_1236
  let v1472 : BitVec 1 := Scalar.andi v1471 v1468
  let v1473 : BitVec 32 := Scalar.addi v1467 v1466
  let v1474 : BitVec 32 := Scalar.select v1472 v1473 v1467
  let c1_i32_1246 : BitVec 32 := 1#32
  let v1476 : BitVec 32 := Scalar.muli v1474 c1_i32_1246
  let v1477 : BitVec 32 := Scalar.addi c0_i32_1247 v1476
  v1477.toNat
def k0_dev47 (d0 : Dev nD) : Nat :=
  let c0_i32_1266 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1251 : BitVec 32 := 2#32
  let v1486 : BitVec 32 := Scalar.addi v2 c2_i32_1251
  let c16_i32_1252 : BitVec 32 := 16#32
  let c0_i32_1253 : BitVec 32 := 0#32
  let v1487 : BitVec 1 := Scalar.cmpi .eq c16_i32_1252 c0_i32_1253
  let c1_i32_1254 : BitVec 32 := 1#32
  let v1488 : BitVec 32 := Scalar.select v1487 c1_i32_1254 c16_i32_1252
  let v1489 : BitVec 32 := Scalar.remsi v1486 v1488
  let c0_i32_1256 : BitVec 32 := 0#32
  let v1491 : BitVec 1 := Scalar.cmpi .slt v1489 c0_i32_1256
  let c0_i32_1257 : BitVec 32 := 0#32
  let v1492 : BitVec 1 := Scalar.cmpi .slt v1488 c0_i32_1257
  let v1493 : BitVec 1 := Scalar.xori v1491 v1492
  let c0_i32_1255 : BitVec 32 := 0#32
  let v1490 : BitVec 1 := Scalar.cmpi .ne v1489 c0_i32_1255
  let v1494 : BitVec 1 := Scalar.andi v1493 v1490
  let v1495 : BitVec 32 := Scalar.addi v1489 v1488
  let v1496 : BitVec 32 := Scalar.select v1494 v1495 v1489
  let c1_i32_1265 : BitVec 32 := 1#32
  let v1498 : BitVec 32 := Scalar.muli v1496 c1_i32_1265
  let v1499 : BitVec 32 := Scalar.addi c0_i32_1266 v1498
  v1499.toNat
def k0_dev48 (d0 : Dev nD) : Nat :=
  let c0_i32_1285 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1270 : BitVec 32 := 3#32
  let v1508 : BitVec 32 := Scalar.addi v2 c3_i32_1270
  let c16_i32_1271 : BitVec 32 := 16#32
  let c0_i32_1272 : BitVec 32 := 0#32
  let v1509 : BitVec 1 := Scalar.cmpi .eq c16_i32_1271 c0_i32_1272
  let c1_i32_1273 : BitVec 32 := 1#32
  let v1510 : BitVec 32 := Scalar.select v1509 c1_i32_1273 c16_i32_1271
  let v1511 : BitVec 32 := Scalar.remsi v1508 v1510
  let c0_i32_1275 : BitVec 32 := 0#32
  let v1513 : BitVec 1 := Scalar.cmpi .slt v1511 c0_i32_1275
  let c0_i32_1276 : BitVec 32 := 0#32
  let v1514 : BitVec 1 := Scalar.cmpi .slt v1510 c0_i32_1276
  let v1515 : BitVec 1 := Scalar.xori v1513 v1514
  let c0_i32_1274 : BitVec 32 := 0#32
  let v1512 : BitVec 1 := Scalar.cmpi .ne v1511 c0_i32_1274
  let v1516 : BitVec 1 := Scalar.andi v1515 v1512
  let v1517 : BitVec 32 := Scalar.addi v1511 v1510
  let v1518 : BitVec 32 := Scalar.select v1516 v1517 v1511
  let c1_i32_1284 : BitVec 32 := 1#32
  let v1520 : BitVec 32 := Scalar.muli v1518 c1_i32_1284
  let v1521 : BitVec 32 := Scalar.addi c0_i32_1285 v1520
  v1521.toNat
def k0_dev49 (d0 : Dev nD) : Nat :=
  let c0_i32_1304 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1289 : BitVec 32 := 4#32
  let v1530 : BitVec 32 := Scalar.addi v2 c4_i32_1289
  let c16_i32_1290 : BitVec 32 := 16#32
  let c0_i32_1291 : BitVec 32 := 0#32
  let v1531 : BitVec 1 := Scalar.cmpi .eq c16_i32_1290 c0_i32_1291
  let c1_i32_1292 : BitVec 32 := 1#32
  let v1532 : BitVec 32 := Scalar.select v1531 c1_i32_1292 c16_i32_1290
  let v1533 : BitVec 32 := Scalar.remsi v1530 v1532
  let c0_i32_1294 : BitVec 32 := 0#32
  let v1535 : BitVec 1 := Scalar.cmpi .slt v1533 c0_i32_1294
  let c0_i32_1295 : BitVec 32 := 0#32
  let v1536 : BitVec 1 := Scalar.cmpi .slt v1532 c0_i32_1295
  let v1537 : BitVec 1 := Scalar.xori v1535 v1536
  let c0_i32_1293 : BitVec 32 := 0#32
  let v1534 : BitVec 1 := Scalar.cmpi .ne v1533 c0_i32_1293
  let v1538 : BitVec 1 := Scalar.andi v1537 v1534
  let v1539 : BitVec 32 := Scalar.addi v1533 v1532
  let v1540 : BitVec 32 := Scalar.select v1538 v1539 v1533
  let c1_i32_1303 : BitVec 32 := 1#32
  let v1542 : BitVec 32 := Scalar.muli v1540 c1_i32_1303
  let v1543 : BitVec 32 := Scalar.addi c0_i32_1304 v1542
  v1543.toNat
def k0_dev50 (d0 : Dev nD) : Nat :=
  let c0_i32_1323 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1308 : BitVec 32 := 5#32
  let v1552 : BitVec 32 := Scalar.addi v2 c5_i32_1308
  let c16_i32_1309 : BitVec 32 := 16#32
  let c0_i32_1310 : BitVec 32 := 0#32
  let v1553 : BitVec 1 := Scalar.cmpi .eq c16_i32_1309 c0_i32_1310
  let c1_i32_1311 : BitVec 32 := 1#32
  let v1554 : BitVec 32 := Scalar.select v1553 c1_i32_1311 c16_i32_1309
  let v1555 : BitVec 32 := Scalar.remsi v1552 v1554
  let c0_i32_1313 : BitVec 32 := 0#32
  let v1557 : BitVec 1 := Scalar.cmpi .slt v1555 c0_i32_1313
  let c0_i32_1314 : BitVec 32 := 0#32
  let v1558 : BitVec 1 := Scalar.cmpi .slt v1554 c0_i32_1314
  let v1559 : BitVec 1 := Scalar.xori v1557 v1558
  let c0_i32_1312 : BitVec 32 := 0#32
  let v1556 : BitVec 1 := Scalar.cmpi .ne v1555 c0_i32_1312
  let v1560 : BitVec 1 := Scalar.andi v1559 v1556
  let v1561 : BitVec 32 := Scalar.addi v1555 v1554
  let v1562 : BitVec 32 := Scalar.select v1560 v1561 v1555
  let c1_i32_1322 : BitVec 32 := 1#32
  let v1564 : BitVec 32 := Scalar.muli v1562 c1_i32_1322
  let v1565 : BitVec 32 := Scalar.addi c0_i32_1323 v1564
  v1565.toNat
def k0_dev51 (d0 : Dev nD) : Nat :=
  let c0_i32_1342 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1327 : BitVec 32 := 6#32
  let v1574 : BitVec 32 := Scalar.addi v2 c6_i32_1327
  let c16_i32_1328 : BitVec 32 := 16#32
  let c0_i32_1329 : BitVec 32 := 0#32
  let v1575 : BitVec 1 := Scalar.cmpi .eq c16_i32_1328 c0_i32_1329
  let c1_i32_1330 : BitVec 32 := 1#32
  let v1576 : BitVec 32 := Scalar.select v1575 c1_i32_1330 c16_i32_1328
  let v1577 : BitVec 32 := Scalar.remsi v1574 v1576
  let c0_i32_1332 : BitVec 32 := 0#32
  let v1579 : BitVec 1 := Scalar.cmpi .slt v1577 c0_i32_1332
  let c0_i32_1333 : BitVec 32 := 0#32
  let v1580 : BitVec 1 := Scalar.cmpi .slt v1576 c0_i32_1333
  let v1581 : BitVec 1 := Scalar.xori v1579 v1580
  let c0_i32_1331 : BitVec 32 := 0#32
  let v1578 : BitVec 1 := Scalar.cmpi .ne v1577 c0_i32_1331
  let v1582 : BitVec 1 := Scalar.andi v1581 v1578
  let v1583 : BitVec 32 := Scalar.addi v1577 v1576
  let v1584 : BitVec 32 := Scalar.select v1582 v1583 v1577
  let c1_i32_1341 : BitVec 32 := 1#32
  let v1586 : BitVec 32 := Scalar.muli v1584 c1_i32_1341
  let v1587 : BitVec 32 := Scalar.addi c0_i32_1342 v1586
  v1587.toNat
def k0_dev52 (d0 : Dev nD) : Nat :=
  let c0_i32_1361 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1346 : BitVec 32 := 7#32
  let v1596 : BitVec 32 := Scalar.addi v2 c7_i32_1346
  let c16_i32_1347 : BitVec 32 := 16#32
  let c0_i32_1348 : BitVec 32 := 0#32
  let v1597 : BitVec 1 := Scalar.cmpi .eq c16_i32_1347 c0_i32_1348
  let c1_i32_1349 : BitVec 32 := 1#32
  let v1598 : BitVec 32 := Scalar.select v1597 c1_i32_1349 c16_i32_1347
  let v1599 : BitVec 32 := Scalar.remsi v1596 v1598
  let c0_i32_1351 : BitVec 32 := 0#32
  let v1601 : BitVec 1 := Scalar.cmpi .slt v1599 c0_i32_1351
  let c0_i32_1352 : BitVec 32 := 0#32
  let v1602 : BitVec 1 := Scalar.cmpi .slt v1598 c0_i32_1352
  let v1603 : BitVec 1 := Scalar.xori v1601 v1602
  let c0_i32_1350 : BitVec 32 := 0#32
  let v1600 : BitVec 1 := Scalar.cmpi .ne v1599 c0_i32_1350
  let v1604 : BitVec 1 := Scalar.andi v1603 v1600
  let v1605 : BitVec 32 := Scalar.addi v1599 v1598
  let v1606 : BitVec 32 := Scalar.select v1604 v1605 v1599
  let c1_i32_1360 : BitVec 32 := 1#32
  let v1608 : BitVec 32 := Scalar.muli v1606 c1_i32_1360
  let v1609 : BitVec 32 := Scalar.addi c0_i32_1361 v1608
  v1609.toNat
def k0_dev53 (d0 : Dev nD) : Nat :=
  let c0_i32_1380 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1365 : BitVec 32 := 8#32
  let v1618 : BitVec 32 := Scalar.addi v2 c8_i32_1365
  let c16_i32_1366 : BitVec 32 := 16#32
  let c0_i32_1367 : BitVec 32 := 0#32
  let v1619 : BitVec 1 := Scalar.cmpi .eq c16_i32_1366 c0_i32_1367
  let c1_i32_1368 : BitVec 32 := 1#32
  let v1620 : BitVec 32 := Scalar.select v1619 c1_i32_1368 c16_i32_1366
  let v1621 : BitVec 32 := Scalar.remsi v1618 v1620
  let c0_i32_1370 : BitVec 32 := 0#32
  let v1623 : BitVec 1 := Scalar.cmpi .slt v1621 c0_i32_1370
  let c0_i32_1371 : BitVec 32 := 0#32
  let v1624 : BitVec 1 := Scalar.cmpi .slt v1620 c0_i32_1371
  let v1625 : BitVec 1 := Scalar.xori v1623 v1624
  let c0_i32_1369 : BitVec 32 := 0#32
  let v1622 : BitVec 1 := Scalar.cmpi .ne v1621 c0_i32_1369
  let v1626 : BitVec 1 := Scalar.andi v1625 v1622
  let v1627 : BitVec 32 := Scalar.addi v1621 v1620
  let v1628 : BitVec 32 := Scalar.select v1626 v1627 v1621
  let c1_i32_1379 : BitVec 32 := 1#32
  let v1630 : BitVec 32 := Scalar.muli v1628 c1_i32_1379
  let v1631 : BitVec 32 := Scalar.addi c0_i32_1380 v1630
  v1631.toNat
def k0_dev54 (d0 : Dev nD) : Nat :=
  let c0_i32_1399 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1384 : BitVec 32 := 9#32
  let v1640 : BitVec 32 := Scalar.addi v2 c9_i32_1384
  let c16_i32_1385 : BitVec 32 := 16#32
  let c0_i32_1386 : BitVec 32 := 0#32
  let v1641 : BitVec 1 := Scalar.cmpi .eq c16_i32_1385 c0_i32_1386
  let c1_i32_1387 : BitVec 32 := 1#32
  let v1642 : BitVec 32 := Scalar.select v1641 c1_i32_1387 c16_i32_1385
  let v1643 : BitVec 32 := Scalar.remsi v1640 v1642
  let c0_i32_1389 : BitVec 32 := 0#32
  let v1645 : BitVec 1 := Scalar.cmpi .slt v1643 c0_i32_1389
  let c0_i32_1390 : BitVec 32 := 0#32
  let v1646 : BitVec 1 := Scalar.cmpi .slt v1642 c0_i32_1390
  let v1647 : BitVec 1 := Scalar.xori v1645 v1646
  let c0_i32_1388 : BitVec 32 := 0#32
  let v1644 : BitVec 1 := Scalar.cmpi .ne v1643 c0_i32_1388
  let v1648 : BitVec 1 := Scalar.andi v1647 v1644
  let v1649 : BitVec 32 := Scalar.addi v1643 v1642
  let v1650 : BitVec 32 := Scalar.select v1648 v1649 v1643
  let c1_i32_1398 : BitVec 32 := 1#32
  let v1652 : BitVec 32 := Scalar.muli v1650 c1_i32_1398
  let v1653 : BitVec 32 := Scalar.addi c0_i32_1399 v1652
  v1653.toNat
def k0_dev55 (d0 : Dev nD) : Nat :=
  let c0_i32_1418 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1403 : BitVec 32 := 10#32
  let v1662 : BitVec 32 := Scalar.addi v2 c10_i32_1403
  let c16_i32_1404 : BitVec 32 := 16#32
  let c0_i32_1405 : BitVec 32 := 0#32
  let v1663 : BitVec 1 := Scalar.cmpi .eq c16_i32_1404 c0_i32_1405
  let c1_i32_1406 : BitVec 32 := 1#32
  let v1664 : BitVec 32 := Scalar.select v1663 c1_i32_1406 c16_i32_1404
  let v1665 : BitVec 32 := Scalar.remsi v1662 v1664
  let c0_i32_1408 : BitVec 32 := 0#32
  let v1667 : BitVec 1 := Scalar.cmpi .slt v1665 c0_i32_1408
  let c0_i32_1409 : BitVec 32 := 0#32
  let v1668 : BitVec 1 := Scalar.cmpi .slt v1664 c0_i32_1409
  let v1669 : BitVec 1 := Scalar.xori v1667 v1668
  let c0_i32_1407 : BitVec 32 := 0#32
  let v1666 : BitVec 1 := Scalar.cmpi .ne v1665 c0_i32_1407
  let v1670 : BitVec 1 := Scalar.andi v1669 v1666
  let v1671 : BitVec 32 := Scalar.addi v1665 v1664
  let v1672 : BitVec 32 := Scalar.select v1670 v1671 v1665
  let c1_i32_1417 : BitVec 32 := 1#32
  let v1674 : BitVec 32 := Scalar.muli v1672 c1_i32_1417
  let v1675 : BitVec 32 := Scalar.addi c0_i32_1418 v1674
  v1675.toNat
def k0_dev56 (d0 : Dev nD) : Nat :=
  let c0_i32_1437 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1422 : BitVec 32 := 11#32
  let v1684 : BitVec 32 := Scalar.addi v2 c11_i32_1422
  let c16_i32_1423 : BitVec 32 := 16#32
  let c0_i32_1424 : BitVec 32 := 0#32
  let v1685 : BitVec 1 := Scalar.cmpi .eq c16_i32_1423 c0_i32_1424
  let c1_i32_1425 : BitVec 32 := 1#32
  let v1686 : BitVec 32 := Scalar.select v1685 c1_i32_1425 c16_i32_1423
  let v1687 : BitVec 32 := Scalar.remsi v1684 v1686
  let c0_i32_1427 : BitVec 32 := 0#32
  let v1689 : BitVec 1 := Scalar.cmpi .slt v1687 c0_i32_1427
  let c0_i32_1428 : BitVec 32 := 0#32
  let v1690 : BitVec 1 := Scalar.cmpi .slt v1686 c0_i32_1428
  let v1691 : BitVec 1 := Scalar.xori v1689 v1690
  let c0_i32_1426 : BitVec 32 := 0#32
  let v1688 : BitVec 1 := Scalar.cmpi .ne v1687 c0_i32_1426
  let v1692 : BitVec 1 := Scalar.andi v1691 v1688
  let v1693 : BitVec 32 := Scalar.addi v1687 v1686
  let v1694 : BitVec 32 := Scalar.select v1692 v1693 v1687
  let c1_i32_1436 : BitVec 32 := 1#32
  let v1696 : BitVec 32 := Scalar.muli v1694 c1_i32_1436
  let v1697 : BitVec 32 := Scalar.addi c0_i32_1437 v1696
  v1697.toNat
def k0_dev57 (d0 : Dev nD) : Nat :=
  let c0_i32_1456 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1441 : BitVec 32 := 12#32
  let v1706 : BitVec 32 := Scalar.addi v2 c12_i32_1441
  let c16_i32_1442 : BitVec 32 := 16#32
  let c0_i32_1443 : BitVec 32 := 0#32
  let v1707 : BitVec 1 := Scalar.cmpi .eq c16_i32_1442 c0_i32_1443
  let c1_i32_1444 : BitVec 32 := 1#32
  let v1708 : BitVec 32 := Scalar.select v1707 c1_i32_1444 c16_i32_1442
  let v1709 : BitVec 32 := Scalar.remsi v1706 v1708
  let c0_i32_1446 : BitVec 32 := 0#32
  let v1711 : BitVec 1 := Scalar.cmpi .slt v1709 c0_i32_1446
  let c0_i32_1447 : BitVec 32 := 0#32
  let v1712 : BitVec 1 := Scalar.cmpi .slt v1708 c0_i32_1447
  let v1713 : BitVec 1 := Scalar.xori v1711 v1712
  let c0_i32_1445 : BitVec 32 := 0#32
  let v1710 : BitVec 1 := Scalar.cmpi .ne v1709 c0_i32_1445
  let v1714 : BitVec 1 := Scalar.andi v1713 v1710
  let v1715 : BitVec 32 := Scalar.addi v1709 v1708
  let v1716 : BitVec 32 := Scalar.select v1714 v1715 v1709
  let c1_i32_1455 : BitVec 32 := 1#32
  let v1718 : BitVec 32 := Scalar.muli v1716 c1_i32_1455
  let v1719 : BitVec 32 := Scalar.addi c0_i32_1456 v1718
  v1719.toNat
def k0_dev58 (d0 : Dev nD) : Nat :=
  let c0_i32_1475 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1460 : BitVec 32 := 13#32
  let v1728 : BitVec 32 := Scalar.addi v2 c13_i32_1460
  let c16_i32_1461 : BitVec 32 := 16#32
  let c0_i32_1462 : BitVec 32 := 0#32
  let v1729 : BitVec 1 := Scalar.cmpi .eq c16_i32_1461 c0_i32_1462
  let c1_i32_1463 : BitVec 32 := 1#32
  let v1730 : BitVec 32 := Scalar.select v1729 c1_i32_1463 c16_i32_1461
  let v1731 : BitVec 32 := Scalar.remsi v1728 v1730
  let c0_i32_1465 : BitVec 32 := 0#32
  let v1733 : BitVec 1 := Scalar.cmpi .slt v1731 c0_i32_1465
  let c0_i32_1466 : BitVec 32 := 0#32
  let v1734 : BitVec 1 := Scalar.cmpi .slt v1730 c0_i32_1466
  let v1735 : BitVec 1 := Scalar.xori v1733 v1734
  let c0_i32_1464 : BitVec 32 := 0#32
  let v1732 : BitVec 1 := Scalar.cmpi .ne v1731 c0_i32_1464
  let v1736 : BitVec 1 := Scalar.andi v1735 v1732
  let v1737 : BitVec 32 := Scalar.addi v1731 v1730
  let v1738 : BitVec 32 := Scalar.select v1736 v1737 v1731
  let c1_i32_1474 : BitVec 32 := 1#32
  let v1740 : BitVec 32 := Scalar.muli v1738 c1_i32_1474
  let v1741 : BitVec 32 := Scalar.addi c0_i32_1475 v1740
  v1741.toNat
def k0_dev59 (d0 : Dev nD) : Nat :=
  let c0_i32_1494 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1479 : BitVec 32 := 14#32
  let v1750 : BitVec 32 := Scalar.addi v2 c14_i32_1479
  let c16_i32_1480 : BitVec 32 := 16#32
  let c0_i32_1481 : BitVec 32 := 0#32
  let v1751 : BitVec 1 := Scalar.cmpi .eq c16_i32_1480 c0_i32_1481
  let c1_i32_1482 : BitVec 32 := 1#32
  let v1752 : BitVec 32 := Scalar.select v1751 c1_i32_1482 c16_i32_1480
  let v1753 : BitVec 32 := Scalar.remsi v1750 v1752
  let c0_i32_1484 : BitVec 32 := 0#32
  let v1755 : BitVec 1 := Scalar.cmpi .slt v1753 c0_i32_1484
  let c0_i32_1485 : BitVec 32 := 0#32
  let v1756 : BitVec 1 := Scalar.cmpi .slt v1752 c0_i32_1485
  let v1757 : BitVec 1 := Scalar.xori v1755 v1756
  let c0_i32_1483 : BitVec 32 := 0#32
  let v1754 : BitVec 1 := Scalar.cmpi .ne v1753 c0_i32_1483
  let v1758 : BitVec 1 := Scalar.andi v1757 v1754
  let v1759 : BitVec 32 := Scalar.addi v1753 v1752
  let v1760 : BitVec 32 := Scalar.select v1758 v1759 v1753
  let c1_i32_1493 : BitVec 32 := 1#32
  let v1762 : BitVec 32 := Scalar.muli v1760 c1_i32_1493
  let v1763 : BitVec 32 := Scalar.addi c0_i32_1494 v1762
  v1763.toNat
def k0_dev60 (d0 : Dev nD) : Nat :=
  let c0_i32_1513 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1498 : BitVec 32 := 15#32
  let v1772 : BitVec 32 := Scalar.addi v2 c15_i32_1498
  let c16_i32_1499 : BitVec 32 := 16#32
  let c0_i32_1500 : BitVec 32 := 0#32
  let v1773 : BitVec 1 := Scalar.cmpi .eq c16_i32_1499 c0_i32_1500
  let c1_i32_1501 : BitVec 32 := 1#32
  let v1774 : BitVec 32 := Scalar.select v1773 c1_i32_1501 c16_i32_1499
  let v1775 : BitVec 32 := Scalar.remsi v1772 v1774
  let c0_i32_1503 : BitVec 32 := 0#32
  let v1777 : BitVec 1 := Scalar.cmpi .slt v1775 c0_i32_1503
  let c0_i32_1504 : BitVec 32 := 0#32
  let v1778 : BitVec 1 := Scalar.cmpi .slt v1774 c0_i32_1504
  let v1779 : BitVec 1 := Scalar.xori v1777 v1778
  let c0_i32_1502 : BitVec 32 := 0#32
  let v1776 : BitVec 1 := Scalar.cmpi .ne v1775 c0_i32_1502
  let v1780 : BitVec 1 := Scalar.andi v1779 v1776
  let v1781 : BitVec 32 := Scalar.addi v1775 v1774
  let v1782 : BitVec 32 := Scalar.select v1780 v1781 v1775
  let c1_i32_1512 : BitVec 32 := 1#32
  let v1784 : BitVec 32 := Scalar.muli v1782 c1_i32_1512
  let v1785 : BitVec 32 := Scalar.addi c0_i32_1513 v1784
  v1785.toNat
def k0_off5 (d0 : Dev nD) : Fin 3 → Nat :=
  let c1_1833 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_1832 : BitVec 32 := 16#32
  let v2079 : BitVec 32 := Scalar.muli v2 c16_i32_1832
  let v2080 : Index := Scalar.indexCast v2079
  let c0_1834 : Index := 0#32
  ![1, v2080.toNat, 0]
def k0_off6 (d0 : Dev nD) : Fin 3 → Nat :=
  let c1_i32_1900 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_1898 : BitVec 32 := 16#32
  let v2148 : BitVec 32 := Scalar.muli v2 c16_i32_1898
  let c0_i32_1902 : BitVec 32 := 0#32
  ![1, v2148.toNat, 0]
def k0_dev61 (d0 : Dev nD) : Nat :=
  let c0_i32_1920 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1905 : BitVec 32 := 1#32
  let v2155 : BitVec 32 := Scalar.addi v2 c1_i32_1905
  let c16_i32_1906 : BitVec 32 := 16#32
  let c0_i32_1907 : BitVec 32 := 0#32
  let v2156 : BitVec 1 := Scalar.cmpi .eq c16_i32_1906 c0_i32_1907
  let c1_i32_1908 : BitVec 32 := 1#32
  let v2157 : BitVec 32 := Scalar.select v2156 c1_i32_1908 c16_i32_1906
  let v2158 : BitVec 32 := Scalar.remsi v2155 v2157
  let c0_i32_1910 : BitVec 32 := 0#32
  let v2160 : BitVec 1 := Scalar.cmpi .slt v2158 c0_i32_1910
  let c0_i32_1911 : BitVec 32 := 0#32
  let v2161 : BitVec 1 := Scalar.cmpi .slt v2157 c0_i32_1911
  let v2162 : BitVec 1 := Scalar.xori v2160 v2161
  let c0_i32_1909 : BitVec 32 := 0#32
  let v2159 : BitVec 1 := Scalar.cmpi .ne v2158 c0_i32_1909
  let v2163 : BitVec 1 := Scalar.andi v2162 v2159
  let v2164 : BitVec 32 := Scalar.addi v2158 v2157
  let v2165 : BitVec 32 := Scalar.select v2163 v2164 v2158
  let c1_i32_1919 : BitVec 32 := 1#32
  let v2167 : BitVec 32 := Scalar.muli v2165 c1_i32_1919
  let v2168 : BitVec 32 := Scalar.addi c0_i32_1920 v2167
  v2168.toNat
def k0_dev62 (d0 : Dev nD) : Nat :=
  let c0_i32_1939 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1924 : BitVec 32 := 2#32
  let v2177 : BitVec 32 := Scalar.addi v2 c2_i32_1924
  let c16_i32_1925 : BitVec 32 := 16#32
  let c0_i32_1926 : BitVec 32 := 0#32
  let v2178 : BitVec 1 := Scalar.cmpi .eq c16_i32_1925 c0_i32_1926
  let c1_i32_1927 : BitVec 32 := 1#32
  let v2179 : BitVec 32 := Scalar.select v2178 c1_i32_1927 c16_i32_1925
  let v2180 : BitVec 32 := Scalar.remsi v2177 v2179
  let c0_i32_1929 : BitVec 32 := 0#32
  let v2182 : BitVec 1 := Scalar.cmpi .slt v2180 c0_i32_1929
  let c0_i32_1930 : BitVec 32 := 0#32
  let v2183 : BitVec 1 := Scalar.cmpi .slt v2179 c0_i32_1930
  let v2184 : BitVec 1 := Scalar.xori v2182 v2183
  let c0_i32_1928 : BitVec 32 := 0#32
  let v2181 : BitVec 1 := Scalar.cmpi .ne v2180 c0_i32_1928
  let v2185 : BitVec 1 := Scalar.andi v2184 v2181
  let v2186 : BitVec 32 := Scalar.addi v2180 v2179
  let v2187 : BitVec 32 := Scalar.select v2185 v2186 v2180
  let c1_i32_1938 : BitVec 32 := 1#32
  let v2189 : BitVec 32 := Scalar.muli v2187 c1_i32_1938
  let v2190 : BitVec 32 := Scalar.addi c0_i32_1939 v2189
  v2190.toNat
def k0_dev63 (d0 : Dev nD) : Nat :=
  let c0_i32_1958 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1943 : BitVec 32 := 3#32
  let v2199 : BitVec 32 := Scalar.addi v2 c3_i32_1943
  let c16_i32_1944 : BitVec 32 := 16#32
  let c0_i32_1945 : BitVec 32 := 0#32
  let v2200 : BitVec 1 := Scalar.cmpi .eq c16_i32_1944 c0_i32_1945
  let c1_i32_1946 : BitVec 32 := 1#32
  let v2201 : BitVec 32 := Scalar.select v2200 c1_i32_1946 c16_i32_1944
  let v2202 : BitVec 32 := Scalar.remsi v2199 v2201
  let c0_i32_1948 : BitVec 32 := 0#32
  let v2204 : BitVec 1 := Scalar.cmpi .slt v2202 c0_i32_1948
  let c0_i32_1949 : BitVec 32 := 0#32
  let v2205 : BitVec 1 := Scalar.cmpi .slt v2201 c0_i32_1949
  let v2206 : BitVec 1 := Scalar.xori v2204 v2205
  let c0_i32_1947 : BitVec 32 := 0#32
  let v2203 : BitVec 1 := Scalar.cmpi .ne v2202 c0_i32_1947
  let v2207 : BitVec 1 := Scalar.andi v2206 v2203
  let v2208 : BitVec 32 := Scalar.addi v2202 v2201
  let v2209 : BitVec 32 := Scalar.select v2207 v2208 v2202
  let c1_i32_1957 : BitVec 32 := 1#32
  let v2211 : BitVec 32 := Scalar.muli v2209 c1_i32_1957
  let v2212 : BitVec 32 := Scalar.addi c0_i32_1958 v2211
  v2212.toNat
def k0_dev64 (d0 : Dev nD) : Nat :=
  let c0_i32_1977 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1962 : BitVec 32 := 4#32
  let v2221 : BitVec 32 := Scalar.addi v2 c4_i32_1962
  let c16_i32_1963 : BitVec 32 := 16#32
  let c0_i32_1964 : BitVec 32 := 0#32
  let v2222 : BitVec 1 := Scalar.cmpi .eq c16_i32_1963 c0_i32_1964
  let c1_i32_1965 : BitVec 32 := 1#32
  let v2223 : BitVec 32 := Scalar.select v2222 c1_i32_1965 c16_i32_1963
  let v2224 : BitVec 32 := Scalar.remsi v2221 v2223
  let c0_i32_1967 : BitVec 32 := 0#32
  let v2226 : BitVec 1 := Scalar.cmpi .slt v2224 c0_i32_1967
  let c0_i32_1968 : BitVec 32 := 0#32
  let v2227 : BitVec 1 := Scalar.cmpi .slt v2223 c0_i32_1968
  let v2228 : BitVec 1 := Scalar.xori v2226 v2227
  let c0_i32_1966 : BitVec 32 := 0#32
  let v2225 : BitVec 1 := Scalar.cmpi .ne v2224 c0_i32_1966
  let v2229 : BitVec 1 := Scalar.andi v2228 v2225
  let v2230 : BitVec 32 := Scalar.addi v2224 v2223
  let v2231 : BitVec 32 := Scalar.select v2229 v2230 v2224
  let c1_i32_1976 : BitVec 32 := 1#32
  let v2233 : BitVec 32 := Scalar.muli v2231 c1_i32_1976
  let v2234 : BitVec 32 := Scalar.addi c0_i32_1977 v2233
  v2234.toNat
def k0_dev65 (d0 : Dev nD) : Nat :=
  let c0_i32_1996 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1981 : BitVec 32 := 5#32
  let v2243 : BitVec 32 := Scalar.addi v2 c5_i32_1981
  let c16_i32_1982 : BitVec 32 := 16#32
  let c0_i32_1983 : BitVec 32 := 0#32
  let v2244 : BitVec 1 := Scalar.cmpi .eq c16_i32_1982 c0_i32_1983
  let c1_i32_1984 : BitVec 32 := 1#32
  let v2245 : BitVec 32 := Scalar.select v2244 c1_i32_1984 c16_i32_1982
  let v2246 : BitVec 32 := Scalar.remsi v2243 v2245
  let c0_i32_1986 : BitVec 32 := 0#32
  let v2248 : BitVec 1 := Scalar.cmpi .slt v2246 c0_i32_1986
  let c0_i32_1987 : BitVec 32 := 0#32
  let v2249 : BitVec 1 := Scalar.cmpi .slt v2245 c0_i32_1987
  let v2250 : BitVec 1 := Scalar.xori v2248 v2249
  let c0_i32_1985 : BitVec 32 := 0#32
  let v2247 : BitVec 1 := Scalar.cmpi .ne v2246 c0_i32_1985
  let v2251 : BitVec 1 := Scalar.andi v2250 v2247
  let v2252 : BitVec 32 := Scalar.addi v2246 v2245
  let v2253 : BitVec 32 := Scalar.select v2251 v2252 v2246
  let c1_i32_1995 : BitVec 32 := 1#32
  let v2255 : BitVec 32 := Scalar.muli v2253 c1_i32_1995
  let v2256 : BitVec 32 := Scalar.addi c0_i32_1996 v2255
  v2256.toNat
def k0_dev66 (d0 : Dev nD) : Nat :=
  let c0_i32_2015 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_2000 : BitVec 32 := 6#32
  let v2265 : BitVec 32 := Scalar.addi v2 c6_i32_2000
  let c16_i32_2001 : BitVec 32 := 16#32
  let c0_i32_2002 : BitVec 32 := 0#32
  let v2266 : BitVec 1 := Scalar.cmpi .eq c16_i32_2001 c0_i32_2002
  let c1_i32_2003 : BitVec 32 := 1#32
  let v2267 : BitVec 32 := Scalar.select v2266 c1_i32_2003 c16_i32_2001
  let v2268 : BitVec 32 := Scalar.remsi v2265 v2267
  let c0_i32_2005 : BitVec 32 := 0#32
  let v2270 : BitVec 1 := Scalar.cmpi .slt v2268 c0_i32_2005
  let c0_i32_2006 : BitVec 32 := 0#32
  let v2271 : BitVec 1 := Scalar.cmpi .slt v2267 c0_i32_2006
  let v2272 : BitVec 1 := Scalar.xori v2270 v2271
  let c0_i32_2004 : BitVec 32 := 0#32
  let v2269 : BitVec 1 := Scalar.cmpi .ne v2268 c0_i32_2004
  let v2273 : BitVec 1 := Scalar.andi v2272 v2269
  let v2274 : BitVec 32 := Scalar.addi v2268 v2267
  let v2275 : BitVec 32 := Scalar.select v2273 v2274 v2268
  let c1_i32_2014 : BitVec 32 := 1#32
  let v2277 : BitVec 32 := Scalar.muli v2275 c1_i32_2014
  let v2278 : BitVec 32 := Scalar.addi c0_i32_2015 v2277
  v2278.toNat
def k0_dev67 (d0 : Dev nD) : Nat :=
  let c0_i32_2034 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_2019 : BitVec 32 := 7#32
  let v2287 : BitVec 32 := Scalar.addi v2 c7_i32_2019
  let c16_i32_2020 : BitVec 32 := 16#32
  let c0_i32_2021 : BitVec 32 := 0#32
  let v2288 : BitVec 1 := Scalar.cmpi .eq c16_i32_2020 c0_i32_2021
  let c1_i32_2022 : BitVec 32 := 1#32
  let v2289 : BitVec 32 := Scalar.select v2288 c1_i32_2022 c16_i32_2020
  let v2290 : BitVec 32 := Scalar.remsi v2287 v2289
  let c0_i32_2024 : BitVec 32 := 0#32
  let v2292 : BitVec 1 := Scalar.cmpi .slt v2290 c0_i32_2024
  let c0_i32_2025 : BitVec 32 := 0#32
  let v2293 : BitVec 1 := Scalar.cmpi .slt v2289 c0_i32_2025
  let v2294 : BitVec 1 := Scalar.xori v2292 v2293
  let c0_i32_2023 : BitVec 32 := 0#32
  let v2291 : BitVec 1 := Scalar.cmpi .ne v2290 c0_i32_2023
  let v2295 : BitVec 1 := Scalar.andi v2294 v2291
  let v2296 : BitVec 32 := Scalar.addi v2290 v2289
  let v2297 : BitVec 32 := Scalar.select v2295 v2296 v2290
  let c1_i32_2033 : BitVec 32 := 1#32
  let v2299 : BitVec 32 := Scalar.muli v2297 c1_i32_2033
  let v2300 : BitVec 32 := Scalar.addi c0_i32_2034 v2299
  v2300.toNat
def k0_dev68 (d0 : Dev nD) : Nat :=
  let c0_i32_2053 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_2038 : BitVec 32 := 8#32
  let v2309 : BitVec 32 := Scalar.addi v2 c8_i32_2038
  let c16_i32_2039 : BitVec 32 := 16#32
  let c0_i32_2040 : BitVec 32 := 0#32
  let v2310 : BitVec 1 := Scalar.cmpi .eq c16_i32_2039 c0_i32_2040
  let c1_i32_2041 : BitVec 32 := 1#32
  let v2311 : BitVec 32 := Scalar.select v2310 c1_i32_2041 c16_i32_2039
  let v2312 : BitVec 32 := Scalar.remsi v2309 v2311
  let c0_i32_2043 : BitVec 32 := 0#32
  let v2314 : BitVec 1 := Scalar.cmpi .slt v2312 c0_i32_2043
  let c0_i32_2044 : BitVec 32 := 0#32
  let v2315 : BitVec 1 := Scalar.cmpi .slt v2311 c0_i32_2044
  let v2316 : BitVec 1 := Scalar.xori v2314 v2315
  let c0_i32_2042 : BitVec 32 := 0#32
  let v2313 : BitVec 1 := Scalar.cmpi .ne v2312 c0_i32_2042
  let v2317 : BitVec 1 := Scalar.andi v2316 v2313
  let v2318 : BitVec 32 := Scalar.addi v2312 v2311
  let v2319 : BitVec 32 := Scalar.select v2317 v2318 v2312
  let c1_i32_2052 : BitVec 32 := 1#32
  let v2321 : BitVec 32 := Scalar.muli v2319 c1_i32_2052
  let v2322 : BitVec 32 := Scalar.addi c0_i32_2053 v2321
  v2322.toNat
def k0_dev69 (d0 : Dev nD) : Nat :=
  let c0_i32_2072 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_2057 : BitVec 32 := 9#32
  let v2331 : BitVec 32 := Scalar.addi v2 c9_i32_2057
  let c16_i32_2058 : BitVec 32 := 16#32
  let c0_i32_2059 : BitVec 32 := 0#32
  let v2332 : BitVec 1 := Scalar.cmpi .eq c16_i32_2058 c0_i32_2059
  let c1_i32_2060 : BitVec 32 := 1#32
  let v2333 : BitVec 32 := Scalar.select v2332 c1_i32_2060 c16_i32_2058
  let v2334 : BitVec 32 := Scalar.remsi v2331 v2333
  let c0_i32_2062 : BitVec 32 := 0#32
  let v2336 : BitVec 1 := Scalar.cmpi .slt v2334 c0_i32_2062
  let c0_i32_2063 : BitVec 32 := 0#32
  let v2337 : BitVec 1 := Scalar.cmpi .slt v2333 c0_i32_2063
  let v2338 : BitVec 1 := Scalar.xori v2336 v2337
  let c0_i32_2061 : BitVec 32 := 0#32
  let v2335 : BitVec 1 := Scalar.cmpi .ne v2334 c0_i32_2061
  let v2339 : BitVec 1 := Scalar.andi v2338 v2335
  let v2340 : BitVec 32 := Scalar.addi v2334 v2333
  let v2341 : BitVec 32 := Scalar.select v2339 v2340 v2334
  let c1_i32_2071 : BitVec 32 := 1#32
  let v2343 : BitVec 32 := Scalar.muli v2341 c1_i32_2071
  let v2344 : BitVec 32 := Scalar.addi c0_i32_2072 v2343
  v2344.toNat
def k0_dev70 (d0 : Dev nD) : Nat :=
  let c0_i32_2091 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_2076 : BitVec 32 := 10#32
  let v2353 : BitVec 32 := Scalar.addi v2 c10_i32_2076
  let c16_i32_2077 : BitVec 32 := 16#32
  let c0_i32_2078 : BitVec 32 := 0#32
  let v2354 : BitVec 1 := Scalar.cmpi .eq c16_i32_2077 c0_i32_2078
  let c1_i32_2079 : BitVec 32 := 1#32
  let v2355 : BitVec 32 := Scalar.select v2354 c1_i32_2079 c16_i32_2077
  let v2356 : BitVec 32 := Scalar.remsi v2353 v2355
  let c0_i32_2081 : BitVec 32 := 0#32
  let v2358 : BitVec 1 := Scalar.cmpi .slt v2356 c0_i32_2081
  let c0_i32_2082 : BitVec 32 := 0#32
  let v2359 : BitVec 1 := Scalar.cmpi .slt v2355 c0_i32_2082
  let v2360 : BitVec 1 := Scalar.xori v2358 v2359
  let c0_i32_2080 : BitVec 32 := 0#32
  let v2357 : BitVec 1 := Scalar.cmpi .ne v2356 c0_i32_2080
  let v2361 : BitVec 1 := Scalar.andi v2360 v2357
  let v2362 : BitVec 32 := Scalar.addi v2356 v2355
  let v2363 : BitVec 32 := Scalar.select v2361 v2362 v2356
  let c1_i32_2090 : BitVec 32 := 1#32
  let v2365 : BitVec 32 := Scalar.muli v2363 c1_i32_2090
  let v2366 : BitVec 32 := Scalar.addi c0_i32_2091 v2365
  v2366.toNat
def k0_dev71 (d0 : Dev nD) : Nat :=
  let c0_i32_2110 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_2095 : BitVec 32 := 11#32
  let v2375 : BitVec 32 := Scalar.addi v2 c11_i32_2095
  let c16_i32_2096 : BitVec 32 := 16#32
  let c0_i32_2097 : BitVec 32 := 0#32
  let v2376 : BitVec 1 := Scalar.cmpi .eq c16_i32_2096 c0_i32_2097
  let c1_i32_2098 : BitVec 32 := 1#32
  let v2377 : BitVec 32 := Scalar.select v2376 c1_i32_2098 c16_i32_2096
  let v2378 : BitVec 32 := Scalar.remsi v2375 v2377
  let c0_i32_2100 : BitVec 32 := 0#32
  let v2380 : BitVec 1 := Scalar.cmpi .slt v2378 c0_i32_2100
  let c0_i32_2101 : BitVec 32 := 0#32
  let v2381 : BitVec 1 := Scalar.cmpi .slt v2377 c0_i32_2101
  let v2382 : BitVec 1 := Scalar.xori v2380 v2381
  let c0_i32_2099 : BitVec 32 := 0#32
  let v2379 : BitVec 1 := Scalar.cmpi .ne v2378 c0_i32_2099
  let v2383 : BitVec 1 := Scalar.andi v2382 v2379
  let v2384 : BitVec 32 := Scalar.addi v2378 v2377
  let v2385 : BitVec 32 := Scalar.select v2383 v2384 v2378
  let c1_i32_2109 : BitVec 32 := 1#32
  let v2387 : BitVec 32 := Scalar.muli v2385 c1_i32_2109
  let v2388 : BitVec 32 := Scalar.addi c0_i32_2110 v2387
  v2388.toNat
def k0_dev72 (d0 : Dev nD) : Nat :=
  let c0_i32_2129 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_2114 : BitVec 32 := 12#32
  let v2397 : BitVec 32 := Scalar.addi v2 c12_i32_2114
  let c16_i32_2115 : BitVec 32 := 16#32
  let c0_i32_2116 : BitVec 32 := 0#32
  let v2398 : BitVec 1 := Scalar.cmpi .eq c16_i32_2115 c0_i32_2116
  let c1_i32_2117 : BitVec 32 := 1#32
  let v2399 : BitVec 32 := Scalar.select v2398 c1_i32_2117 c16_i32_2115
  let v2400 : BitVec 32 := Scalar.remsi v2397 v2399
  let c0_i32_2119 : BitVec 32 := 0#32
  let v2402 : BitVec 1 := Scalar.cmpi .slt v2400 c0_i32_2119
  let c0_i32_2120 : BitVec 32 := 0#32
  let v2403 : BitVec 1 := Scalar.cmpi .slt v2399 c0_i32_2120
  let v2404 : BitVec 1 := Scalar.xori v2402 v2403
  let c0_i32_2118 : BitVec 32 := 0#32
  let v2401 : BitVec 1 := Scalar.cmpi .ne v2400 c0_i32_2118
  let v2405 : BitVec 1 := Scalar.andi v2404 v2401
  let v2406 : BitVec 32 := Scalar.addi v2400 v2399
  let v2407 : BitVec 32 := Scalar.select v2405 v2406 v2400
  let c1_i32_2128 : BitVec 32 := 1#32
  let v2409 : BitVec 32 := Scalar.muli v2407 c1_i32_2128
  let v2410 : BitVec 32 := Scalar.addi c0_i32_2129 v2409
  v2410.toNat
def k0_dev73 (d0 : Dev nD) : Nat :=
  let c0_i32_2148 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_2133 : BitVec 32 := 13#32
  let v2419 : BitVec 32 := Scalar.addi v2 c13_i32_2133
  let c16_i32_2134 : BitVec 32 := 16#32
  let c0_i32_2135 : BitVec 32 := 0#32
  let v2420 : BitVec 1 := Scalar.cmpi .eq c16_i32_2134 c0_i32_2135
  let c1_i32_2136 : BitVec 32 := 1#32
  let v2421 : BitVec 32 := Scalar.select v2420 c1_i32_2136 c16_i32_2134
  let v2422 : BitVec 32 := Scalar.remsi v2419 v2421
  let c0_i32_2138 : BitVec 32 := 0#32
  let v2424 : BitVec 1 := Scalar.cmpi .slt v2422 c0_i32_2138
  let c0_i32_2139 : BitVec 32 := 0#32
  let v2425 : BitVec 1 := Scalar.cmpi .slt v2421 c0_i32_2139
  let v2426 : BitVec 1 := Scalar.xori v2424 v2425
  let c0_i32_2137 : BitVec 32 := 0#32
  let v2423 : BitVec 1 := Scalar.cmpi .ne v2422 c0_i32_2137
  let v2427 : BitVec 1 := Scalar.andi v2426 v2423
  let v2428 : BitVec 32 := Scalar.addi v2422 v2421
  let v2429 : BitVec 32 := Scalar.select v2427 v2428 v2422
  let c1_i32_2147 : BitVec 32 := 1#32
  let v2431 : BitVec 32 := Scalar.muli v2429 c1_i32_2147
  let v2432 : BitVec 32 := Scalar.addi c0_i32_2148 v2431
  v2432.toNat
def k0_dev74 (d0 : Dev nD) : Nat :=
  let c0_i32_2167 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_2152 : BitVec 32 := 14#32
  let v2441 : BitVec 32 := Scalar.addi v2 c14_i32_2152
  let c16_i32_2153 : BitVec 32 := 16#32
  let c0_i32_2154 : BitVec 32 := 0#32
  let v2442 : BitVec 1 := Scalar.cmpi .eq c16_i32_2153 c0_i32_2154
  let c1_i32_2155 : BitVec 32 := 1#32
  let v2443 : BitVec 32 := Scalar.select v2442 c1_i32_2155 c16_i32_2153
  let v2444 : BitVec 32 := Scalar.remsi v2441 v2443
  let c0_i32_2157 : BitVec 32 := 0#32
  let v2446 : BitVec 1 := Scalar.cmpi .slt v2444 c0_i32_2157
  let c0_i32_2158 : BitVec 32 := 0#32
  let v2447 : BitVec 1 := Scalar.cmpi .slt v2443 c0_i32_2158
  let v2448 : BitVec 1 := Scalar.xori v2446 v2447
  let c0_i32_2156 : BitVec 32 := 0#32
  let v2445 : BitVec 1 := Scalar.cmpi .ne v2444 c0_i32_2156
  let v2449 : BitVec 1 := Scalar.andi v2448 v2445
  let v2450 : BitVec 32 := Scalar.addi v2444 v2443
  let v2451 : BitVec 32 := Scalar.select v2449 v2450 v2444
  let c1_i32_2166 : BitVec 32 := 1#32
  let v2453 : BitVec 32 := Scalar.muli v2451 c1_i32_2166
  let v2454 : BitVec 32 := Scalar.addi c0_i32_2167 v2453
  v2454.toNat
def k0_dev75 (d0 : Dev nD) : Nat :=
  let c0_i32_2186 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_2171 : BitVec 32 := 15#32
  let v2463 : BitVec 32 := Scalar.addi v2 c15_i32_2171
  let c16_i32_2172 : BitVec 32 := 16#32
  let c0_i32_2173 : BitVec 32 := 0#32
  let v2464 : BitVec 1 := Scalar.cmpi .eq c16_i32_2172 c0_i32_2173
  let c1_i32_2174 : BitVec 32 := 1#32
  let v2465 : BitVec 32 := Scalar.select v2464 c1_i32_2174 c16_i32_2172
  let v2466 : BitVec 32 := Scalar.remsi v2463 v2465
  let c0_i32_2176 : BitVec 32 := 0#32
  let v2468 : BitVec 1 := Scalar.cmpi .slt v2466 c0_i32_2176
  let c0_i32_2177 : BitVec 32 := 0#32
  let v2469 : BitVec 1 := Scalar.cmpi .slt v2465 c0_i32_2177
  let v2470 : BitVec 1 := Scalar.xori v2468 v2469
  let c0_i32_2175 : BitVec 32 := 0#32
  let v2467 : BitVec 1 := Scalar.cmpi .ne v2466 c0_i32_2175
  let v2471 : BitVec 1 := Scalar.andi v2470 v2467
  let v2472 : BitVec 32 := Scalar.addi v2466 v2465
  let v2473 : BitVec 32 := Scalar.select v2471 v2472 v2466
  let c1_i32_2185 : BitVec 32 := 1#32
  let v2475 : BitVec 32 := Scalar.muli v2473 c1_i32_2185
  let v2476 : BitVec 32 := Scalar.addi c0_i32_2186 v2475
  v2476.toNat
abbrev stage0_0 : Fin 1 → Memref sig .tc .vmem S2x256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2x256x512 : Shape := ⟨3, ![2, 256, 512]⟩
abbrev S512x4096 : Shape := ⟨2, ![512, 4096]⟩
abbrev S2x256x64x64 : Shape := ⟨4, ![2, 256, 64, 64]⟩
abbrev S4096x512 : Shape := ⟨2, ![4096, 512]⟩
abbrev S2x256x4096 : Shape := ⟨3, ![2, 256, 4096]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S2x64x256x256 : Shape := ⟨4, ![2, 64, 256, 256]⟩
abbrev S1x1x256x256 : Shape := ⟨4, ![1, 1, 256, 256]⟩
abbrev S2x64x256 : Shape := ⟨3, ![2, 64, 256]⟩
abbrev S2x64x256x1 : Shape := ⟨4, ![2, 64, 256, 1]⟩
abbrev S1x1x256x1 : Shape := ⟨4, ![1, 1, 256, 1]⟩
abbrev S2x64x64x256 : Shape := ⟨4, ![2, 64, 64, 256]⟩

abbrev nBuf : Space → Nat
  | .hbm => 129
  | .vmem => 0
  | .smem => 0
  | _ => 0

abbrev hbmTy0_0 (i : Nat) : BufTy := match i % 128 with
  | 0 => ⟨S2x256x512, .bf16⟩
  | 1 => ⟨S512x4096, .bf16⟩
  | 2 => ⟨S2x256x64x64, .bf16⟩
  | 3 => ⟨S2x256x64x64, .bf16⟩
  | 4 => ⟨S4096x512, .bf16⟩
  | 5 => ⟨S2x256x512, .f32⟩
  | 6 => ⟨S512x4096, .f32⟩
  | 7 => ⟨S2x256x64x64, .f32⟩
  | 8 => ⟨S2x256x64x64, .f32⟩
  | 9 => ⟨S4096x512, .f32⟩
  | 10 => ⟨S2x256x4096, .f32⟩
  | 11 => ⟨S2x256x64x64, .f32⟩
  | 12 => ⟨S256, .i32⟩
  | 13 => ⟨S_, .i32⟩
  | 14 => ⟨S_, .i32⟩
  | 15 => ⟨S256, .i32⟩
  | 16 => ⟨S256, .i32⟩
  | 17 => ⟨S256, .i32⟩
  | 18 => ⟨S_, .i32⟩
  | 19 => ⟨S256, .i32⟩
  | 20 => ⟨S256, .i1⟩
  | 21 => ⟨S256, .i32⟩
  | 22 => ⟨S256, .i32⟩
  | 23 => ⟨S_, .i32⟩
  | 24 => ⟨S256, .i32⟩
  | 25 => ⟨S256, .i1⟩
  | 26 => ⟨S256, .i1⟩
  | 27 => ⟨S_, .i32⟩
  | 28 => ⟨S256, .i32⟩
  | 29 => ⟨S256, .i32⟩
  | 30 => ⟨S256, .i32⟩
  | 31 => ⟨S256x1, .i32⟩
  | 32 => ⟨S256, .i32⟩
  | 33 => ⟨S_, .i32⟩
  | 34 => ⟨S_, .i32⟩
  | 35 => ⟨S256, .i32⟩
  | 36 => ⟨S256, .i32⟩
  | 37 => ⟨S256, .i32⟩
  | 38 => ⟨S_, .i32⟩
  | 39 => ⟨S256, .i32⟩
  | 40 => ⟨S256, .i1⟩
  | 41 => ⟨S256, .i32⟩
  | 42 => ⟨S256, .i32⟩
  | 43 => ⟨S_, .i32⟩
  | 44 => ⟨S256, .i32⟩
  | 45 => ⟨S256, .i1⟩
  | 46 => ⟨S256, .i1⟩
  | 47 => ⟨S_, .i32⟩
  | 48 => ⟨S256, .i32⟩
  | 49 => ⟨S256, .i32⟩
  | 50 => ⟨S256, .i32⟩
  | 51 => ⟨S1x256, .i32⟩
  | 52 => ⟨S256x256, .i32⟩
  | 53 => ⟨S256x256, .i32⟩
  | 54 => ⟨S256x256, .i1⟩
  | 55 => ⟨S_, .i32⟩
  | 56 => ⟨S1x256, .i32⟩
  | 57 => ⟨S1x256, .i1⟩
  | 58 => ⟨S256x256, .i1⟩
  | 59 => ⟨S256x256, .i1⟩
  | 60 => ⟨S256x256, .i32⟩
  | 61 => ⟨S256x256, .i32⟩
  | 62 => ⟨S256x256, .i32⟩
  | 63 => ⟨S_, .i32⟩
  | 64 => ⟨S_, .i32⟩
  | 65 => ⟨S_, .i32⟩
  | 66 => ⟨S_, .i1⟩
  | 67 => ⟨S_, .i32⟩
  | 68 => ⟨S_, .i32⟩
  | 69 => ⟨S256x256, .i32⟩
  | 70 => ⟨S256x256, .i32⟩
  | 71 => ⟨S_, .i32⟩
  | 72 => ⟨S256x256, .i32⟩
  | 73 => ⟨S256x256, .i1⟩
  | 74 => ⟨S_, .i32⟩
  | 75 => ⟨S256x256, .i32⟩
  | 76 => ⟨S256x256, .i1⟩
  | 77 => ⟨S_, .i32⟩
  | 78 => ⟨S_, .i1⟩
  | 79 => ⟨S256x256, .i1⟩
  | 80 => ⟨S256x256, .i1⟩
  | 81 => ⟨S256x256, .i1⟩
  | 82 => ⟨S256x256, .i32⟩
  | 83 => ⟨S256x256, .i32⟩
  | 84 => ⟨S256x256, .i32⟩
  | 85 => ⟨S_, .i32⟩
  | 86 => ⟨S256x256, .i32⟩
  | 87 => ⟨S256x256, .i1⟩
  | 88 => ⟨S256x256, .i1⟩
  | 89 => ⟨S2x64x256x256, .f32⟩
  | 90 => ⟨S_, .f32⟩
  | 91 => ⟨S2x64x256x256, .f32⟩
  | 92 => ⟨S2x64x256x256, .f32⟩
  | 93 => ⟨S1x1x256x256, .i1⟩
  | 94 => ⟨S_, .f32⟩
  | 95 => ⟨S_, .f32⟩
  | 96 => ⟨S2x64x256x256, .i1⟩
  | 97 => ⟨S2x64x256x256, .f32⟩
  | 98 => ⟨S2x64x256x256, .f32⟩
  | 99 => ⟨S_, .f32⟩
  | 100 => ⟨S2x64x256, .f32⟩
  | 101 => ⟨S2x64x256x1, .f32⟩
  | 102 => ⟨S2x64x256x256, .f32⟩
  | 103 => ⟨S2x64x256x256, .f32⟩
  | 104 => ⟨S2x64x256x256, .f32⟩
  | 105 => ⟨S_, .i1⟩
  | 106 => ⟨S256, .i1⟩
  | 107 => ⟨S1x1x256x1, .i1⟩
  | 108 => ⟨S_, .f32⟩
  | 109 => ⟨S2x64x256, .f32⟩
  | 110 => ⟨S2x64x256x1, .f32⟩
  | 111 => ⟨S_, .f32⟩
  | 112 => ⟨S_, .f32⟩
  | 113 => ⟨S2x64x256x1, .i1⟩
  | 114 => ⟨S2x64x256x1, .f32⟩
  | 115 => ⟨S2x64x256x1, .f32⟩
  | 116 => ⟨S2x64x256x256, .f32⟩
  | 117 => ⟨S2x64x256x256, .f32⟩
  | 118 => ⟨S1x1x256x1, .i1⟩
  | 119 => ⟨S_, .f32⟩
  | 120 => ⟨S_, .f32⟩
  | 121 => ⟨S2x64x256x256, .i1⟩
  | 122 => ⟨S2x64x256x256, .f32⟩
  | 123 => ⟨S2x64x256x256, .f32⟩
  | 124 => ⟨S2x64x64x256, .f32⟩
  | 125 => ⟨S2x256x64x64, .f32⟩
  | 126 => ⟨S2x256x4096, .f32⟩
  | 127 => ⟨S2x256x512, .f32⟩
  | _ => ⟨S2x256x512, .bf16⟩

abbrev hbmTy0_1 (i : Nat) : BufTy := match i % 128 with
  | 0 => ⟨S2x256x512, .bf16⟩
  | _ => ⟨S2x256x512, .bf16⟩

abbrev hbmTy (i : Nat) : BufTy := match i / 128 with
  | 0 => hbmTy0_0 i
  | 1 => hbmTy0_1 i
  | _ => ⟨S2x256x512, .bf16⟩

abbrev bufTy : (tb : Table) → Fin (tcTables nBuf tb) → BufTy
  | .hbm, ⟨i, _⟩ => hbmTy i
  | _, _ => ⟨S2x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_c_1 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_c_2 : Ref sig .tc := ⟨.hbm, 63, rfl⟩
abbrev main_call2_v0 : Ref sig .tc := ⟨.hbm, 64, rfl⟩
abbrev main_call2_c : Ref sig .tc := ⟨.hbm, 65, rfl⟩
abbrev main_call2_v1 : Ref sig .tc := ⟨.hbm, 66, rfl⟩
abbrev main_call2_c_0 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_c_1 : Ref sig .tc := ⟨.hbm, 71, rfl⟩
abbrev main_call2_v5 : Ref sig .tc := ⟨.hbm, 72, rfl⟩
abbrev main_call2_v6 : Ref sig .tc := ⟨.hbm, 73, rfl⟩
abbrev main_call2_c_2 : Ref sig .tc := ⟨.hbm, 74, rfl⟩
abbrev main_call2_v7 : Ref sig .tc := ⟨.hbm, 75, rfl⟩
abbrev main_call2_v8 : Ref sig .tc := ⟨.hbm, 76, rfl⟩
abbrev main_call2_c_3 : Ref sig .tc := ⟨.hbm, 77, rfl⟩
abbrev main_call2_v9 : Ref sig .tc := ⟨.hbm, 78, rfl⟩
abbrev main_call2_v10 : Ref sig .tc := ⟨.hbm, 79, rfl⟩
abbrev main_call2_v11 : Ref sig .tc := ⟨.hbm, 80, rfl⟩
abbrev main_call2_v12 : Ref sig .tc := ⟨.hbm, 81, rfl⟩
abbrev main_call2_v13 : Ref sig .tc := ⟨.hbm, 82, rfl⟩
abbrev main_call2_v14 : Ref sig .tc := ⟨.hbm, 83, rfl⟩
abbrev main_v23 : Ref sig .tc := ⟨.hbm, 84, rfl⟩
abbrev main_c_3 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_cst : Ref sig .tc := ⟨.hbm, 90, rfl⟩
abbrev main_v28 : Ref sig .tc := ⟨.hbm, 91, rfl⟩
abbrev main_v29 : Ref sig .tc := ⟨.hbm, 92, rfl⟩
abbrev main_v30 : Ref sig .tc := ⟨.hbm, 93, rfl⟩
abbrev main_cst_4 : Ref sig .tc := ⟨.hbm, 94, rfl⟩
abbrev main_call3_v0 : Ref sig .tc := ⟨.hbm, 95, rfl⟩
abbrev main_call3_v1 : Ref sig .tc := ⟨.hbm, 96, rfl⟩
abbrev main_call3_v2 : Ref sig .tc := ⟨.hbm, 97, rfl⟩
abbrev main_v31 : Ref sig .tc := ⟨.hbm, 98, rfl⟩
abbrev main_cst_5 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_v35 : Ref sig .tc := ⟨.hbm, 103, rfl⟩
abbrev main_v36 : Ref sig .tc := ⟨.hbm, 104, rfl⟩
abbrev main_c_6 : Ref sig .tc := ⟨.hbm, 105, rfl⟩
abbrev main_v37 : Ref sig .tc := ⟨.hbm, 106, rfl⟩
abbrev main_v38 : Ref sig .tc := ⟨.hbm, 107, rfl⟩
abbrev main_cst_7 : Ref sig .tc := ⟨.hbm, 108, rfl⟩
abbrev main_v39 : Ref sig .tc := ⟨.hbm, 109, rfl⟩
abbrev main_v40 : Ref sig .tc := ⟨.hbm, 110, rfl⟩
abbrev main_cst_8 : Ref sig .tc := ⟨.hbm, 111, rfl⟩
abbrev main_call4_v0 : Ref sig .tc := ⟨.hbm, 112, rfl⟩
abbrev main_call4_v1 : Ref sig .tc := ⟨.hbm, 113, rfl⟩
abbrev main_call4_v2 : Ref sig .tc := ⟨.hbm, 114, rfl⟩
abbrev main_v41 : Ref sig .tc := ⟨.hbm, 115, rfl⟩
abbrev main_v42 : Ref sig .tc := ⟨.hbm, 116, rfl⟩
abbrev main_v43 : Ref sig .tc := ⟨.hbm, 117, rfl⟩
abbrev main_v44 : Ref sig .tc := ⟨.hbm, 118, rfl⟩
abbrev main_cst_9 : Ref sig .tc := ⟨.hbm, 119, rfl⟩
abbrev main_call5_v0 : Ref sig .tc := ⟨.hbm, 120, rfl⟩
abbrev main_call5_v1 : Ref sig .tc := ⟨.hbm, 121, rfl⟩
abbrev main_call5_v2 : Ref sig .tc := ⟨.hbm, 122, rfl⟩
abbrev main_v45 : Ref sig .tc := ⟨.hbm, 123, rfl⟩
abbrev main_v46 : Ref sig .tc := ⟨.hbm, 124, rfl⟩
abbrev main_v47 : Ref sig .tc := ⟨.hbm, 125, rfl⟩
abbrev main_v48 : Ref sig .tc := ⟨.hbm, 126, rfl⟩
abbrev main_v49 : Ref sig .tc := ⟨.hbm, 127, rfl⟩
abbrev main_v50 : Ref sig .tc := ⟨.hbm, 128, rfl⟩

abbrev nD : Nat := 1
abbrev τ : Topo := Topo.v7x

variable {F : FTy → Type} [FloatOps F]
-- ==== Proof.Prog.lean ====
module

public import proofs.«01_k».proof.Proof.Gen.KernelIdeal.Skeleton

/-! # The kernel's body as a short program

The body makes some two hundred and fifty steps, nearly all of them in loops the kernel unrolls over the
fifteen other devices. Here it is written with those loops as folds over the list of the fifteen numbers,
in the style where each step names its continuation, and the two are equal by unfolding. -/

@[expose] public section

noncomputable section

namespace Cert.KernelIdeal.Att

open Idealize.ShloMosaic Idealize.ShloMosaic.TcCoe Idealize.SL.Sem
open Cert.KernelIdeal Cert.KernelIdeal.Gen

variable {F : FTy → Type} [FloatOps F]

/-- The body's programs. -/
abbrev PR (F : FTy → Type) [FloatOps F] : Type 1 := Prog (TpuEff nD τ sig (Elt F) Λ₀ .tc) PUnit

/-- The fifteen numbers the loops run over. -/
abbrev I15 : List (Fin 15) := [0, 1, 2, 3, 4, 5, 6, 7, 8, 9, 10, 11, 12, 13, 14]

/-! ## Where a slot, a chunk and a row lie, as evidence -/

theorem slot_inb (i : Fin 15) (b : Fin 2) : ∀ a, (![i.val + 1, b.val, 0, 0] : Fin 4 → Nat) a + S1x1x16x512.size a ≤ S16x2x16x512.size a := by
  revert i b; decide +kernel
theorem slot_words (i : Fin 15) (b : Fin 2) :
    (Rect.unit (s := S16x2x16x512) ![i.val + 1, b.val, 0, 0] S1x1x16x512.size (slot_inb i b)).WholeWords (EltTy.packing .bf16) := by
  revert i b; decide +kernel
theorem red_inb (b : Fin 2) : ∀ a, (![b.val, 0, 0] : Fin 3 → Nat) a + S1x16x512.size a ≤ S2x16x512.size a := by
  revert b; decide +kernel
theorem red_words (b : Fin 2) :
    (Rect.unit (s := S2x16x512) ![b.val, 0, 0] S1x16x512.size (red_inb b)).WholeWords (EltTy.packing .bf16) := by
  revert b; decide +kernel
theorem red_packed (b : Fin 2) :
    (Rect.unit (s := S2x16x512) ![b.val, 0, 0] S1x16x512.size (red_inb b)).PackedRows (EltTy.packing .bf16) := by
  revert b; decide +kernel
theorem row_inb (b : Fin 2) : ∀ a, (![b.val, 0, 0] : Fin 3 → Nat) a + S1x256x512.size a ≤ S2x256x512.size a := by
  revert b; decide +kernel
theorem row_packed (b : Fin 2) :
    (Rect.unit (s := S2x256x512) ![b.val, 0, 0] S1x256x512.size (row_inb b)).PackedRows (EltTy.packing .bf16) := by
  revert b; decide +kernel
theorem head_inb (b : Fin 2) : ∀ a, (![b.val, 0, 0] : Fin 3 → Nat) a + S1x16x512.size a ≤ S2x256x512.size a := by
  revert b; decide +kernel
theorem head_words (b : Fin 2) :
    (Rect.unit (s := S2x256x512) ![b.val, 0, 0] S1x16x512.size (head_inb b)).WholeWords (EltTy.packing .bf16) := by
  revert b; decide +kernel
theorem kv_inb (b : Fin 2) : ∀ a, (![b.val, 0, 0] : Fin 3 → Nat) a + S1x256x256.size a ≤ S2x256x256.size a := by
  revert b; decide +kernel
theorem sem_inb (i : Fin 15) (b : Fin 2) : ∀ a, (![i.val + 1, b.val] : Fin 2 → Nat) a + S1x1.size a ≤ S16x2.size a := by
  revert i b; decide +kernel
theorem sem2_inb (b : Fin 2) : ∀ a, (![b.val] : Fin 1 → Nat) a + S1.size a ≤ S2.size a := by
  revert b; decide +kernel

theorem off3_words (c : Dev nD) : (Rect.unit (s := S2x256x512) (k0_off3 c) S1x16x512.size (k0_off3_inb c)).WholeWords (EltTy.packing .bf16) := by
  revert c; decide +kernel
theorem off5_words (c : Dev nD) : (Rect.unit (s := S2x256x512) (k0_off5 c) S1x16x512.size (k0_off5_inb c)).WholeWords (EltTy.packing .bf16) := by
  revert c; decide +kernel

/-- An offset whose chunk of sixteen rows lies in a `2 × 256 × 512` buffer, in whole words. -/
structure Off where
  off : Fin 3 → Nat
  inb : ∀ a, off a + S1x16x512.size a ≤ S2x256x512.size a
  words : (Rect.unit (s := S2x256x512) off S1x16x512.size inb).WholeWords (EltTy.packing .bf16)

theorem Off.ext' {o o' : Off} (h : o.off = o'.off) : o = o' := by
  cases o; cases o'; cases h; rfl

/-! ## The views the copies read and write -/

/-- Sixteen rows of the partial products. -/
abbrev partV (o : Off) : Memref sig .tc .vmem S16x512 .bf16 :=
  ((Memref.whole cc0_scratch2).slice (Rect.unit (s := S2x256x512) o.off S1x16x512.size o.inb) (fun _ => rfl)).squeeze S16x512 squeezes_S1x16x512_S16x512
/-- Sixteen rows of the output. -/
abbrev outV (o : Off) : Memref sig .tc .hbm S16x512 .bf16 :=
  ((Memref.whole main_v19).slice (Rect.unit (s := S2x256x512) o.off S1x16x512.size o.inb) (fun _ => rfl)).squeeze S16x512 squeezes_S1x16x512_S16x512
/-- Slot `i + 1` of the receive buffer, at batch `b`. -/
abbrev slotV (i : Fin 15) (b : Fin 2) : Memref sig .tc .vmem S16x512 .bf16 :=
  ((Memref.whole cc0_scratch4).slice (Rect.unit (s := S16x2x16x512) ![i.val + 1, b.val, 0, 0] S1x1x16x512.size (slot_inb i b)) (fun _ => rfl)).squeeze S16x512 squeezes_S1x1x16x512_S16x512
/-- The sums this device keeps, at batch `b`. -/
abbrev redV (b : Fin 2) : Memref sig .tc .vmem S16x512 .bf16 :=
  ((Memref.whole cc0_scratch3).slice (Rect.unit (s := S2x16x512) ![b.val, 0, 0] S1x16x512.size (red_inb b)) (fun _ => rfl)).squeeze S16x512 squeezes_S1x16x512_S16x512
/-- The first sixteen rows of batch `b` of the partial products, which a wait names for its size. -/
abbrev headV (b : Fin 2) : Memref sig .tc .vmem S16x512 .bf16 :=
  ((Memref.whole cc0_scratch2).slice (Rect.unit (s := S2x256x512) ![b.val, 0, 0] S1x16x512.size (head_inb b)) (fun _ => rfl)).squeeze S16x512 squeezes_S1x16x512_S16x512

theorem partV_words (o : Off) : (partV o).view.WordExact :=
  (((Memref.isWhole_whole cc0_scratch2).wordExact_slice rfl _ o.words).reshape _ _)
theorem outV_words (o : Off) : (outV o).view.WordExact :=
  (((Memref.isWhole_whole main_v19).wordExact_slice rfl _ o.words).reshape _ _)
theorem slotV_words (i : Fin 15) (b : Fin 2) : (slotV i b).view.WordExact :=
  (((Memref.isWhole_whole cc0_scratch4).wordExact_slice rfl _ (slot_words i b)).reshape _ _)
theorem redV_words (b : Fin 2) : (redV b).view.WordExact :=
  (((Memref.isWhole_whole cc0_scratch3).wordExact_slice rfl _ (red_words b)).reshape _ _)
theorem headV_words (b : Fin 2) : (headV b).view.WordExact :=
  (((Memref.isWhole_whole cc0_scratch2).wordExact_slice rfl _ (head_words b)).reshape _ _)

/-- Entry `(i + 1, b)` of an array of semaphores. -/
abbrev sAt (a : DmaSems sig S16x2) (i : Fin 15) (b : Fin 2) : DmaSem sig :=
  ((a.slice (Rect.unit (s := S16x2) ![i.val + 1, b.val] S1x1.size (sem_inb i b))).squeeze S_ squeezes_S1x1_S_).sem
/-- Entry `b` of an array of two semaphores. -/
abbrev sAt2 (a : DmaSems sig S2) (b : Fin 2) : DmaSem sig :=
  ((a.slice (Rect.unit (s := S2) ![b.val] S1.size (sem2_inb b))).squeeze S_ squeezes_S1_S_).sem
/-- The semaphore the devices meet at. -/
abbrev barS : Sem sig := (SemArray.scalar (sig.barrier 0 rfl) : Sems sig S_).sem

/-! ## The loops -/

/-- One signal to each of the devices listed. -/
def sigL (t : Fin 15 → Dev nD) (rest : PR F) : PR F :=
  I15.foldr (fun i k => .op (.semSignal (t i, .tc) barS (BitVec.toInt 1#32)) fun _ => k) rest

/-- The first round of copies at batch `b`: sixteen rows to each of the others. -/
def rsSendL (b : Fin 2) (t : Fin 15 → Dev nD) (o : Fin 15 → Off) (rest : PR F) : PR F :=
  I15.foldr (fun j k => .op (.enqueueDma (partV (o j)) (.remote (Dev.tc (t j)) (slotV (Fin.rev j) b) (.dma (sAt cc0_scratch5 (Fin.rev j) b)))
    (.dma (sAt cc0_scratch6 (Fin.rev j) b)) (partV_words (o j)) (slotV_words (Fin.rev j) b) ⟨⟨rfl, Or.inl rfl⟩, trivial⟩) fun _ => k) rest

/-- The second round of copies at batch `b`: the sums to each of the others. -/
def agSendL (b : Fin 2) (t : Fin 15 → Dev nD) (o : Off) (rest : PR F) : PR F :=
  I15.foldr (fun j k => .op (.enqueueDma (redV b) (.remote (Dev.tc (t j)) (outV o) (.dma (sAt cc0_scratch7 (Fin.rev j) b)))
    (.dma (sAt cc0_scratch8 (Fin.rev j) b)) (redV_words b) (outV_words o) ⟨⟨rfl, Or.inl rfl⟩, trivial⟩) fun _ => k) rest

/-- The arrivals of the first round at batch `b`. -/
def rsWaitL (b : Fin 2) (rest : PR F) : PR F :=
  I15.foldr (fun i k => .op (.waitDma2 (sAt cc0_scratch6 i b) (slotV i b) (slotV i b) (slotV_words i b) (slotV_words i b)) fun _ => k) rest

/-- The arrivals of the second round at batch `b`. -/
def agWaitL (b : Fin 2) (o : Fin 15 → Off) (rest : PR F) : PR F :=
  I15.foldr (fun i k => .op (.waitDma2 (sAt cc0_scratch8 i b) (redV b) (outV (o i)) (redV_words b) (outV_words (o i))) fun _ => k) rest

/-- The departures of both rounds at batch `b`. -/
def sentL (b : Fin 2) (rest : PR F) : PR F :=
  I15.foldr (fun i k => .op (.waitDma2 (sAt cc0_scratch5 i b) (slotV i b) (headV b) (slotV_words i b) (headV_words b)) fun _ =>
    .op (.waitDma2 (sAt cc0_scratch7 i b) (slotV i b) (redV b) (slotV_words i b) (redV_words b)) fun _ => k) rest

/-- One slot of the receive buffer, loaded. -/
abbrev ldSlot (i : Fin 15) (b : Fin 2) (k : Vec F S1x1x16x512 .bf16 → PR F) : PR F :=
  .op (.load (Memref.whole cc0_scratch4) (Rect.unit (s := S16x2x16x512) ![i.val + 1, b.val, 0, 0] S1x1x16x512.size (slot_inb i b)).toLoadRect (View.loadsAt_vmem h_S1x1x16x512)) k

/-- The fifteen slots, loaded in turn. -/
def slotsL (b : Fin 2) (k : (Fin 15 → Vec F S1x1x16x512 .bf16) → PR F) : PR F :=
  ldSlot 0 b fun s0 =>  ldSlot 1 b fun s1 =>  ldSlot 2 b fun s2 =>  ldSlot 3 b fun s3 =>  ldSlot 4 b fun s4 =>
  ldSlot 5 b fun s5 =>  ldSlot 6 b fun s6 =>  ldSlot 7 b fun s7 =>  ldSlot 8 b fun s8 =>  ldSlot 9 b fun s9 =>
  ldSlot 10 b fun s10 =>  ldSlot 11 b fun s11 =>  ldSlot 12 b fun s12 =>  ldSlot 13 b fun s13 =>  ldSlot 14 b fun s14 =>
    k ![s0, s1, s2, s3, s4, s5, s6, s7, s8, s9, s10, s11, s12, s13, s14]

/-- Keys of batch `b`, loaded. -/
abbrev ldK (b : Fin 2) (k : Vec F S1x256x256 .bf16 → PR F) : PR F :=
  .op (.load (Memref.whole cc0_scratch0) (Rect.unit (s := S2x256x256) ![b.val, 0, 0] S1x256x256.size (kv_inb b)).toLoadRect (View.loadsAt_vmem h_S1x256x256)) k
/-- Values of batch `b`, loaded. -/
abbrev ldV (b : Fin 2) (k : Vec F S1x256x256 .bf16 → PR F) : PR F :=
  .op (.load (Memref.whole cc0_scratch1) (Rect.unit (s := S2x256x256) ![b.val, 0, 0] S1x256x256.size (kv_inb b)).toLoadRect (View.loadsAt_vmem h_S1x256x256)) k
/-- Keys and values of batch `b`, loaded for each of the four heads. -/
def kvL (b : Fin 2) (k : (Fin 4 → Vec F S1x256x256 .bf16) → (Fin 4 → Vec F S1x256x256 .bf16) → PR F) : PR F :=
  ldK b fun k0 => ldV b fun v0 => ldK b fun k1 => ldV b fun v1 => ldK b fun k2 => ldV b fun v2 => ldK b fun k3 => ldV b fun v3 =>
    k ![k0, k1, k2, k3] ![v0, v1, v2, v3]

/-! ## The pure values -/

/-- Which query sees which key. -/
def mask : IVec S256x256 1 := k0_pay3 k0_pay1 (iota .tc S256x256 32 [1] iota_S256x256_d1_w32) 64#32 k0_pay2 0#32

/-- The partial product of batch `0`. -/
def att0 (wq : Vec F S512x256 .bf16) (wo : Vec F S256x512 .bf16) (x : Vec F S1x256x512 .bf16) (ks vs : Fin 4 → Vec F S1x256x256 .bf16) :
    FVec F S1x256x512 .bf16 :=
  k0_pay13 (k0_pay5 wo) (k0_pay7 mask wq x (ks 0) (vs 0)) (k0_pay9 (k0_pay8 mask wq x (ks 1)) (vs 1))
    (k0_pay10 mask (k0_pay6 wq x) (ks 2) (vs 2)) (k0_pay11 mask (k0_pay6 wq x) (ks 3)) (k0_pay12 (vs 3))

/-- The partial product of batch `1`. -/
def att1 (wq : Vec F S512x256 .bf16) (wo : Vec F S256x512 .bf16) (x : Vec F S1x256x512 .bf16) (ks vs : Fin 4 → Vec F S1x256x256 .bf16) :
    FVec F S1x256x512 .bf16 :=
  k0_pay18 (k0_pay5 wo) (k0_pay17 mask (k0_pay14 (k0_pay4 wq) x) (k0_pay15 mask (k0_pay4 wq) x (ks 0) (vs 0)) (k0_pay16 mask (k0_pay4 wq) x (ks 1))
    (vs 1) (ks 2) (vs 2) (ks 3) (vs 3))

/-- The sums of batch `0`, of this device's rows and the fifteen slots'. -/
def sum0 (own : Vec F S1x16x512 .bf16) (s : Fin 15 → Vec F S1x1x16x512 .bf16) : FVec F S1x16x512 .bf16 :=
  k0_pay21 (k0_pay20 (k0_pay19 own (s 0) (s 1) (s 2) (s 3) (s 4)) (s 5) (s 6) (s 7) (s 8) (s 9) (s 10) (s 11)) (s 12) (s 13) (s 14)

/-- The sums of batch `1`. -/
def sum1 (own : Vec F S1x16x512 .bf16) (s : Fin 15 → Vec F S1x1x16x512 .bf16) : FVec F S1x16x512 .bf16 :=
  k0_pay24 (k0_pay23 (k0_pay22 own (s 0) (s 1) (s 2)) (s 3) (s 4) (s 5) (s 6) (s 7) (s 8) (s 9)) (s 10) (s 11) (s 12) (s 13) (s 14)

/-! ## The body -/

/-- A batch's attention: its rows of `x`, its keys and values, then the store of its partial product. -/
def attL (b : Fin 2) (a0 : Memref sig .tc .vmem S2x256x512 .bf16)
    (val : Vec F S1x256x512 .bf16 → (Fin 4 → Vec F S1x256x256 .bf16) → (Fin 4 → Vec F S1x256x256 .bf16) → FVec F S1x256x512 .bf16)
    (rest : PR F) : PR F :=
  .op (.load a0 (Rect.unit (s := S2x256x512) ![b.val, 0, 0] S1x256x512.size (row_inb b)).toLoadRect (View.loadsAt_vmem h_S1x256x512)) fun x =>
  kvL b fun ks vs =>
  .op (.load (Memref.whole cc0_scratch2) (Rect.unit (s := S2x256x512) ![b.val, 0, 0] S1x256x512.size (row_inb b)).toLoadRect (View.loadsAt_vmem h_S1x256x512)) fun _ =>
  .op (.store (Memref.whole cc0_scratch2) (Rect.unit (s := S2x256x512) ![b.val, 0, 0] S1x256x512.size (row_inb b)) (val x ks vs) Finset.univ
    (View.stores_vmem h_S1x256x512 ((Memref.isWhole_whole cc0_scratch2).storeExact_slice rfl _ (row_packed b)) (fun _ => rfl)) (.inl rfl)) fun _ => rest

/-- A batch's sums: this device's rows, the fifteen slots, the store, then the copies of the sums. -/
def sumL (b : Fin 2) (oL oW : Off) (t : Fin 15 → Dev nD)
    (val : Vec F S1x16x512 .bf16 → (Fin 15 → Vec F S1x1x16x512 .bf16) → FVec F S1x16x512 .bf16) (rest : PR F) : PR F :=
  rsWaitL b <|
  .op (.load (Memref.whole cc0_scratch2) (Rect.unit (s := S2x256x512) oL.off S1x16x512.size oL.inb).toLoadRect (View.loadsAt_vmem h_S1x16x512)) fun own =>
  slotsL b fun s =>
  .op (.load (Memref.whole cc0_scratch3) (Rect.unit (s := S2x16x512) ![b.val, 0, 0] S1x16x512.size (red_inb b)).toLoadRect (View.loadsAt_vmem h_S1x16x512)) fun _ =>
  .op (.store (Memref.whole cc0_scratch3) (Rect.unit (s := S2x16x512) ![b.val, 0, 0] S1x16x512.size (red_inb b)) (val own s) Finset.univ
    (View.stores_vmem h_S1x16x512 ((Memref.isWhole_whole cc0_scratch3).storeExact_slice rfl _ (red_packed b)) (fun _ => rfl)) (.inl rfl)) fun _ =>
  .op (.enqueueDma (redV b) (.here (outV oW)) (.dma (sAt2 cc0_scratch10 b)) (redV_words b) (outV_words oW) ⟨Or.inl rfl, trivial⟩) fun _ =>
  agSendL b t oW rest

/-- A batch's last waits. -/
def endL (b : Fin 2) (oW : Off) (rest : PR F) : PR F :=
  .op (.waitDma2 (sAt2 cc0_scratch10 b) (redV b) (outV oW) (redV_words b) (outV_words oW)) fun _ => sentL b rest

/-- The body on device `c`, given whom it addresses and which rows it moves. -/
def prog (a0 : Memref sig .tc .vmem S2x256x512 .bf16) (a1 : Memref sig .tc .vmem S512x256 .bf16) (a4 : Memref sig .tc .vmem S256x512 .bf16)
    (tB t0 t1 u0 u1 : Fin 15 → Dev nD) (o0 o1 : Fin 15 → Off) (l0 l1 w0 w1 : Off) : PR F :=
  .op (.enqueueDma (Memref.whole main_v15) (.here (Memref.whole cc0_scratch0)) (.dma (sAt2 cc0_scratch9 0)) (Memref.isWhole_whole main_v15).wordExact
    (Memref.isWhole_whole cc0_scratch0).wordExact ⟨Or.inl rfl, trivial⟩) fun _ =>
  .op (.enqueueDma (Memref.whole main_v16) (.here (Memref.whole cc0_scratch1)) (.dma (sAt2 cc0_scratch9 1)) (Memref.isWhole_whole main_v16).wordExact
    (Memref.isWhole_whole cc0_scratch1).wordExact ⟨Or.inl rfl, trivial⟩) fun _ =>
  sigL tB <|
  .op (.waitDma2 (sAt2 cc0_scratch9 0) (Memref.whole main_v15) (Memref.whole cc0_scratch0) (Memref.isWhole_whole main_v15).wordExact
    (Memref.isWhole_whole cc0_scratch0).wordExact) fun _ =>
  .op (.waitDma2 (sAt2 cc0_scratch9 1) (Memref.whole main_v16) (Memref.whole cc0_scratch1) (Memref.isWhole_whole main_v16).wordExact
    (Memref.isWhole_whole cc0_scratch1).wordExact) fun _ =>
  .op (.load a1 (Rect.unit (s := S512x256) ![0, 0] S512x256.size inb_S512x256_S512x256_0_0).toLoadRect (View.loadsAt_vmem h_S512x256)) fun wq =>
  .op (.load a4 (Rect.unit (s := S256x512) ![0, 0] S256x512.size inb_S256x512_S256x512_0_0).toLoadRect (View.loadsAt_vmem h_S256x512)) fun wo =>
  attL 0 a0 (att0 wq wo) <|
  .op (.semWait barS (BitVec.toInt 15#32)) fun _ =>
  rsSendL 0 t0 o0 <|
  attL 1 a0 (att1 wq wo) <|
  rsSendL 1 t1 o1 <|
  sumL 0 l0 w0 u0 sum0 <|
  sumL 1 l1 w1 u1 sum1 <|
  agWaitL 0 o0 <|
  agWaitL 1 o1 <|
  endL 0 w0 <|
  endL 1 w1 <|
  .ret ⟨⟩

set_option maxRecDepth 100000 in
/-- The kernel's body is that program. -/
theorem body_eq_prog (a0 : Memref sig .tc .vmem S2x256x512 .bf16) (h0 : a0.IsWhole) (a1 : Memref sig .tc .vmem S512x256 .bf16) (h1 : a1.IsWhole)
    (a4 : Memref sig .tc .vmem S256x512 .bf16) (h4 : a4.IsWhole) :
    cc0_body (F := F) a0 h0 a1 h1 (Memref.whole main_v15) (Memref.isWhole_whole _) (Memref.whole main_v16) (Memref.isWhole_whole _) a4 h4
      (Memref.whole main_v19) (Memref.isWhole_whole _) (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _)
      cc0_scratch5 cc0_scratch6 cc0_scratch7 cc0_scratch8 cc0_scratch9 cc0_scratch10
    = .op .deviceId fun c => prog a0 a1 a4
        ![⟨k0_dev1 c, k0_dev1_lt c⟩, ⟨k0_dev2 c, k0_dev2_lt c⟩, ⟨k0_dev3 c, k0_dev3_lt c⟩, ⟨k0_dev4 c, k0_dev4_lt c⟩, ⟨k0_dev5 c, k0_dev5_lt c⟩, ⟨k0_dev6 c, k0_dev6_lt c⟩, ⟨k0_dev7 c, k0_dev7_lt c⟩, ⟨k0_dev8 c, k0_dev8_lt c⟩, ⟨k0_dev9 c, k0_dev9_lt c⟩, ⟨k0_dev10 c, k0_dev10_lt c⟩, ⟨k0_dev11 c, k0_dev11_lt c⟩, ⟨k0_dev12 c, k0_dev12_lt c⟩, ⟨k0_dev13 c, k0_dev13_lt c⟩, ⟨k0_dev14 c, k0_dev14_lt c⟩, ⟨k0_dev15 c, k0_dev15_lt c⟩]
        ![⟨k0_dev16 c, k0_dev16_lt c⟩, ⟨k0_dev17 c, k0_dev17_lt c⟩, ⟨k0_dev18 c, k0_dev18_lt c⟩, ⟨k0_dev19 c, k0_dev19_lt c⟩, ⟨k0_dev20 c, k0_dev20_lt c⟩, ⟨k0_dev21 c, k0_dev21_lt c⟩, ⟨k0_dev22 c, k0_dev22_lt c⟩, ⟨k0_dev23 c, k0_dev23_lt c⟩, ⟨k0_dev24 c, k0_dev24_lt c⟩, ⟨k0_dev25 c, k0_dev25_lt c⟩, ⟨k0_dev26 c, k0_dev26_lt c⟩, ⟨k0_dev27 c, k0_dev27_lt c⟩, ⟨k0_dev28 c, k0_dev28_lt c⟩, ⟨k0_dev29 c, k0_dev29_lt c⟩, ⟨k0_dev30 c, k0_dev30_lt c⟩]
        ![⟨k0_dev31 c, k0_dev31_lt c⟩, ⟨k0_dev32 c, k0_dev32_lt c⟩, ⟨k0_dev33 c, k0_dev33_lt c⟩, ⟨k0_dev34 c, k0_dev34_lt c⟩, ⟨k0_dev35 c, k0_dev35_lt c⟩, ⟨k0_dev36 c, k0_dev36_lt c⟩, ⟨k0_dev37 c, k0_dev37_lt c⟩, ⟨k0_dev38 c, k0_dev38_lt c⟩, ⟨k0_dev39 c, k0_dev39_lt c⟩, ⟨k0_dev40 c, k0_dev40_lt c⟩, ⟨k0_dev41 c, k0_dev41_lt c⟩, ⟨k0_dev42 c, k0_dev42_lt c⟩, ⟨k0_dev43 c, k0_dev43_lt c⟩, ⟨k0_dev44 c, k0_dev44_lt c⟩, ⟨k0_dev45 c, k0_dev45_lt c⟩]
        ![⟨k0_dev46 c, k0_dev46_lt c⟩, ⟨k0_dev47 c, k0_dev47_lt c⟩, ⟨k0_dev48 c, k0_dev48_lt c⟩, ⟨k0_dev49 c, k0_dev49_lt c⟩, ⟨k0_dev50 c, k0_dev50_lt c⟩, ⟨k0_dev51 c, k0_dev51_lt c⟩, ⟨k0_dev52 c, k0_dev52_lt c⟩, ⟨k0_dev53 c, k0_dev53_lt c⟩, ⟨k0_dev54 c, k0_dev54_lt c⟩, ⟨k0_dev55 c, k0_dev55_lt c⟩, ⟨k0_dev56 c, k0_dev56_lt c⟩, ⟨k0_dev57 c, k0_dev57_lt c⟩, ⟨k0_dev58 c, k0_dev58_lt c⟩, ⟨k0_dev59 c, k0_dev59_lt c⟩, ⟨k0_dev60 c, k0_dev60_lt c⟩]
        ![⟨k0_dev61 c, k0_dev61_lt c⟩, ⟨k0_dev62 c, k0_dev62_lt c⟩, ⟨k0_dev63 c, k0_dev63_lt c⟩, ⟨k0_dev64 c, k0_dev64_lt c⟩, ⟨k0_dev65 c, k0_dev65_lt c⟩, ⟨k0_dev66 c, k0_dev66_lt c⟩, ⟨k0_dev67 c, k0_dev67_lt c⟩, ⟨k0_dev68 c, k0_dev68_lt c⟩, ⟨k0_dev69 c, k0_dev69_lt c⟩, ⟨k0_dev70 c, k0_dev70_lt c⟩, ⟨k0_dev71 c, k0_dev71_lt c⟩, ⟨k0_dev72 c, k0_dev72_lt c⟩, ⟨k0_dev73 c, k0_dev73_lt c⟩, ⟨k0_dev74 c, k0_dev74_lt c⟩, ⟨k0_dev75 c, k0_dev75_lt c⟩]
        (fun j => ⟨k0_off1 c (BitVec.ofNat 32 (1 + j.val)), k0_off1_inb c j, k0_off1_wordsbf16 c j⟩)
        (fun j => ⟨k0_off2 c (BitVec.ofNat 32 (1 + j.val)), k0_off2_inb c j, k0_off2_wordsbf16 c j⟩)
        ⟨k0_off3 c, k0_off3_inb c, off3_words c⟩ ⟨k0_off5 c, k0_off5_inb c, off5_words c⟩
        ⟨k0_off4 c, k0_off4_inb c, k0_off4_wordsbf16 c⟩ ⟨k0_off6 c, k0_off6_inb c, k0_off6_wordsbf16 c⟩ := by
  rfl

end Cert.KernelIdeal.Att

end
-- ==== Proof.Geom.lean ====
module

public import proofs.«01_k».proof.Proof.Prog
public import proofs.«01_k».proof.Proof.Gen.KernelIdeal.Points
public import Idealize.ShloMosaic.Lib.ValueLayout

/-! # Whom the body addresses, and where its rows lie

Device `c` numbers the fifteen others by `dst c j`, the device `j + 1` places after it. It sends to `dst c j`
the sixteen rows that device sums, and they land in the slot numbered `Fin.rev j` there, which counts the
places from the receiver on to the sender. -/

@[expose] public section

noncomputable section

namespace Cert.KernelIdeal.Att

open Idealize.ShloMosaic Idealize.ShloMosaic.TcCoe Idealize.ShloMosaic.ValueIdx Idealize.SL.Sem
open Cert.KernelIdeal Cert.KernelIdeal.Gen

variable {F : FTy → Type} [FloatOps F]

/-- The device `j + 1` places after `c`. -/
def dst (c : Dev nD) (j : Fin 15) : Dev nD := ⟨(c.val + 1 + j.val) % 16, Nat.mod_lt _ (by decide)⟩

theorem dst_rev : ∀ (c : Dev nD) (j : Fin 15), dst (dst c j) (Fin.rev j) = c := by decide +kernel
theorem dst_inj : ∀ j : Fin 15, Function.Injective fun c => dst c j := by
  have h : ∀ (j : Fin 15) (c c' : Dev nD), dst c j = dst c' j → c = c' := by decide +kernel
  exact fun j c c' => h j c c'
theorem dst_inj_right : ∀ (c : Dev nD) (i j : Fin 15), dst c i = dst c j → i = j := by decide +kernel
theorem dst_ne : ∀ (c : Dev nD) (j : Fin 15), dst c j ≠ c := by decide +kernel
theorem exists_dst : ∀ (c d : Dev nD), d = c ∨ ∃ j, d = dst c j := by decide +kernel

theorem ck_inb (b : Fin 2) (s : Dev nD) : ∀ a, (![b.val, 16 * s.val, 0] : Fin 3 → Nat) a + S1x16x512.size a ≤ S2x256x512.size a := by
  revert b s; decide +kernel
theorem ck_words (b : Fin 2) (s : Dev nD) :
    (Rect.unit (s := S2x256x512) ![b.val, 16 * s.val, 0] S1x16x512.size (ck_inb b s)).WholeWords (EltTy.packing .bf16) := by
  revert b s; decide +kernel

/-- Batch `b`, the sixteen rows device `s` sums. -/
def ck (b : Fin 2) (s : Dev nD) : Off := ⟨![b.val, 16 * s.val, 0], ck_inb b s, ck_words b s⟩

/-! ## The body on device `c`, in these names -/

theorem off1_ck : ∀ (c : Dev nD) (j : Fin 15), k0_off1 c (BitVec.ofNat 32 (1 + j.val)) = ![0, 16 * (dst c j).val, 0] := by decide +kernel
theorem off2_ck : ∀ (c : Dev nD) (j : Fin 15), k0_off2 c (BitVec.ofNat 32 (1 + j.val)) = ![1, 16 * (dst c j).val, 0] := by decide +kernel

theorem devs_1 (c : Dev nD) : ![⟨k0_dev1 c, k0_dev1_lt c⟩, ⟨k0_dev2 c, k0_dev2_lt c⟩, ⟨k0_dev3 c, k0_dev3_lt c⟩, ⟨k0_dev4 c, k0_dev4_lt c⟩, ⟨k0_dev5 c, k0_dev5_lt c⟩, ⟨k0_dev6 c, k0_dev6_lt c⟩, ⟨k0_dev7 c, k0_dev7_lt c⟩, ⟨k0_dev8 c, k0_dev8_lt c⟩, ⟨k0_dev9 c, k0_dev9_lt c⟩, ⟨k0_dev10 c, k0_dev10_lt c⟩, ⟨k0_dev11 c, k0_dev11_lt c⟩, ⟨k0_dev12 c, k0_dev12_lt c⟩, ⟨k0_dev13 c, k0_dev13_lt c⟩, ⟨k0_dev14 c, k0_dev14_lt c⟩, ⟨k0_dev15 c, k0_dev15_lt c⟩] = dst c := by
  revert c; decide +kernel
theorem devs_2 (c : Dev nD) : ![⟨k0_dev16 c, k0_dev16_lt c⟩, ⟨k0_dev17 c, k0_dev17_lt c⟩, ⟨k0_dev18 c, k0_dev18_lt c⟩, ⟨k0_dev19 c, k0_dev19_lt c⟩, ⟨k0_dev20 c, k0_dev20_lt c⟩, ⟨k0_dev21 c, k0_dev21_lt c⟩, ⟨k0_dev22 c, k0_dev22_lt c⟩, ⟨k0_dev23 c, k0_dev23_lt c⟩, ⟨k0_dev24 c, k0_dev24_lt c⟩, ⟨k0_dev25 c, k0_dev25_lt c⟩, ⟨k0_dev26 c, k0_dev26_lt c⟩, ⟨k0_dev27 c, k0_dev27_lt c⟩, ⟨k0_dev28 c, k0_dev28_lt c⟩, ⟨k0_dev29 c, k0_dev29_lt c⟩, ⟨k0_dev30 c, k0_dev30_lt c⟩] = dst c := by
  revert c; decide +kernel
theorem devs_3 (c : Dev nD) : ![⟨k0_dev31 c, k0_dev31_lt c⟩, ⟨k0_dev32 c, k0_dev32_lt c⟩, ⟨k0_dev33 c, k0_dev33_lt c⟩, ⟨k0_dev34 c, k0_dev34_lt c⟩, ⟨k0_dev35 c, k0_dev35_lt c⟩, ⟨k0_dev36 c, k0_dev36_lt c⟩, ⟨k0_dev37 c, k0_dev37_lt c⟩, ⟨k0_dev38 c, k0_dev38_lt c⟩, ⟨k0_dev39 c, k0_dev39_lt c⟩, ⟨k0_dev40 c, k0_dev40_lt c⟩, ⟨k0_dev41 c, k0_dev41_lt c⟩, ⟨k0_dev42 c, k0_dev42_lt c⟩, ⟨k0_dev43 c, k0_dev43_lt c⟩, ⟨k0_dev44 c, k0_dev44_lt c⟩, ⟨k0_dev45 c, k0_dev45_lt c⟩] = dst c := by
  revert c; decide +kernel
theorem devs_4 (c : Dev nD) : ![⟨k0_dev46 c, k0_dev46_lt c⟩, ⟨k0_dev47 c, k0_dev47_lt c⟩, ⟨k0_dev48 c, k0_dev48_lt c⟩, ⟨k0_dev49 c, k0_dev49_lt c⟩, ⟨k0_dev50 c, k0_dev50_lt c⟩, ⟨k0_dev51 c, k0_dev51_lt c⟩, ⟨k0_dev52 c, k0_dev52_lt c⟩, ⟨k0_dev53 c, k0_dev53_lt c⟩, ⟨k0_dev54 c, k0_dev54_lt c⟩, ⟨k0_dev55 c, k0_dev55_lt c⟩, ⟨k0_dev56 c, k0_dev56_lt c⟩, ⟨k0_dev57 c, k0_dev57_lt c⟩, ⟨k0_dev58 c, k0_dev58_lt c⟩, ⟨k0_dev59 c, k0_dev59_lt c⟩, ⟨k0_dev60 c, k0_dev60_lt c⟩] = dst c := by
  revert c; decide +kernel
theorem devs_5 (c : Dev nD) : ![⟨k0_dev61 c, k0_dev61_lt c⟩, ⟨k0_dev62 c, k0_dev62_lt c⟩, ⟨k0_dev63 c, k0_dev63_lt c⟩, ⟨k0_dev64 c, k0_dev64_lt c⟩, ⟨k0_dev65 c, k0_dev65_lt c⟩, ⟨k0_dev66 c, k0_dev66_lt c⟩, ⟨k0_dev67 c, k0_dev67_lt c⟩, ⟨k0_dev68 c, k0_dev68_lt c⟩, ⟨k0_dev69 c, k0_dev69_lt c⟩, ⟨k0_dev70 c, k0_dev70_lt c⟩, ⟨k0_dev71 c, k0_dev71_lt c⟩, ⟨k0_dev72 c, k0_dev72_lt c⟩, ⟨k0_dev73 c, k0_dev73_lt c⟩, ⟨k0_dev74 c, k0_dev74_lt c⟩, ⟨k0_dev75 c, k0_dev75_lt c⟩] = dst c := by
  revert c; decide +kernel

/-- The staged `x`, `Wq` and `Wo`. -/
abbrev a0 : Memref sig .tc .vmem S2x256x512 .bf16 := Memref.whole cc0_stg0_0
abbrev a1 : Memref sig .tc .vmem S512x256 .bf16 := Memref.whole cc0_stg1_0
abbrev a4 : Memref sig .tc .vmem S256x512 .bf16 := Memref.whole cc0_stg2_0

/-- The body on device `c`. -/
def bodyC (c : Dev nD) : PR F :=
  prog a0 a1 a4 (dst c) (dst c) (dst c) (dst c) (dst c) (fun j => ck 0 (dst c j)) (fun j => ck 1 (dst c j)) (ck 0 c) (ck 1 c) (ck 0 c) (ck 1 c)

/-- The kernel's body is that program. -/
theorem bodyAt_eq (t : Fin cfg0.N) : bodyAt0 (F := F) t = .op .deviceId fun c => bodyC c := by
  have h0 : win0_0.stage (cfg0.slots t 0) = a0 := rfl
  have h1 : win0_1.stage (cfg0.slots t 1) = a1 := rfl
  have h2 : win0_2.stage (cfg0.slots t 2) = a4 := rfl
  unfold bodyAt0
  rw [body_eq_prog]
  congr 1; funext c
  rw [devs_1, devs_2, devs_3, devs_4, devs_5, h0, h1, h2]
  unfold bodyC
  congr 1
  · funext j; exact Off.ext' (off1_ck c j)
  · funext j; exact Off.ext' (off2_ck c j)
  · exact Off.ext' (k0_off3_eq c)
  · exact Off.ext' (k0_off5_eq c)
  · exact Off.ext' (k0_off4_eq c)
  · exact Off.ext' (k0_off6_eq c)

/-! ## Which elements a view is on -/

theorem emb_unit3 {n0 n1 n2 m0 m1 m2 : Nat} (off : Fin 3 → Nat) (inb) (x : (⟨3, ![m0, m1, m2]⟩ : Shape).Idx) :
    (Rect.unit (s := (⟨3, ![n0, n1, n2]⟩ : Shape)) off ![m0, m1, m2] inb).emb x
      = ix3 ⟨off 0 + (x 0).val, Nat.lt_of_lt_of_le (Nat.add_lt_add_left (x 0).isLt _) (inb 0)⟩
        ⟨off 1 + (x 1).val, Nat.lt_of_lt_of_le (Nat.add_lt_add_left (x 1).isLt _) (inb 1)⟩
        ⟨off 2 + (x 2).val, Nat.lt_of_lt_of_le (Nat.add_lt_add_left (x 2).isLt _) (inb 2)⟩ := by
  funext a
  apply Fin.ext
  rw [Rect.emb_apply]
  match a with
  | ⟨0, _⟩ => exact congrArg _ (Nat.one_mul _)
  | ⟨1, _⟩ => exact congrArg _ (Nat.one_mul _)
  | ⟨2, _⟩ => exact congrArg _ (Nat.one_mul _)

theorem emb_unit4 {n0 n1 n2 n3 m0 m1 m2 m3 : Nat} (off : Fin 4 → Nat) (inb) (x : (⟨4, ![m0, m1, m2, m3]⟩ : Shape).Idx) :
    (Rect.unit (s := (⟨4, ![n0, n1, n2, n3]⟩ : Shape)) off ![m0, m1, m2, m3] inb).emb x
      = ix4 ⟨off 0 + (x 0).val, Nat.lt_of_lt_of_le (Nat.add_lt_add_left (x 0).isLt _) (inb 0)⟩
        ⟨off 1 + (x 1).val, Nat.lt_of_lt_of_le (Nat.add_lt_add_left (x 1).isLt _) (inb 1)⟩
        ⟨off 2 + (x 2).val, Nat.lt_of_lt_of_le (Nat.add_lt_add_left (x 2).isLt _) (inb 2)⟩
        ⟨off 3 + (x 3).val, Nat.lt_of_lt_of_le (Nat.add_lt_add_left (x 3).isLt _) (inb 3)⟩ := by
  funext a
  apply Fin.ext
  rw [Rect.emb_apply]
  match a with
  | ⟨0, _⟩ => exact congrArg _ (Nat.one_mul _)
  | ⟨1, _⟩ => exact congrArg _ (Nat.one_mul _)
  | ⟨2, _⟩ => exact congrArg _ (Nat.one_mul _)
  | ⟨3, _⟩ => exact congrArg _ (Nat.one_mul _)

/-- Row `16 * s + i` of the two hundred and fifty-six. -/
def rowOf (s : Dev nD) (i : Fin 16) : Fin 256 := ⟨16 * s.val + i.val, by have := s.isLt; have := i.isLt; simp only [nD] at *; omega⟩

theorem partV_emb (b : Fin 2) (s : Dev nD) (i : Fin 16) (j : Fin 512) : (partV (ck b s)).view.emb (ix2 i j) = (ix3 b (rowOf s i) j : S2x256x512.Idx) := by
  have h : (partV (ck b s)).view.emb (ix2 i j)
      = (Rect.unit (s := S2x256x512) ![b.val, 16 * s.val, 0] S1x16x512.size (ck_inb b s)).emb (Shape.reshapeEquiv squeezes_S1x16x512_S16x512.numel_eq (ix2 i j)) := rfl
  rw [h, reshapeEquiv_ix2_1ab, emb_unit3]
  congr 1
  all_goals first | rfl | (apply Fin.ext; exact Nat.zero_add _)
theorem outV_emb (b : Fin 2) (s : Dev nD) (i : Fin 16) (j : Fin 512) : (outV (ck b s)).view.emb (ix2 i j) = (ix3 b (rowOf s i) j : S2x256x512.Idx) := by
  have h : (outV (ck b s)).view.emb (ix2 i j)
      = (Rect.unit (s := S2x256x512) ![b.val, 16 * s.val, 0] S1x16x512.size (ck_inb b s)).emb (Shape.reshapeEquiv squeezes_S1x16x512_S16x512.numel_eq (ix2 i j)) := rfl
  rw [h, reshapeEquiv_ix2_1ab, emb_unit3]
  congr 1
  all_goals first | rfl | (apply Fin.ext; exact Nat.zero_add _)
theorem redV_emb (b : Fin 2) (i : Fin 16) (j : Fin 512) : (redV b).view.emb (ix2 i j) = (ix3 b i j : S2x16x512.Idx) := by
  have h : (redV b).view.emb (ix2 i j)
      = (Rect.unit (s := S2x16x512) ![b.val, 0, 0] S1x16x512.size (red_inb b)).emb (Shape.reshapeEquiv squeezes_S1x16x512_S16x512.numel_eq (ix2 i j)) := rfl
  rw [h, reshapeEquiv_ix2_1ab, emb_unit3]
  congr 1
  all_goals first | rfl | (apply Fin.ext; exact Nat.zero_add _)
/-- Slot `i + 1`. -/
def slotOf (i : Fin 15) : Fin 16 := ⟨i.val + 1, Nat.succ_lt_succ i.isLt⟩
theorem slotV_emb (k : Fin 15) (b : Fin 2) (i : Fin 16) (j : Fin 512) : (slotV k b).view.emb (ix2 i j) = (ix4 (slotOf k) b i j : S16x2x16x512.Idx) := by
  have h : (slotV k b).view.emb (ix2 i j)
      = (Rect.unit (s := S16x2x16x512) ![k.val + 1, b.val, 0, 0] S1x1x16x512.size (slot_inb k b)).emb (Shape.reshapeEquiv squeezes_S1x1x16x512_S16x512.numel_eq (ix2 i j)) := rfl
  rw [h, reshapeEquiv_ix2_11ab, emb_unit4]
  congr 1
  all_goals first | rfl | (apply Fin.ext; exact Nat.zero_add _)

theorem mem_ck (b : Fin 2) (s : Dev nD) (x : S2x256x512.Idx) :
    x ∈ (Rect.unit (s := S2x256x512) (ck b s).off S1x16x512.size (ck b s).inb).set ↔ (x 0).val = b.val ∧ (x 1).val / 16 = s.val := by
  rw [Rect.mem_set_unit]
  have h2 : (x 2).val < 512 := (x 2).isLt
  constructor
  · intro h
    have e0 : b.val ≤ (x 0).val ∧ (x 0).val < b.val + 1 := h 0
    have e1 : 16 * s.val ≤ (x 1).val ∧ (x 1).val < 16 * s.val + 16 := h 1
    constructor <;> omega
  · rintro ⟨e0, e1⟩ a
    match a with
    | ⟨0, _⟩ => exact (show b.val ≤ (x 0).val ∧ (x 0).val < b.val + 1 by omega)
    | ⟨1, _⟩ => exact (show 16 * s.val ≤ (x 1).val ∧ (x 1).val < 16 * s.val + 16 by omega)
    | ⟨2, _⟩ => exact (show 0 ≤ (x 2).val ∧ (x 2).val < 0 + 512 by omega)
theorem mem_partV (b : Fin 2) (s : Dev nD) (x : S2x256x512.Idx) :
    x ∈ (partV (ck b s)).view.set ↔ (x 0).val = b.val ∧ (x 1).val / 16 = s.val := by
  rw [View.set_reshape, View.set_slice_whole]; exact mem_ck b s x
theorem mem_outV (b : Fin 2) (s : Dev nD) (x : S2x256x512.Idx) :
    x ∈ (outV (ck b s)).view.set ↔ (x 0).val = b.val ∧ (x 1).val / 16 = s.val := by
  rw [View.set_reshape, View.set_slice_whole]; exact mem_ck b s x
theorem mem_redR (b : Fin 2) (x : S2x16x512.Idx) :
    x ∈ (Rect.unit (s := S2x16x512) ![b.val, 0, 0] S1x16x512.size (red_inb b)).set ↔ (x 0).val = b.val := by
  rw [Rect.mem_set_unit]
  have h1 : (x 1).val < 16 := (x 1).isLt
  have h2 : (x 2).val < 512 := (x 2).isLt
  constructor
  · intro h
    have e0 : b.val ≤ (x 0).val ∧ (x 0).val < b.val + 1 := h 0
    omega
  · rintro e0 a
    match a with
    | ⟨0, _⟩ => exact (show b.val ≤ (x 0).val ∧ (x 0).val < b.val + 1 by omega)
    | ⟨1, _⟩ => exact (show 0 ≤ (x 1).val ∧ (x 1).val < 0 + 16 by omega)
    | ⟨2, _⟩ => exact (show 0 ≤ (x 2).val ∧ (x 2).val < 0 + 512 by omega)
theorem mem_redV (b : Fin 2) (x : S2x16x512.Idx) : x ∈ (redV b).view.set ↔ (x 0).val = b.val := by
  rw [View.set_reshape, View.set_slice_whole]; exact mem_redR b x
theorem mem_slotR (i : Fin 15) (b : Fin 2) (x : S16x2x16x512.Idx) :
    x ∈ (Rect.unit (s := S16x2x16x512) ![i.val + 1, b.val, 0, 0] S1x1x16x512.size (slot_inb i b)).set ↔ (x 0).val = i.val + 1 ∧ (x 1).val = b.val := by
  rw [Rect.mem_set_unit]
  have h2 : (x 2).val < 16 := (x 2).isLt
  have h3 : (x 3).val < 512 := (x 3).isLt
  constructor
  · intro h
    have e0 : i.val + 1 ≤ (x 0).val ∧ (x 0).val < i.val + 1 + 1 := h 0
    have e1 : b.val ≤ (x 1).val ∧ (x 1).val < b.val + 1 := h 1
    constructor <;> omega
  · rintro ⟨e0, e1⟩ a
    match a with
    | ⟨0, _⟩ => exact (show i.val + 1 ≤ (x 0).val ∧ (x 0).val < i.val + 1 + 1 by omega)
    | ⟨1, _⟩ => exact (show b.val ≤ (x 1).val ∧ (x 1).val < b.val + 1 by omega)
    | ⟨2, _⟩ => exact (show 0 ≤ (x 2).val ∧ (x 2).val < 0 + 16 by omega)
    | ⟨3, _⟩ => exact (show 0 ≤ (x 3).val ∧ (x 3).val < 0 + 512 by omega)
theorem mem_slotV (i : Fin 15) (b : Fin 2) (x : S16x2x16x512.Idx) :
    x ∈ (slotV i b).view.set ↔ (x 0).val = i.val + 1 ∧ (x 1).val = b.val := by
  rw [View.set_reshape, View.set_slice_whole]; exact mem_slotR i b x

/-- The rectangle of row `b` of the partial products. -/
abbrev rowR (b : Fin 2) : Rect S2x256x512 := Rect.unit (s := S2x256x512) ![b.val, 0, 0] S1x256x512.size (row_inb b)
/-- The rectangle of a chunk. -/
abbrev ckR (o : Off) : Rect S2x256x512 := Rect.unit (s := S2x256x512) o.off S1x16x512.size o.inb
/-- The rectangle of a slot. -/
abbrev slotR (i : Fin 15) (b : Fin 2) : Rect S16x2x16x512 := Rect.unit (s := S16x2x16x512) ![i.val + 1, b.val, 0, 0] S1x1x16x512.size (slot_inb i b)
/-- The rectangle of a batch of sums. -/
abbrev redR (b : Fin 2) : Rect S2x16x512 := Rect.unit (s := S2x16x512) ![b.val, 0, 0] S1x16x512.size (red_inb b)
/-- The rectangle of a batch of keys or values. -/
abbrev kvR (b : Fin 2) : Rect S2x256x256 := Rect.unit (s := S2x256x256) ![b.val, 0, 0] S1x256x256.size (kv_inb b)

theorem mem_rowR (b : Fin 2) (x : S2x256x512.Idx) : x ∈ (rowR b).set ↔ (x 0).val = b.val := by
  rw [Rect.mem_set_unit]
  have h1 : (x 1).val < 256 := (x 1).isLt
  have h2 : (x 2).val < 512 := (x 2).isLt
  constructor
  · intro h
    have e0 : b.val ≤ (x 0).val ∧ (x 0).val < b.val + 1 := h 0
    omega
  · rintro e0 a
    match a with
    | ⟨0, _⟩ => exact (show b.val ≤ (x 0).val ∧ (x 0).val < b.val + 1 by omega)
    | ⟨1, _⟩ => exact (show 0 ≤ (x 1).val ∧ (x 1).val < 0 + 256 by omega)
    | ⟨2, _⟩ => exact (show 0 ≤ (x 2).val ∧ (x 2).val < 0 + 512 by omega)

end Cert.KernelIdeal.Att

end
-- ==== Proof.Cont.lean ====
module

public import proofs.«01_k».proof.Proof.Geom

/-! # What the buffers hold

Each buffer's contents are written once for the whole buffer, as a function of what the sixteen devices
were given. -/

@[expose] public section

noncomputable section

namespace Cert.KernelIdeal.Att

open Idealize.ShloMosaic Idealize.ShloMosaic.TcCoe Idealize.ShloMosaic.ValueIdx Idealize.SL.Sem
open Cert.KernelIdeal Cert.KernelIdeal.Gen

variable {F : FTy → Type} [FloatOps F]

/-- What a device's call is given: the rows of `x`, its heads' columns of `Wq` and rows of `Wo`, its keys and values. -/
structure Ins (F : FTy → Type) where
  x : Vec F S2x256x512 .bf16
  wq : Vec F S512x256 .bf16
  wo : Vec F S256x512 .bf16
  k : Vec F S2x256x256 .bf16
  v : Vec F S2x256x256 .bf16

/-- Batch `b` of `x`, as the body loads it. -/
def xRow (b : Fin 2) (x : Vec F S2x256x512 .bf16) : Vec F S1x256x512 .bf16 :=
  View.readAt (Elt F) a0.view (Rect.unit (s := S2x256x512) ![b.val, 0, 0] S1x256x512.size (row_inb b)).toLoadRect x
/-- Batch `b` of the keys. -/
def kRow (b : Fin 2) (k : Vec F S2x256x256 .bf16) : Vec F S1x256x256 .bf16 :=
  View.readAt (Elt F) (Memref.whole cc0_scratch0).view (Rect.unit (s := S2x256x256) ![b.val, 0, 0] S1x256x256.size (kv_inb b)).toLoadRect k
/-- Batch `b` of the values. -/
def vRow (b : Fin 2) (v : Vec F S2x256x256 .bf16) : Vec F S1x256x256 .bf16 :=
  View.readAt (Elt F) (Memref.whole cc0_scratch1).view (Rect.unit (s := S2x256x256) ![b.val, 0, 0] S1x256x256.size (kv_inb b)).toLoadRect v
/-- `Wq` and `Wo`, as the body loads them. -/
def wqAll (w : Vec F S512x256 .bf16) : Vec F S512x256 .bf16 :=
  View.readAt (Elt F) a1.view (Rect.unit (s := S512x256) ![0, 0] S512x256.size inb_S512x256_S512x256_0_0).toLoadRect w
def woAll (w : Vec F S256x512 .bf16) : Vec F S256x512 .bf16 :=
  View.readAt (Elt F) a4.view (Rect.unit (s := S256x512) ![0, 0] S256x512.size inb_S256x512_S256x512_0_0).toLoadRect w

/-- The attention of batch `b`. -/
def attB (b : Fin 2) (wq : Vec F S512x256 .bf16) (wo : Vec F S256x512 .bf16) (x : Vec F S1x256x512 .bf16) (ks vs : Fin 4 → Vec F S1x256x256 .bf16) :
    FVec F S1x256x512 .bf16 := if b = 0 then att0 wq wo x ks vs else att1 wq wo x ks vs
/-- The sums of batch `b`. -/
def sumB (b : Fin 2) (own : Vec F S1x16x512 .bf16) (s : Fin 15 → Vec F S1x1x16x512 .bf16) : FVec F S1x16x512 .bf16 :=
  if b = 0 then sum0 own s else sum1 own s

variable (A : Dev nD → Ins F)

/-- Device `c`'s partial product at batch `b`. -/
def partRow (c : Dev nD) (b : Fin 2) : Vec F S1x256x512 .bf16 :=
  attB b (wqAll (A c).wq) (woAll (A c).wo) (xRow b (A c).x)
    ![kRow b (A c).k, kRow b (A c).k, kRow b (A c).k, kRow b (A c).k] ![vRow b (A c).v, vRow b (A c).v, vRow b (A c).v, vRow b (A c).v]

/-- Device `c`'s partial products. -/
def partF (c : Dev nD) : Vec F S2x256x512 .bf16 :=
  fun i => partRow A c (i 0) (ix3 (⟨0, Nat.one_pos⟩ : Fin 1) (i 1 : Fin 256) (i 2 : Fin 512))

/-- The device `r` places after `c`. -/
def after (c : Dev nD) (r : Fin 16) : Dev nD := ⟨(c.val + r.val) % 16, Nat.mod_lt _ (by decide)⟩

theorem after_dst : ∀ (c : Dev nD) (j : Fin 15), after (dst c j) (slotOf (Fin.rev j)) = c := by decide +kernel
theorem after_slotOf : ∀ (c : Dev nD) (i : Fin 15), after c (slotOf i) = dst c i := by decide +kernel

/-- Device `c`'s receive buffer, once all has arrived: in slot `r` the rows device `c` sums, of the device `r` places on. -/
def rsF (c : Dev nD) : Vec F S16x2x16x512 .bf16 :=
  fun i => partF A (after c (i 0)) (ix3 (i 1 : Fin 2) (rowOf c (i 2)) (i 3 : Fin 512))

/-- The rows device `c` sums, of its own partial product. -/
def ownRow (c : Dev nD) (b : Fin 2) : Vec F S1x16x512 .bf16 :=
  View.readAt (Elt F) (Memref.whole cc0_scratch2).view (Rect.unit (s := S2x256x512) (ck b c).off S1x16x512.size (ck b c).inb).toLoadRect (partF A c)
/-- A slot, as the body loads it. -/
def slotRow (c : Dev nD) (b : Fin 2) (i : Fin 15) : Vec F S1x1x16x512 .bf16 :=
  View.readAt (Elt F) (Memref.whole cc0_scratch4).view (Rect.unit (s := S16x2x16x512) ![i.val + 1, b.val, 0, 0] S1x1x16x512.size (slot_inb i b)).toLoadRect (rsF A c)

/-- The sums device `c` makes at batch `b`. -/
def redRow (c : Dev nD) (b : Fin 2) : Vec F S1x16x512 .bf16 := sumB b (ownRow A c b) (slotRow A c b)
/-- The sums device `c` makes. -/
def redF (c : Dev nD) : Vec F S2x16x512 .bf16 :=
  fun i => redRow A c (i 0) (ix3 (⟨0, Nat.one_pos⟩ : Fin 1) (i 1 : Fin 16) (i 2 : Fin 512))

/-- The device that sums row `r`. -/
def devOf (r : Fin 256) : Dev nD := ⟨r.val / 16, by have := r.isLt; simp only [nD]; omega⟩
/-- Its number among that device's rows. -/
def subOf (r : Fin 256) : Fin 16 := ⟨r.val % 16, Nat.mod_lt _ (by decide)⟩

/-- The result, the same on every device. -/
def outF : Vec F S2x256x512 .bf16 :=
  fun i => redF A (devOf (i 1)) (ix3 (i 0 : Fin 2) (subOf (i 1)) (i 2 : Fin 512))

theorem devOf_rowOf (s : Dev nD) (i : Fin 16) : devOf (rowOf s i) = s := by
  apply Fin.ext; have := i.isLt; show (16 * s.val + i.val) / 16 = s.val; omega
theorem subOf_rowOf (s : Dev nD) (i : Fin 16) : subOf (rowOf s i) = i := by
  apply Fin.ext; have := i.isLt; show (16 * s.val + i.val) % 16 = i.val; omega

/-! ## What a copy leaves is what the buffer is to hold -/

/-- A whole view's write leaves `G` where `G` is what was read. -/
theorem write_eq_of {κ} {sp : Space} {s : Shape} {e : EltTy} (D : View sig κ sp s e) (fd : D.ty.Contents (Elt F)) (w : s.Idx → Elt F e)
    (G : D.ty.Contents (Elt F)) (h : ∀ x, D.read (Elt F) G x = w x) : ∀ i ∈ D.set, D.write (Elt F) fd w Finset.univ i = G i := by
  intro i hi
  obtain ⟨x, -, rfl⟩ := Finset.mem_map.mp hi
  rw [View.write_emb_of_mem _ _ (Finset.mem_univ x), ← h x, View.read_apply, cast_cast, cast_eq]

theorem landed_rs (c : Dev nD) (b : Fin 2) (j : Fin 15) (x : S16x512.Idx) :
    (slotV (Fin.rev j) b).view.read (Elt F) (rsF A (dst c j)) x = (partV (ck b (dst c j))).view.read (Elt F) (partF A c) x := by
  obtain ⟨i, l, rfl⟩ : ∃ i l, x = ix2 i l := ⟨_, _, eq_ix2 x⟩
  have e1 := slotV_emb (Fin.rev j) b i l
  have e2 := partV_emb b (dst c j) i l
  show rsF A (dst c j) ((slotV (Fin.rev j) b).view.emb (ix2 i l)) = partF A c ((partV (ck b (dst c j))).view.emb (ix2 i l))
  rw [e1, e2]
  show partF A (after (dst c j) (slotOf (Fin.rev j))) _ = _
  rw [after_dst]

theorem landed_ag (c : Dev nD) (b : Fin 2) (x : S16x512.Idx) :
    (outV (ck b c)).view.read (Elt F) (outF A) x = (redV b).view.read (Elt F) (redF A c) x := by
  obtain ⟨i, l, rfl⟩ : ∃ i l, x = ix2 i l := ⟨_, _, eq_ix2 x⟩
  have e1 := outV_emb b c i l
  have e2 := redV_emb b i l
  show outF A ((outV (ck b c)).view.emb (ix2 i l)) = redF A c ((redV b).view.emb (ix2 i l))
  rw [e1, e2]
  show redF A (devOf (rowOf c i)) (ix3 b (subOf (rowOf c i)) l) = _
  rw [devOf_rowOf, subOf_rowOf]

theorem stored_part (c : Dev nD) (b : Fin 2) (x : S1x256x512.Idx) :
    ((Memref.whole cc0_scratch2).access (rowR b)).read (Elt F) (partF A c) x = partRow A c b x := by
  obtain ⟨k, i, l, rfl⟩ : ∃ k i l, x = ix3 k i l := ⟨_, _, _, eq_ix3 x⟩
  have hk : k = ⟨0, Nat.one_pos⟩ := Subsingleton.elim _ _
  subst hk
  show partF A c ((rowR b).emb (ix3 (⟨0, Nat.one_pos⟩ : Fin 1) i l)) = _
  rw [show (rowR b).emb (ix3 (⟨0, Nat.one_pos⟩ : Fin 1) i l) = (ix3 b i l : S2x256x512.Idx) from
    (emb_unit3 _ (row_inb b) _).trans (by congr 1 <;> (apply Fin.ext; exact Nat.zero_add _))]
  rfl

theorem stored_red (c : Dev nD) (b : Fin 2) (x : S1x16x512.Idx) :
    ((Memref.whole cc0_scratch3).access (redR b)).read (Elt F) (redF A c) x = redRow A c b x := by
  obtain ⟨k, i, l, rfl⟩ : ∃ k i l, x = ix3 k i l := ⟨_, _, _, eq_ix3 x⟩
  have hk : k = ⟨0, Nat.one_pos⟩ := Subsingleton.elim _ _
  subst hk
  show redF A c ((redR b).emb (ix3 (⟨0, Nat.one_pos⟩ : Fin 1) i l)) = _
  rw [show (redR b).emb (ix3 (⟨0, Nat.one_pos⟩ : Fin 1) i l) = (ix3 b i l : S2x16x512.Idx) from
    (emb_unit3 _ (red_inb b) _).trans (by congr 1 <;> (apply Fin.ext; exact Nat.zero_add _))]
  rfl

end Cert.KernelIdeal.Att

end
-- ==== Proof.Proto.lean ====
module

public import proofs.«01_k».proof.Proof.Cont
public import Idealize.ShloMosaic.Lib.Pipeline.Regions
public import Idealize.ShloMosaic.Lib.Rounds
public import Idealize.ShloMosaic.Lib.Transfers
public import Idealize.ShloMosaic.Lib.Tactic
public import Idealize.ShloMosaic.Lib.Pipeline.RegionTalk

/-! # The protocol

The devices meet at a barrier. Device `c`'s signal to another hands it what that one is to write on `c`: the
two slots (one a batch) it sends its rows to, and the two chunks of `c`'s output it sends its sums to. A
copy pays two cells: on the sender's, the source comes back; on the receiver's, the destination, holding
what was sent. -/

@[expose] public section

noncomputable section

namespace Cert.KernelIdeal.Att

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

abbrev UU : Type := UR sig nD τ × URounds (GSem nD τ sig) (Fin 15)

local notation "𝕄" => MT nD τ sig Unit (Elt F) ℕ UU ℕ

/-- The pipeline's own resource and the protocol's. -/
abbrev EP : Emb (UR sig nD τ) 𝕄 := embL
abbrev ER : Emb (URounds (GSem nD τ sig) (Fin 15)) 𝕄 := embR

abbrev 𝒱₀ : Variants := Variants.none

/-! ## The semaphores by what they count -/

/-- What a semaphore counts: departures or arrivals of the first or second round, in the slot `i + 1` and at the batch
    `b`; the keys' or the values' arrival; the local copy of a batch's sums; or nothing. -/
inductive Kind where
  | rsS (i : Fin 15) (b : Fin 2)
  | rsR (i : Fin 15) (b : Fin 2)
  | agS (i : Fin 15) (b : Fin 2)
  | agR (i : Fin 15) (b : Fin 2)
  | inK
  | inV
  | st (b : Fin 2)
  | none
deriving DecidableEq

/-- What the semaphore numbered `n` counts. -/
def decN (n : ℕ) : Kind :=
  if n < 3 then .none
  else if n < 131 then
    if (n - 3) % 32 / 2 = 0 then .none
    else
      let i := Fin.ofNat 15 ((n - 3) % 32 / 2 - 1)
      let b := Fin.ofNat 2 ((n - 3) % 2)
      if (n - 3) / 32 = 0 then .rsS i b
      else if (n - 3) / 32 = 1 then .rsR i b
      else if (n - 3) / 32 = 2 then .agS i b
      else .agR i b
  else if n = 131 then .inK
  else if n = 132 then .inV
  else .st (Fin.ofNat 2 (n - 133))

def dec (s : DmaSem sig) : Kind := decN s.val

theorem dec_rsS : ∀ i b, dec (sAt cc0_scratch5 i b) = .rsS i b := by decide +kernel
theorem dec_rsR : ∀ i b, dec (sAt cc0_scratch6 i b) = .rsR i b := by decide +kernel
theorem dec_agS : ∀ i b, dec (sAt cc0_scratch7 i b) = .agS i b := by decide +kernel
theorem dec_agR : ∀ i b, dec (sAt cc0_scratch8 i b) = .agR i b := by decide +kernel
theorem dec_inK : dec (sAt2 cc0_scratch9 0) = .inK := by decide +kernel
theorem dec_inV : dec (sAt2 cc0_scratch9 1) = .inV := by decide +kernel
theorem dec_st : ∀ b, dec (sAt2 cc0_scratch10 b) = .st b := by decide +kernel

/-- The cells of device `c`. -/
abbrev cellD (c : Dev nD) (s : DmaSem sig) : GSem nD τ sig := ((c : Thread nD τ), .dma s)
abbrev barC (c : Dev nD) : GSem nD τ sig := ((c : Thread nD τ), .reg barS)
abbrev rsSc (c : Dev nD) (b : Fin 2) (i : Fin 15) : GSem nD τ sig := cellD c (sAt cc0_scratch5 i b)
abbrev rsRc (c : Dev nD) (b : Fin 2) (i : Fin 15) : GSem nD τ sig := cellD c (sAt cc0_scratch6 i b)
abbrev agSc (c : Dev nD) (b : Fin 2) (i : Fin 15) : GSem nD τ sig := cellD c (sAt cc0_scratch7 i b)
abbrev agRc (c : Dev nD) (b : Fin 2) (i : Fin 15) : GSem nD τ sig := cellD c (sAt cc0_scratch8 i b)
abbrev inpC (c : Dev nD) (b : Fin 2) : GSem nD τ sig := cellD c (sAt2 cc0_scratch9 b)
abbrev stC (c : Dev nD) (b : Fin 2) : GSem nD τ sig := cellD c (sAt2 cc0_scratch10 b)

/-! ## The pieces that change hands -/

/-- A view's elements on device `c`. -/
abbrev vP {sp : Space} {s : Shape} {e : EltTy} (m : Memref sig .tc sp s e) (c : Dev nD) (q : PosShare TreeShare)
    (f : Buf (Elt F) (m.view.loc (c : Thread nD τ))) : sProp 𝕄 :=
  (m.view.loc (c : Thread nD τ)) ↦[m.view.set]{q} f

/-- The sixteen shares a batch's sums are read at: the local copy's, then the fifteen departures'. -/
def shr (i : Fin 16) : PosShare TreeShare := Transfers.dealOf fullShare (Finset.univ : Finset (Fin 16)) i

/-- For batch `b`: what the device `dst t d` hands device `t`, to write there. -/
def halfPay (t : Dev nD) (d : Fin 15) (b : Fin 2) : sProp 𝕄 :=
  iprop((∃ f, vP (F := F) (slotV (Fin.rev d) b) (dst t d) fullShare f) ∗ (∃ f, vP (F := F) (outV (ck b t)) (dst t d) fullShare f)
    ∗ reached ER (rsRc (dst t d) b (Fin.rev d)) 0 ∗ reached ER (agRc (dst t d) b (Fin.rev d)) 0)
def barPay (t : Dev nD) (d : Fin 15) : sProp 𝕄 := iprop(halfPay (F := F) t d 0 ∗ halfPay (F := F) t d 1)

variable (A : Dev nD → Ins F)

/-- What a cell of device `c` delivers. -/
def payK : Kind → Dev nD → sProp 𝕄
  | .rsS i b, c => vP (partV (ck b (dst c (Fin.rev i)))) c fullShare (partF A c)
  | .rsR i b, c => vP (slotV i b) c fullShare (rsF A c)
  | .agS i b, c => vP (redV b) c (shr i.succ) (redF A c)
  | .agR i b, c => vP (outV (ck b (dst c i))) c fullShare (outF A)
  | .inK, c => iprop(vP (Memref.whole cc0_scratch0) c fullShare (A c).k ∗ vP (Memref.whole main_v15) c fullShare (A c).k)
  | .inV, c => iprop(vP (Memref.whole cc0_scratch1) c fullShare (A c).v ∗ vP (Memref.whole main_v16) c fullShare (A c).v)
  | .st b, c => iprop(vP (outV (ck b c)) c fullShare (outF A) ∗ vP (redV b) c (shr 0) (redF A c))
  | .none, _ => iprop(emp)

/-- What a copy of sixteen rows counts, and what the keys' or values' copy counts. -/
abbrev N : ℕ := (slotV 0 0).view.amount (.dma (sAt cc0_scratch5 0 0))
abbrev N2 : ℕ := (Memref.whole cc0_scratch0).view.amount (.dma (sAt2 cc0_scratch9 0))

theorem N_pos : 0 < N := View.dmaCredit_pos _ (by decide)
theorem N2_pos : 0 < N2 := View.dmaCredit_pos _ (by decide)

def amtK : Kind → ℕ
  | .inK => N2
  | .inV => N2
  | .none => 1
  | _ => N

theorem amtK_pos (k : Kind) : 0 < amtK k := by
  cases k <;> first | exact N_pos | exact N2_pos | exact Nat.one_pos

/-- One round: fifteen duties at a barrier cell, one at each of the cells a copy pays. -/
def Rd : Rounds.Schedule (GSem nD τ sig) (Fin 15) 𝕄 where
  duties g r := if r = 0 ∧ g.1.2 = .tc then (match g.2 with
    | .reg _ => Finset.univ
    | .dma s => if dec s = Kind.none then ∅ else {0}) else ∅
  unitless _ := False
  amount g _ _ := match g.2 with
    | .reg _ => 1
    | .dma s => amtK (dec s)
  payload g _ d := match g.2 with
    | .reg _ => barPay g.1.1 d
    | .dma s => payK A (dec s) g.1.1
  amount_pos g _ _ _ := by
    rcases g with ⟨t, _ | s⟩
    · exact Nat.one_pos
    · exact amtK_pos _

instance payK_storable (k : Kind) (c : Dev nD) : BI.Storable (upEmb : UEmb _ 𝕄) (payK A k c) := by
  cases k <;> unfold payK <;> infer_instance
set_option synthInstance.maxHeartbeats 400000 in
instance halfPay_storable (c : Dev nD) (d : Fin 15) (b : Fin 2) : BI.Storable (upEmb : UEmb _ 𝕄) (halfPay (F := F) c d b) := by
  unfold halfPay; infer_instance

instance Rd_payload_storable (g : GSem nD τ sig) (r : ℕ) (d : Fin 15) :
    BI.Storable (upEmb : UEmb _ 𝕄) ((Rd A).payload g r d) := by
  rcases g with ⟨t, _ | s⟩
  · show BI.Storable upEmb (barPay (F := F) t.1 d)
    unfold barPay; infer_instance
  · show BI.Storable upEmb (payK A (dec s) t.1)
    infer_instance

theorem duties_bar (c : Dev nD) : (Rd A).duties (barC c) 0 = Finset.univ := by
  dsimp only [Rd]; exact if_pos ⟨rfl, rfl⟩
theorem duties_dma (c : Dev nD) (s : DmaSem sig) (h : dec s ≠ Kind.none) : (Rd A).duties (cellD c s) 0 = {0} :=
  by dsimp only [Rd]; exact (if_pos ⟨rfl, rfl⟩).trans (if_neg h)
theorem duties_none (c : Dev nD) (s : DmaSem sig) (h : dec s = Kind.none) (r : ℕ) : (Rd A).duties (cellD c s) r = ∅ := by
  show (if _ then (if dec s = Kind.none then (∅ : Finset (Fin 15)) else {0}) else ∅) = ∅
  rw [if_pos h, ite_self]
theorem duties_later (g : GSem nD τ sig) (r : ℕ) (h : 1 ≤ r) : (Rd A).duties g r = ∅ := if_neg fun e => by omega

theorem expect_bar (c : Dev nD) : (Rd A).expect (barC c) 0 = 15 := by
  unfold Schedule.expect Schedule.amountOf
  rw [duties_bar]
  show ∑ _ : Fin 15, 1 = 15
  rfl
theorem expect_dma (c : Dev nD) (s : DmaSem sig) (h : dec s ≠ Kind.none) : (Rd A).expect (cellD c s) 0 = amtK (dec s) := by
  unfold Schedule.expect Schedule.amountOf
  rw [duties_dma A c s h, Finset.sum_singleton]
  rfl
theorem rest_bar (c : Dev nD) : bigSep ((Rd A).duties (barC c) 0 \ ∅) (fun d => (Rd A).payload (barC c) 0 d)
    = (bigSep Finset.univ fun d => barPay (F := F) c d) := by
  rw [Finset.sdiff_empty, duties_bar]; rfl
theorem rest_dma (c : Dev nD) (s : DmaSem sig) (h : dec s ≠ Kind.none) :
    bigSep ((Rd A).duties (cellD c s) 0 \ ∅) (fun d => (Rd A).payload (cellD c s) 0 d) = payK A (dec s) c := by
  rw [Finset.sdiff_empty, duties_dma A c s h, bigSep_singleton]; rfl

/-! ## What is owed, and the order of the waits -/

abbrev Owed : Type := CellTallies nD τ sig Unit

/-- What the rest of a loop owes: `n` on each of the cells listed. -/
def oL (g : Fin 15 → GSem nD τ sig) (n : ℕ) (l : List (Fin 15)) (rest : Owed) : Owed :=
  l.foldr (fun i o => o + tallyAt (g i) () n) rest

/-- The arrivals of a round, at the others, of the copies device `c` sends. -/
abbrev rsT (c : Dev nD) (b : Fin 2) (j : Fin 15) : GSem nD τ sig := rsRc (dst c j) b (Fin.rev j)
abbrev agT (c : Dev nD) (b : Fin 2) (j : Fin 15) : GSem nD τ sig := agRc (dst c j) b (Fin.rev j)

def Oag1 (c : Dev nD) : Owed := oL (agT c 1) N I15 0
def Oag0 (c : Dev nD) : Owed := oL (agT c 0) N I15 (Oag1 c)
def Ors1 (c : Dev nD) : Owed := oL (rsT c 1) N I15 (Oag0 c)
def Ors0 (c : Dev nD) : Owed := oL (rsT c 0) N I15 (Ors1 c)
def O₀ (c : Dev nD) : Owed := oL (fun i => barC (dst c i)) 1 I15 (Ors0 c)

def L (g : GSem nD τ sig) : Finset Unit := if g.1.2 = .tc then {()} else ∅

def lvK : Kind → ℕ
  | .rsR _ _ => 2
  | .agR _ _ => 3
  | _ => 0
/-- The barrier, then the arrivals of the first round, then those of the second; the rest before all. -/
def lv (g : GSem nD τ sig) (_ : Unit) : ℕ := match g.2 with
  | .reg _ => 1
  | .dma s => lvK (dec s)

theorem L_of_ne (g : GSem nD τ sig) (h : g.1.2 ≠ .tc) : L g = ∅ := if_neg h
theorem L_tc (c : Dev nD) (sm : SemLoc sig) : L ((c : Thread nD τ), sm) = {()} := if_pos rfl

/-- All that is owed lies above level `n`. -/
def Above (n : ℕ) (O : Owed) : Prop := ∀ g u, 0 < O g u → g.1.2 = .tc ∧ n < lv g u

theorem above_zero (n : ℕ) : Above n 0 := fun g u h => absurd h (Nat.lt_irrefl 0)
theorem above_oL {n : ℕ} (g : Fin 15 → GSem nD τ sig) (k : ℕ) (hg : ∀ i, (g i).1.2 = .tc ∧ n < lv (g i) ()) {rest : Owed}
    (hr : Above n rest) : ∀ l, Above n (oL g k l rest)
  | [] => hr
  | i :: l => fun x u h => by
    have e : oL g k (i :: l) rest = oL g k l rest + tallyAt (g i) () k := rfl
    rw [e, Pi.add_apply, Finsupp.add_apply] at h
    rcases Nat.add_pos_iff_pos_or_pos.mp h with h | h
    · exact above_oL g k hg hr l x u h
    · rw [tallyAt_apply] at h
      split at h
      · next hx => rw [hx.1]; exact hg i
      · exact absurd h (Nat.lt_irrefl 0)
theorem above_mono {n n' : ℕ} (h : n ≤ n') {O : Owed} (hO : Above n' O) : Above n O := fun g u hg => ⟨(hO g u hg).1, lt_of_le_of_lt h (hO g u hg).2⟩

theorem lv_rsT (c : Dev nD) (b : Fin 2) (j : Fin 15) : lv (rsT c b j) () = 2 := by
  show lvK (dec (sAt cc0_scratch6 (Fin.rev j) b)) = 2; rw [dec_rsR]; rfl
theorem lv_agT (c : Dev nD) (b : Fin 2) (j : Fin 15) : lv (agT c b j) () = 3 := by
  show lvK (dec (sAt cc0_scratch8 (Fin.rev j) b)) = 3; rw [dec_agR]; rfl

theorem above_ag (c : Dev nD) (b : Fin 2) {rest : Owed} (h : Above 2 rest) (l) : Above 2 (oL (agT c b) N l rest) :=
  above_oL _ _ (fun j => ⟨rfl, by rw [lv_agT]; decide⟩) h l
theorem above_rs (c : Dev nD) (b : Fin 2) {rest : Owed} (h : Above 1 rest) (l) : Above 1 (oL (rsT c b) N l rest) :=
  above_oL _ _ (fun j => ⟨rfl, by rw [lv_rsT]; decide⟩) h l
theorem above_Oag1 (c : Dev nD) : Above 2 (Oag1 c) := above_ag c 1 (above_zero 2) _
theorem above_Oag0 (c : Dev nD) : Above 2 (Oag0 c) := above_ag c 0 (above_Oag1 c) _
theorem above_Ors1 (c : Dev nD) : Above 1 (Ors1 c) := above_rs c 1 (above_mono (by decide) (above_Oag0 c)) _
theorem above_Ors0 (c : Dev nD) : Above 1 (Ors0 c) := above_rs c 0 (above_Ors1 c) _
theorem above_O₀ (c : Dev nD) : Above 0 (O₀ c) :=
  above_oL _ _ (fun i => ⟨rfl, Nat.one_pos⟩) (above_mono (Nat.zero_le 1) (above_Ors0 c)) _

theorem mayWait (c : Dev nD) (sm : SemLoc sig) (n : ℕ) {O : Owed} (hs : lv ((c : Thread nD τ), sm) () ≤ n) (hO : Above n O) :
    (levAts L lv : sProp 𝕄) ⊢ MayWait (c : Thread nD τ) sm () O :=
  MayOwe.of_cut (L := L) (lev := lv) n
    (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hs)
    (fun g u hg => (hO g u hg).2)

end Cert.KernelIdeal.Att

end
-- ==== Proof.Steps.lean ====
module

public import proofs.«01_k».proof.Proof.Proto

/-! # The loops' rules

One rule for a loop over the fifteen others, then each of the body's loops by the rule of its one step. -/

@[expose] public section

noncomputable section

namespace Cert.KernelIdeal.Att

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## The kernel's own semaphores and the cells -/

/-- The four arrays of sixteen by two, and the two arrays of two. -/
abbrev OS : Type := (Fin 4 × Fin 16 × Fin 2) ⊕ (Fin 2 × Fin 2)

def osem : OS → SemLoc sig
  | .inl (a, r, b) => .dma (⟨3 + 32 * a.val + 2 * r.val + b.val, by have := a.isLt; have := r.isLt; have := b.isLt; show _ < 135; omega⟩ : Fin 135)
  | .inr (a, b) => .dma (⟨131 + 2 * a.val + b.val, by have := a.isLt; have := b.isLt; show _ < 135; omega⟩ : Fin 135)

theorem osem_rsS : ∀ (i : Fin 15) (b : Fin 2), osem (.inl (0, i.succ, b)) = .dma (sAt cc0_scratch5 i b) := by decide +kernel
theorem osem_rsR : ∀ (i : Fin 15) (b : Fin 2), osem (.inl (1, i.succ, b)) = .dma (sAt cc0_scratch6 i b) := by decide +kernel
theorem osem_agS : ∀ (i : Fin 15) (b : Fin 2), osem (.inl (2, i.succ, b)) = .dma (sAt cc0_scratch7 i b) := by decide +kernel
theorem osem_agR : ∀ (i : Fin 15) (b : Fin 2), osem (.inl (3, i.succ, b)) = .dma (sAt cc0_scratch8 i b) := by decide +kernel
theorem osem_inp : ∀ b : Fin 2, osem (.inr (0, b)) = .dma (sAt2 cc0_scratch9 b) := by decide +kernel
theorem osem_st : ∀ b : Fin 2, osem (.inr (1, b)) = .dma (sAt2 cc0_scratch10 b) := by decide +kernel
theorem osem_inj : Function.Injective osem := by
  have h : ∀ k k' : OS, osem k = osem k' → k = k' := by decide +kernel
  exact fun k k' => h k k'

abbrev ownC (c : Dev nD) (k : OS) : GSem nD τ sig := ((c : Thread nD τ), osem k)

/-- The barrier cells, and the kernel's own. -/
def barCs : Finset (GSem nD τ sig) := Finset.univ.map ⟨fun c : Dev nD => barC c, fun c c' h => by cases h; rfl⟩
def ownCs : Finset (GSem nD τ sig) :=
  Finset.univ.map ⟨fun p : Dev nD × OS => ownC p.1 p.2, fun p p' h => by
    have h1 : p.1 = p'.1 := congrArg (fun g : GSem nD τ sig => g.1.1) h
    have h2 : osem p.2 = osem p'.2 := congrArg (fun g : GSem nD τ sig => g.2) h
    exact Prod.ext h1 (osem_inj h2)⟩

theorem mem_bar (c : Dev nD) : barC c ∈ barCs := Finset.mem_map.mpr ⟨c, Finset.mem_univ _, rfl⟩
theorem mem_own (c : Dev nD) (k : OS) : ownC c k ∈ ownCs := Finset.mem_map.mpr ⟨(c, k), Finset.mem_univ _, rfl⟩

/-- The semaphores that count a copy. -/
def Own (s : DmaSem sig) : Prop := ∃ k, osem k = .dma s
theorem own_rsS (i b) : Own (sAt cc0_scratch5 i b) := ⟨_, osem_rsS i b⟩
theorem own_rsR (i b) : Own (sAt cc0_scratch6 i b) := ⟨_, osem_rsR i b⟩
theorem own_agS (i b) : Own (sAt cc0_scratch7 i b) := ⟨_, osem_agS i b⟩
theorem own_agR (i b) : Own (sAt cc0_scratch8 i b) := ⟨_, osem_agR i b⟩
theorem own_inp (b) : Own (sAt2 cc0_scratch9 b) := ⟨_, osem_inp b⟩
theorem own_st (b) : Own (sAt2 cc0_scratch10 b) := ⟨_, osem_st b⟩

variable (A : Dev nD → Ins F) (κ : GSem nD τ sig → ℕ)

/-- What every device knows from the launch on: each cell's invariant, and that each barrier has begun. -/
def recs : sProp 𝕄 :=
  iprop((bigSep (barCs ∪ ownCs) fun g => cellInv ER (Rd A) (κ g) g) ∗ bigSep barCs fun g => reached ER g 0)
/-- With what device `c` learns as it opens its own cells. -/
def P (c : Dev nD) : sProp 𝕄 := iprop(recs A κ ∗ (bigSep Finset.univ fun k : OS => reached ER (ownC c k) 0) ∗ levAts L lv)

instance recs_persistent : BI.Persistent (recs A κ) := by unfold recs; infer_instance
instance P_persistent (c : Dev nD) : BI.Persistent (P A κ c) := by unfold P; infer_instance

theorem recs_bar (d : Dev nD) : recs A κ ⊢ cellInv ER (Rd A) (κ (barC d)) (barC d) := by
  have h := bigSep_elim (M := 𝕄) (Φ := fun g => cellInv ER (Rd A) (κ g) g) (Finset.mem_union_left ownCs (mem_bar d))
  unfold recs
  iintro ⟨H, -⟩
  iapply (show (_ : sProp 𝕄) ⊢ _ from h) $$ H
theorem recs_own (d : Dev nD) (s : DmaSem sig) (h : Own s) : recs A κ ⊢ cellInv ER (Rd A) (κ (cellD d s)) (cellD d s) := by
  obtain ⟨k, hk⟩ := h
  have e : cellD d s = ownC d k := by unfold ownC; rw [hk]
  rw [e]
  have h := bigSep_elim (M := 𝕄) (Φ := fun g => cellInv ER (Rd A) (κ g) g) (Finset.mem_union_right barCs (mem_own d k))
  unfold recs
  iintro ⟨H, -⟩
  iapply (show (_ : sProp 𝕄) ⊢ _ from h) $$ H
theorem recs_barReached (d : Dev nD) : recs A κ ⊢ reached ER (barC d) 0 := by
  have h := bigSep_elim (M := 𝕄) (Φ := fun g => reached ER g 0) (mem_bar d)
  unfold recs
  iintro ⟨-, H⟩
  iapply (show (_ : sProp 𝕄) ⊢ _ from h) $$ H
theorem P_recs (c : Dev nD) : P A κ c ⊢ recs A κ := by unfold P; iintro ⟨H, -⟩; iexact H
theorem P_lev (c : Dev nD) : P A κ c ⊢ levAts L lv := by unfold P; iintro ⟨-, -, H⟩; iexact H
set_option maxRecDepth 20000 in
theorem P_mayWait (c : Dev nD) (sm : SemLoc sig) (n : ℕ) {O : Owed} (hs : lv ((c : Thread nD τ), sm) () ≤ n) (hO : Above n O) :
    P A κ c ⊢ MayWait (c : Thread nD τ) sm () O := (P_lev A κ c).trans (mayWait c sm n hs hO)
theorem P_bar (c d : Dev nD) : P A κ c ⊢ cellInv ER (Rd A) (κ (barC d)) (barC d) := (P_recs A κ c).trans (recs_bar A κ d)
theorem P_own (c d : Dev nD) (s : DmaSem sig) (h : Own s) : P A κ c ⊢ cellInv ER (Rd A) (κ (cellD d s)) (cellD d s) :=
  (P_recs A κ c).trans (recs_own A κ d s h)
theorem P_barReached (c d : Dev nD) : P A κ c ⊢ reached ER (barC d) 0 := (P_recs A κ c).trans (recs_barReached A κ d)
theorem P_reached (c : Dev nD) (s : DmaSem sig) (h : Own s) : P A κ c ⊢ reached ER (cellD c s) 0 := by
  obtain ⟨k, hk⟩ := h
  have e : cellD c s = ownC c k := by unfold ownC; rw [hk]
  rw [e]
  have h := bigSep_elim (M := 𝕄) (Φ := fun k : OS => reached ER (ownC c k) 0) (Finset.mem_univ k)
  unfold P
  iintro ⟨-, H, -⟩
  iapply (show (_ : sProp 𝕄) ⊢ _ from h) $$ H

/-! ## A loop by the rule of its step -/

/-- Device `c` runs `k` to `Q`. -/
abbrev WPc (c : Dev nD) (k : PR F) (Q : PUnit → sProp 𝕄) : sProp 𝕄 := wp frame (wpE (defs₀ (F := F)) 𝒱₀ (c : Thread nD τ) none) Set.univ k Q

/-- Device `c` owes `O`. -/
def ow (c : Dev nD) (O : Owed) : sProp 𝕄 := iprop(∃ W, owes (c : Thread nD τ) O W)

def bigL (l : List (Fin 15)) (Φ : Fin 15 → sProp 𝕄) : sProp 𝕄 := l.foldr (fun i p => iprop(Φ i ∗ p)) iprop(emp)

theorem bigL_eq (Φ : Fin 15 → sProp 𝕄) : ∀ l : List (Fin 15), l.Nodup → bigL l Φ = bigSep l.toFinset Φ
  | [], _ => by rw [List.toFinset_nil, bigSep_empty]; rfl
  | i :: l, h => by
    rw [List.toFinset_cons, bigSep_insert (by rw [List.mem_toFinset]; exact (List.nodup_cons.mp h).1), ← bigL_eq Φ l (List.nodup_cons.mp h).2]
    rfl
theorem bigL_I15 (Φ : Fin 15 → sProp 𝕄) : bigL I15 Φ = bigSep Finset.univ Φ := by
  rw [bigL_eq Φ I15 (by decide), show (I15).toFinset = Finset.univ from by decide]

theorem loopL (c : Dev nD) (J : List (Fin 15) → sProp 𝕄) (Φ Ψ : Fin 15 → sProp 𝕄) (f : Fin 15 → PR F → PR F) (rest : PR F) (Q : PUnit → sProp 𝕄)
    (step : ∀ i l k, iprop(J (i :: l) ∗ Φ i ∗ (J l ∗ Ψ i -∗ WPc c k Q)) ⊢ WPc c (f i k) Q) :
    ∀ l, iprop(J l ∗ bigL l Φ ∗ (J [] ∗ bigL l Ψ -∗ WPc c rest Q)) ⊢ WPc c (l.foldr f rest) Q
  | [] => by
    iintro ⟨HJ, HΦ, HK⟩
    iapply HK
    isplitl [HJ]; · iexact HJ
    iexact HΦ
  | i :: l => by
    show _ ⊢ WPc c (f i (l.foldr f rest)) Q
    refine BI.Entails.trans ?_ (step i l (l.foldr f rest))
    show iprop(J (i :: l) ∗ (Φ i ∗ bigL l Φ) ∗ (J [] ∗ (Ψ i ∗ bigL l Ψ) -∗ WPc c rest Q)) ⊢ _
    iintro ⟨HJ, ⟨Hi, HΦ⟩, HK⟩
    isplitl [HJ]; · iexact HJ
    isplitl [Hi]; · iexact Hi
    iintro ⟨HJ, Hi⟩
    iapply (loopL c J Φ Ψ f rest Q step l)
    isplitl [HJ]; · iexact HJ
    isplitl [HΦ]; · iexact HΦ
    iintro ⟨HJ, HΨ⟩
    iapply HK
    isplitl [HJ]; · iexact HJ
    isplitl [Hi] <;> iassumption

theorem loop15 (c : Dev nD) (J : List (Fin 15) → sProp 𝕄) (Φ Ψ : Fin 15 → sProp 𝕄) (f : Fin 15 → PR F → PR F) (rest : PR F) (Q : PUnit → sProp 𝕄)
    (step : ∀ i l k, iprop(J (i :: l) ∗ Φ i ∗ (J l ∗ Ψ i -∗ WPc c k Q)) ⊢ WPc c (f i k) Q) :
    iprop(J I15 ∗ bigSep Finset.univ Φ ∗ (J [] ∗ bigSep Finset.univ Ψ -∗ WPc c rest Q)) ⊢ WPc c (I15.foldr f rest) Q := by
  rw [← bigL_I15 Φ, ← bigL_I15 Ψ]
  exact loopL c J Φ Ψ f rest Q step I15

/-! ## One wait -/

theorem waitD (c : Dev nD) (s : DmaSem sig) (k : Kind) (hk : dec s = k) (hn : k ≠ .none) (ho : Own s) (n : ℕ) (hl : lvK k ≤ n) (O : Owed) (hO : Above n O)
    {sp sp' : Space} {s' s'' : Shape} {e e' : EltTy} (src : Memref sig .tc sp' s'' e') (dst : Memref sig .tc sp s' e) (hs : src.view.WordExact) (hd : dst.view.WordExact)
    (ha : dst.view.dmaCredit = amtK k) (rest : PR F) (Q : PUnit → sProp 𝕄) :
    iprop(P A κ c ∗ ow c O ∗ cred (tallyAt (cellD c s) () (amtK k)) ∗ atPos ER (cellD c s) 0 ∅ 0
        ∗ (ow c O ∗ atPos ER (cellD c s) 1 ∅ 0 ∗ payK A k c -∗ WPc c rest Q))
      ⊢ WPc c (.op (.waitDma2 s src dst hs hd) fun _ => rest) Q := by
  subst hk
  unfold ow
  iintro ⟨#HP, ⟨%W, HO⟩, Hc, Ha, HK⟩
  iapply (Rounds.wp_wait_rest_token 𝒱₀ ER (Rd A) (c : Thread nD τ) none (κ := κ (cellD c s))
      (wpE_waitDma2_eq (src := src) (dst := dst) 𝒱₀ (c : Thread nD τ) none Set.univ) (Set.mem_univ _) () (O := O) (W := W) (R := 0) (m := 0) (T := ∅)
      ((Nat.zero_add _).trans (ha.trans (expect_dma A c s hn).symm))) $$ [Hc HO Ha]
  · isplitr; · iapply (P_own A κ c c s ho); iexact HP
    isplitl [Hc]; · rw [ha]; iexact Hc
    isplitl [HO]; · iexact HO
    isplitr
    · iapply (P_mayWait A κ c (.dma s) n hl hO); iexact HP
    iexact Ha
  iintro ⟨HO, Ha, -, Hp⟩
  ihave Hp := (Entails.of_eq (rest_dma A c s hn)) $$ Hp
  iapply HK
  isplitl [HO]; · iexists _; iexact HO
  isplitl [Ha] <;> iassumption

end Cert.KernelIdeal.Att

end
-- ==== Proof.Rules.lean ====
module

public import proofs.«01_k».proof.Proof.Steps

/-! # One rule for each loop

The signals, the two rounds of copies and the waits, each loop as one step: what it takes, what it gives
back, and what is still owed after it. -/

@[expose] public section

noncomputable section

namespace Cert.KernelIdeal.Att

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (A : Dev nD → Ins F) (κ : GSem nD τ sig → ℕ)

/-! ## The signals -/

/-- What a signal takes: the right to pay it, and what it hands over. -/
def sigIn (c : Dev nD) (i : Fin 15) : sProp 𝕄 :=
  iprop(dutyTok ER (barC (dst c i)) 0 (Fin.rev i) ∗ barPay (F := F) (dst c i) (Fin.rev i))

theorem sig_step (c : Dev nD) (i : Fin 15) (l : List (Fin 15)) (k : PR F) (Q : PUnit → sProp 𝕄) :
    iprop((P A κ c ∗ ow c (oL (fun i => barC (dst c i)) 1 (i :: l) (Ors0 c))) ∗ sigIn c i
        ∗ ((P A κ c ∗ ow c (oL (fun i => barC (dst c i)) 1 l (Ors0 c))) ∗ emp -∗ WPc c k Q))
      ⊢ WPc c (.op (.semSignal (dst c i, .tc) barS (BitVec.toInt 1#32)) fun _ => k) Q := by
  unfold ow sigIn
  iintro ⟨⟨#HP, ⟨%W, HO⟩⟩, ⟨Ht, Hp⟩, HK⟩
  iapply (Rounds.wp_signal 𝒱₀ ER (Rd A) (c : Thread nD τ) none (dst := (dst c i : Thread nD τ)) (sem := barS) (r := 0) (d := Fin.rev i)
      (κ := κ (barC (dst c i))) (by rw [duties_bar]; exact Finset.mem_univ _) rfl () (oL (fun i => barC (dst c i)) 1 l (Ors0 c)) rfl) $$ [HO Ht Hp]
  · isplitr; · iapply (P_bar A κ c (dst c i)); iexact HP
    isplitl [HO]; · iexact HO
    isplitl [Ht]; · iexact Ht
    isplitl [Hp]
    · rw [show (Rd A).payload (barC (dst c i)) 0 (Fin.rev i) = barPay (F := F) (dst c i) (Fin.rev i) from rfl]; iexact Hp
    iapply (P_barReached A κ c (dst c i)); iexact HP
  iintro HO
  iapply HK
  isplitl [HO]
  · isplitr; · iexact HP
    iexists W; iexact HO
  iempintro

theorem sig_rule (c : Dev nD) (rest : PR F) (Q : PUnit → sProp 𝕄) :
    iprop(P A κ c ∗ ow c (O₀ c) ∗ (bigSep Finset.univ fun i => sigIn (F := F) c i) ∗ (ow c (Ors0 c) -∗ WPc c rest Q))
      ⊢ WPc c (sigL (dst c) rest) Q := by
  have h := loop15 c (fun l => iprop(P A κ c ∗ ow c (oL (fun i => barC (dst c i)) 1 l (Ors0 c)))) (fun i => sigIn (F := F) c i) (fun _ => iprop(emp))
    (fun i k => .op (.semSignal (dst c i, .tc) barS (BitVec.toInt 1#32)) fun _ => k) rest Q (fun i l k => sig_step A κ c i l k Q)
  iintro ⟨#HP, HO, HI, HK⟩
  iapply (show (_ : sProp 𝕄) ⊢ _ from h)
  isplitl [HO]
  · isplitr; · iexact HP
    iexact HO
  isplitl [HI]; · iexact HI
  iintro ⟨⟨-, HO⟩, -⟩
  iapply HK
  iexact HO

/-! ## The barrier -/

theorem bar_wait (c : Dev nD) (rest : PR F) (Q : PUnit → sProp 𝕄) :
    iprop(P A κ c ∗ ow c (Ors0 c) ∗ cred (tallyAt (barC c) () 15) ∗ atPos ER (barC c) 0 ∅ 0
        ∗ (ow c (Ors0 c) ∗ atPos ER (barC c) 1 ∅ 0 ∗ (bigSep Finset.univ fun d => barPay (F := F) c d) -∗ WPc c rest Q))
      ⊢ WPc c (.op (.semWait barS (BitVec.toInt 15#32)) fun _ => rest) Q := by
  unfold ow
  iintro ⟨#HP, ⟨%W, HO⟩, Hc, Ha, HK⟩
  iapply (Rounds.wp_wait_rest_token 𝒱₀ ER (Rd A) (c : Thread nD τ) none (κ := κ (barC c))
      (wpE_semWait_eq 𝒱₀ (c : Thread nD τ) none Set.univ) (Set.mem_univ _) () (O := Ors0 c) (W := W) (R := 0) (m := 0) (T := ∅)
      ((Nat.zero_add 15).trans (expect_bar A c).symm)) $$ [Hc HO Ha]
  · isplitr; · iapply (P_bar A κ c c); iexact HP
    isplitl [Hc]; · iexact Hc
    isplitl [HO]; · iexact HO
    isplitr; · iapply (P_mayWait A κ c (.reg barS) 1 (le_refl 1) (above_Ors0 c)); iexact HP
    iexact Ha
  iintro ⟨HO, Ha, -, Hp⟩
  ihave Hp := (Entails.of_eq (rest_bar A c)) $$ Hp
  iapply HK
  isplitl [HO]; · iexists _; iexact HO
  isplitl [Ha] <;> iassumption

/-! ## The two rounds of copies -/

/-- What a copy of the first round takes. -/
def rsIn (c : Dev nD) (b : Fin 2) (j : Fin 15) : sProp 𝕄 :=
  iprop((∃ f, vP (F := F) (slotV (Fin.rev j) b) (dst c j) fullShare f) ∗ reached ER (rsT c b j) 0
    ∗ vP (partV (ck b (dst c j))) c fullShare (partF A c) ∗ dutyTok ER (rsSc c b (Fin.rev j)) 0 0 ∗ dutyTok ER (rsT c b j) 0 0)

theorem mem_zero {c : Dev nD} {s : DmaSem sig} {k : Kind} (hk : dec s = k) (hn : k ≠ .none) : (0 : Fin 15) ∈ (Rd A).duties (cellD c s) 0 := by
  rw [duties_dma A c s (hk ▸ hn)]; exact Finset.mem_singleton_self _
theorem amt_of {c : Dev nD} {s : DmaSem sig} {k : Kind} (hk : dec s = k) : (Rd A).amount (cellD c s) 0 0 = amtK k := by
  show amtK (dec s) = _; rw [hk]
theorem pay_of {c : Dev nD} {s : DmaSem sig} {k : Kind} (hk : dec s = k) : (Rd A).payload (cellD c s) 0 0 = payK A k c := by
  show payK A (dec s) c = _; rw [hk]

theorem payK_rsS (c : Dev nD) (b : Fin 2) (j : Fin 15) :
    payK A (.rsS (Fin.rev j) b) c = vP (partV (ck b (dst c j))) c fullShare (partF A c) := by
  show vP (partV (ck b (dst c (Fin.rev (Fin.rev j))))) c fullShare (partF A c) = _
  rw [Fin.rev_rev]
theorem payK_agR (c : Dev nD) (b : Fin 2) (j : Fin 15) :
    payK A (.agR (Fin.rev j) b) (dst c j) = vP (outV (ck b c)) (dst c j) fullShare (outF A) := by
  show vP (outV (ck b (dst (dst c j) (Fin.rev j)))) (dst c j) fullShare (outF A) = _
  rw [dst_rev]

theorem rs_step (c : Dev nD) (b : Fin 2) (O : Owed) (j : Fin 15) (l : List (Fin 15)) (k : PR F) (Q : PUnit → sProp 𝕄) :
    iprop((P A κ c ∗ ow c (oL (rsT c b) N (j :: l) O)) ∗ rsIn A c b j
        ∗ ((P A κ c ∗ ow c (oL (rsT c b) N l O)) ∗ cred (tallyAt (rsSc c b (Fin.rev j)) () N) -∗ WPc c k Q))
      ⊢ WPc c (.op (.enqueueDma (partV (ck b (dst c j))) (.remote (Dev.tc (dst c j)) (slotV (Fin.rev j) b) (.dma (sAt cc0_scratch5 (Fin.rev j) b)))
          (.dma (sAt cc0_scratch6 (Fin.rev j) b)) (partV_words (ck b (dst c j))) (slotV_words (Fin.rev j) b) ⟨⟨rfl, Or.inl rfl⟩, trivial⟩) fun _ => k) Q := by
  unfold ow rsIn
  iintro ⟨⟨#HP, ⟨%W, HO⟩⟩, ⟨⟨%f, Hd⟩, #Hr, Hs, Ht, Ht'⟩, HK⟩
  iapply (Rounds.wp_send_pointsTo 𝒱₀ ER (Rd A) (c : Thread nD τ) none (c' := (dst c j : Thread nD τ)) (src := partV (ck b (dst c j))) (dst := slotV (Fin.rev j) b)
      (sS := .dma (sAt cc0_scratch5 (Fin.rev j) b)) (sem := .dma (sAt cc0_scratch6 (Fin.rev j) b)) (q := fullShare) (fs := partF A c)
      (κ₁ := κ (rsSc c b (Fin.rev j))) (κ₂ := κ (rsT c b j)) (r₁ := 0) (r₂ := 0) (d₁ := 0) (d₂ := 0) (fd := f)
      (mem_zero A (dec_rsS _ b) nofun) (mem_zero A (dec_rsR _ b) nofun)
      () () N rfl (amt_of A (dec_rsS _ b)) (amt_of A (dec_rsR _ b)) (oL (rsT c b) N l O) rfl (W := W)
      (by rw [pay_of A (dec_rsS _ b), payK_rsS])
      (by rw [pay_of A (dec_rsR _ b)]
          exact Entails.of_eq (pointsTo_congr (write_eq_of _ _ _ _ (landed_rs A c b j))))) $$ [HO Hd Hs Ht Ht']
  · isplitr; · iapply (P_own A κ c c _ (own_rsS _ b)); iexact HP
    isplitr; · iapply (P_own A κ c (dst c j) _ (own_rsR _ b)); iexact HP
    isplitl [Hs]; · iexact Hs
    isplitl [Hd]; · iexact Hd
    isplitl [HO]; · iexact HO
    isplitl [Ht]; · iexact Ht
    isplitr; · iapply (P_reached A κ c _ (own_rsS _ b)); iexact HP
    isplitl [Ht']; · iexact Ht'
    iexact Hr
  iintro ⟨Hc, HO⟩
  iapply HK
  isplitl [HO]
  · isplitr; · iexact HP
    iexists W; iexact HO
  iexact Hc

theorem rs_rule (c : Dev nD) (b : Fin 2) (O : Owed) (rest : PR F) (Q : PUnit → sProp 𝕄) :
    iprop(P A κ c ∗ ow c (oL (rsT c b) N I15 O) ∗ (bigSep Finset.univ fun j => rsIn A c b j)
        ∗ (ow c O ∗ (bigSep Finset.univ fun j : Fin 15 => cred (tallyAt (rsSc c b (Fin.rev j)) () N)) -∗ WPc c rest Q))
      ⊢ WPc c (rsSendL b (dst c) (fun j => ck b (dst c j)) rest) Q := by
  have h := loop15 c (fun l => iprop(P A κ c ∗ ow c (oL (rsT c b) N l O))) (fun j => rsIn A c b j) (fun j => cred (tallyAt (rsSc c b (Fin.rev j)) () N))
    _ rest Q (fun j l k => rs_step A κ c b O j l k Q)
  iintro ⟨#HP, HO, HI, HK⟩
  iapply (show (_ : sProp 𝕄) ⊢ _ from h)
  isplitl [HO]
  · isplitr; · iexact HP
    iexact HO
  isplitl [HI]; · iexact HI
  iintro ⟨⟨-, HO⟩, HC⟩
  iapply HK
  isplitl [HO]; · iexact HO
  iexact HC

/-- What a copy of the second round takes. -/
def agIn (c : Dev nD) (b : Fin 2) (j : Fin 15) : sProp 𝕄 :=
  iprop((∃ f, vP (F := F) (outV (ck b c)) (dst c j) fullShare f) ∗ reached ER (agT c b j) 0
    ∗ vP (redV b) c (shr (Fin.rev j).succ) (redF A c) ∗ dutyTok ER (agSc c b (Fin.rev j)) 0 0 ∗ dutyTok ER (agT c b j) 0 0)

theorem ag_step (c : Dev nD) (b : Fin 2) (O : Owed) (j : Fin 15) (l : List (Fin 15)) (k : PR F) (Q : PUnit → sProp 𝕄) :
    iprop((P A κ c ∗ ow c (oL (agT c b) N (j :: l) O)) ∗ agIn A c b j
        ∗ ((P A κ c ∗ ow c (oL (agT c b) N l O)) ∗ cred (tallyAt (agSc c b (Fin.rev j)) () N) -∗ WPc c k Q))
      ⊢ WPc c (.op (.enqueueDma (redV b) (.remote (Dev.tc (dst c j)) (outV (ck b c)) (.dma (sAt cc0_scratch7 (Fin.rev j) b)))
          (.dma (sAt cc0_scratch8 (Fin.rev j) b)) (redV_words b) (outV_words (ck b c)) ⟨⟨rfl, Or.inl rfl⟩, trivial⟩) fun _ => k) Q := by
  unfold ow agIn
  iintro ⟨⟨#HP, ⟨%W, HO⟩⟩, ⟨⟨%f, Hd⟩, #Hr, Hs, Ht, Ht'⟩, HK⟩
  iapply (Rounds.wp_send_pointsTo 𝒱₀ ER (Rd A) (c : Thread nD τ) none (c' := (dst c j : Thread nD τ)) (src := redV b) (dst := outV (ck b c))
      (sS := .dma (sAt cc0_scratch7 (Fin.rev j) b)) (sem := .dma (sAt cc0_scratch8 (Fin.rev j) b)) (q := shr (Fin.rev j).succ) (fs := redF A c)
      (κ₁ := κ (agSc c b (Fin.rev j))) (κ₂ := κ (agT c b j)) (r₁ := 0) (r₂ := 0) (d₁ := 0) (d₂ := 0) (fd := f)
      (mem_zero A (dec_agS _ b) nofun) (mem_zero A (dec_agR _ b) nofun)
      () () N rfl (amt_of A (dec_agS _ b)) (amt_of A (dec_agR _ b)) (oL (agT c b) N l O) rfl (W := W)
      (by rw [pay_of A (dec_agS _ b)]; exact BI.Entails.refl _)
      (by rw [pay_of A (dec_agR _ b), payK_agR]
          exact Entails.of_eq (pointsTo_congr (write_eq_of _ _ _ _ (landed_ag A c b))))) $$ [HO Hd Hs Ht Ht']
  · isplitr; · iapply (P_own A κ c c _ (own_agS _ b)); iexact HP
    isplitr; · iapply (P_own A κ c (dst c j) _ (own_agR _ b)); iexact HP
    isplitl [Hs]; · iexact Hs
    isplitl [Hd]; · iexact Hd
    isplitl [HO]; · iexact HO
    isplitl [Ht]; · iexact Ht
    isplitr; · iapply (P_reached A κ c _ (own_agS _ b)); iexact HP
    isplitl [Ht']; · iexact Ht'
    iexact Hr
  iintro ⟨Hc, HO⟩
  iapply HK
  isplitl [HO]
  · isplitr; · iexact HP
    iexists W; iexact HO
  iexact Hc

theorem ag_rule (c : Dev nD) (b : Fin 2) (O : Owed) (rest : PR F) (Q : PUnit → sProp 𝕄) :
    iprop(P A κ c ∗ ow c (oL (agT c b) N I15 O) ∗ (bigSep Finset.univ fun j => agIn A c b j)
        ∗ (ow c O ∗ (bigSep Finset.univ fun j : Fin 15 => cred (tallyAt (agSc c b (Fin.rev j)) () N)) -∗ WPc c rest Q))
      ⊢ WPc c (agSendL b (dst c) (ck b c) rest) Q := by
  have h := loop15 c (fun l => iprop(P A κ c ∗ ow c (oL (agT c b) N l O))) (fun j => agIn A c b j) (fun j => cred (tallyAt (agSc c b (Fin.rev j)) () N))
    _ rest Q (fun j l k => ag_step A κ c b O j l k Q)
  iintro ⟨#HP, HO, HI, HK⟩
  iapply (show (_ : sProp 𝕄) ⊢ _ from h)
  isplitl [HO]
  · isplitr; · iexact HP
    iexact HO
  isplitl [HI]; · iexact HI
  iintro ⟨⟨-, HO⟩, HC⟩
  iapply HK
  isplitl [HO]; · iexact HO
  iexact HC

/-! ## The waits -/

/-- What a wait takes, and what it gives. -/
def wtIn (g : GSem nD τ sig) : sProp 𝕄 := iprop(cred (tallyAt g () N) ∗ atPos ER g 0 ∅ 0)
def wtOut (g : GSem nD τ sig) (p : sProp 𝕄) : sProp 𝕄 := iprop(atPos ER g 1 ∅ 0 ∗ p)

/-- A loop of fifteen waits, from the one wait. -/
theorem wait_loop (c : Dev nD) (s : Fin 15 → DmaSem sig) (kd : Fin 15 → Kind) (O : Owed) (f : Fin 15 → PR F → PR F) (rest : PR F) (Q : PUnit → sProp 𝕄)
    (hw : ∀ i k, iprop(P A κ c ∗ ow c O ∗ cred (tallyAt (cellD c (s i)) () N) ∗ atPos ER (cellD c (s i)) 0 ∅ 0
        ∗ (ow c O ∗ atPos ER (cellD c (s i)) 1 ∅ 0 ∗ payK A (kd i) c -∗ WPc c k Q)) ⊢ WPc c (f i k) Q) :
    iprop(P A κ c ∗ ow c O ∗ (bigSep Finset.univ fun i => wtIn (F := F) (cellD c (s i)))
        ∗ (ow c O ∗ (bigSep Finset.univ fun i => wtOut (cellD c (s i)) (payK A (kd i) c)) -∗ WPc c rest Q))
      ⊢ WPc c (I15.foldr f rest) Q := by
  have h := loop15 c (fun l => iprop(P A κ c ∗ ow c O)) (fun i => wtIn (F := F) (cellD c (s i))) (fun i => wtOut (cellD c (s i)) (payK A (kd i) c))
    f rest Q (fun i l k => by
      unfold wtIn wtOut
      iintro ⟨⟨#HP, HO⟩, ⟨Hc, Ha⟩, HK⟩
      iapply (hw i k)
      isplitr; · iexact HP
      isplitl [HO]; · iexact HO
      isplitl [Hc]; · iexact Hc
      isplitl [Ha]; · iexact Ha
      iintro ⟨HO, Ha, Hp⟩
      iapply HK
      isplitl [HO]
      · isplitr; · iexact HP
        iexact HO
      isplitl [Ha] <;> iassumption)
  iintro ⟨#HP, HO, HI, HK⟩
  iapply (show (_ : sProp 𝕄) ⊢ _ from h)
  isplitl [HO]
  · isplitr; · iexact HP
    iexact HO
  isplitl [HI]; · iexact HI
  iintro ⟨⟨-, HO⟩, HC⟩
  iapply HK
  isplitl [HO]; · iexact HO
  iexact HC

theorem credit_slot (i : Fin 15) (b : Fin 2) : (slotV i b).view.dmaCredit = N := rfl
theorem credit_out (o : Off) : (outV o).view.dmaCredit = N := rfl
theorem credit_head (b : Fin 2) : (headV b).view.dmaCredit = N := rfl
theorem credit_red (b : Fin 2) : (redV b).view.dmaCredit = N := rfl

theorem rs_waits (c : Dev nD) (b : Fin 2) (O : Owed) (hO : Above 2 O) (rest : PR F) (Q : PUnit → sProp 𝕄) :
    iprop(P A κ c ∗ ow c O ∗ (bigSep Finset.univ fun i => wtIn (F := F) (rsRc c b i))
        ∗ (ow c O ∗ (bigSep Finset.univ fun i => wtOut (rsRc c b i) (vP (slotV i b) c fullShare (rsF A c))) -∗ WPc c rest Q))
      ⊢ WPc c (rsWaitL b rest) Q :=
  wait_loop A κ c (fun i => sAt cc0_scratch6 i b) (fun i => .rsR i b) O
    (fun i k => .op (.waitDma2 (sAt cc0_scratch6 i b) (slotV i b) (slotV i b) (slotV_words i b) (slotV_words i b)) fun _ => k) rest Q fun i k =>
    waitD A κ c _ _ (dec_rsR i b) nofun (own_rsR i b) 2 (le_refl 2) O hO (slotV i b) (slotV i b) (slotV_words i b) (slotV_words i b) (credit_slot i b) k Q

theorem ag_waits (c : Dev nD) (b : Fin 2) (rest : PR F) (Q : PUnit → sProp 𝕄) :
    iprop(P A κ c ∗ ow c 0 ∗ (bigSep Finset.univ fun i => wtIn (F := F) (agRc c b i))
        ∗ (ow c 0 ∗ (bigSep Finset.univ fun i => wtOut (agRc c b i) (vP (outV (ck b (dst c i))) c fullShare (outF A))) -∗ WPc c rest Q))
      ⊢ WPc c (agWaitL b (fun i => ck b (dst c i)) rest) Q :=
  wait_loop A κ c (fun i => sAt cc0_scratch8 i b) (fun i => .agR i b) 0
    (fun i k => .op (.waitDma2 (sAt cc0_scratch8 i b) (redV b) (outV (ck b (dst c i))) (redV_words b) (outV_words (ck b (dst c i)))) fun _ => k) rest Q fun i k =>
    waitD A κ c _ _ (dec_agR i b) nofun (own_agR i b) 3 (le_refl 3) 0 (above_zero 3) (redV b) (outV (ck b (dst c i))) (redV_words b) (outV_words (ck b (dst c i)))
      (credit_out (ck b (dst c i))) k Q

theorem sent_waits (c : Dev nD) (b : Fin 2) (rest : PR F) (Q : PUnit → sProp 𝕄) :
    iprop(P A κ c ∗ ow c 0 ∗ (bigSep Finset.univ fun i => iprop(wtIn (F := F) (rsSc c b i) ∗ wtIn (F := F) (agSc c b i)))
        ∗ (ow c 0 ∗ (bigSep Finset.univ fun i => iprop(wtOut (rsSc c b i) (vP (partV (ck b (dst c (Fin.rev i)))) c fullShare (partF A c))
            ∗ wtOut (agSc c b i) (vP (redV b) c (shr i.succ) (redF A c)))) -∗ WPc c rest Q))
      ⊢ WPc c (sentL b rest) Q := by
  have h := loop15 c (fun l => iprop(P A κ c ∗ ow c 0)) (fun i => iprop(wtIn (F := F) (rsSc c b i) ∗ wtIn (F := F) (agSc c b i)))
    (fun i => iprop(wtOut (rsSc c b i) (vP (partV (ck b (dst c (Fin.rev i)))) c fullShare (partF A c)) ∗ wtOut (agSc c b i) (vP (redV b) c (shr i.succ) (redF A c))))
    (fun i k => .op (.waitDma2 (sAt cc0_scratch5 i b) (slotV i b) (headV b) (slotV_words i b) (headV_words b)) fun _ =>
      .op (.waitDma2 (sAt cc0_scratch7 i b) (slotV i b) (redV b) (slotV_words i b) (redV_words b)) fun _ => k) rest Q (fun i l k => by
      unfold wtIn wtOut
      iintro ⟨⟨#HP, HO⟩, ⟨⟨Hc, Ha⟩, Hc', Ha'⟩, HK⟩
      iapply (waitD A κ c _ _ (dec_rsS i b) nofun (own_rsS i b) 0 (le_refl 0) 0 (above_zero 0) (slotV i b) (headV b) (slotV_words i b) (headV_words b) (credit_head b) _ Q)
      isplitr; · iexact HP
      isplitl [HO]; · iexact HO
      isplitl [Hc]; · iexact Hc
      isplitl [Ha]; · iexact Ha
      iintro ⟨HO, Ha, Hp⟩
      iapply (waitD A κ c _ _ (dec_agS i b) nofun (own_agS i b) 0 (le_refl 0) 0 (above_zero 0) (slotV i b) (redV b) (slotV_words i b) (redV_words b) (credit_red b) k Q)
      isplitr; · iexact HP
      isplitl [HO]; · iexact HO
      isplitl [Hc']; · iexact Hc'
      isplitl [Ha']; · iexact Ha'
      iintro ⟨HO, Ha', Hp'⟩
      iapply HK
      isplitl [HO]
      · isplitr; · iexact HP
        iexact HO
      ihave Hp := (Entails.of_eq (show payK A (.rsS i b) c = vP (partV (ck b (dst c (Fin.rev i)))) c fullShare (partF A c) from rfl)) $$ Hp
      ihave Hp' := (Entails.of_eq (show payK A (.agS i b) c = vP (redV b) c (shr i.succ) (redF A c) from rfl)) $$ Hp'
      isplitl [Ha Hp]
      · isplitl [Ha]; · iexact Ha
        iexact Hp
      isplitl [Ha']; · iexact Ha'
      iexact Hp')
  iintro ⟨#HP, HO, HI, HK⟩
  iapply (show (_ : sProp 𝕄) ⊢ _ from h)
  isplitl [HO]
  · isplitr; · iexact HP
    iexact HO
  isplitl [HI]; · iexact HI
  iintro ⟨⟨-, HO⟩, HC⟩
  iapply HK
  isplitl [HO]; · iexact HO
  iexact HC

end Cert.KernelIdeal.Att

end
-- ==== Proof.Mem.lean ====
module

public import proofs.«01_k».proof.Proof.Rules

/-! # The buffers in pieces, and the loads

A buffer held whole is its rows, its chunks or its slots, each held by itself; and what each load and each
store of the body reads or leaves. -/

@[expose] public section

noncomputable section

namespace Cert.KernelIdeal.Att

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Products over the other devices -/

theorem zipS {I : Type} (s : Finset I) (Φ Ψ : I → sProp 𝕄) : iprop(bigSep s Φ ∗ bigSep s Ψ) ⊢ bigSep s fun i => iprop(Φ i ∗ Ψ i) :=
  Entails.of_eq (bigSep_sep' s Φ Ψ).symm
theorem unzipS {I : Type} (s : Finset I) (Φ Ψ : I → sProp 𝕄) : (bigSep s fun i => iprop(Φ i ∗ Ψ i)) ⊢ iprop(bigSep s Φ ∗ bigSep s Ψ) :=
  Entails.of_eq (bigSep_sep' s Φ Ψ)
theorem two (Φ : Fin 2 → sProp 𝕄) : bigSep Finset.univ Φ = iprop(Φ 0 ∗ Φ 1) := BI.bigSep_fin_two Φ
theorem revS (Φ : Fin 15 → sProp 𝕄) : (bigSep Finset.univ fun j : Fin 15 => Φ (Fin.rev j)) = bigSep Finset.univ Φ :=
  (bigSep_univ_equiv Fin.revPerm Φ).symm

def dstEmb (c : Dev nD) : Fin 15 ↪ Dev nD := ⟨dst c, fun i j h => dst_inj_right c i j h⟩
theorem univ_dev (c : Dev nD) : (Finset.univ : Finset (Dev nD)) = insert c ((Finset.univ : Finset (Fin 15)).map (dstEmb c)) := by
  ext d
  simp only [Finset.mem_univ, Finset.mem_insert, Finset.mem_map, true_and, true_iff]
  rcases exists_dst c d with h | ⟨j, h⟩
  · exact .inl h
  · exact .inr ⟨j, h.symm⟩

/-- Over the devices: this one and the fifteen others. -/
theorem bigSep_dev (c : Dev nD) (Φ : Dev nD → sProp 𝕄) :
    bigSep Finset.univ Φ = iprop(Φ c ∗ bigSep Finset.univ fun j : Fin 15 => Φ (dst c j)) := by
  rw [univ_dev c, bigSep_insert, bigSep_map]
  · rfl
  · rw [Finset.mem_map]
    rintro ⟨j, -, h⟩
    exact dst_ne c j h

/-! ## The pieces -/

/-- A batch's row of the partial products, on device `c`. -/
abbrev rowP (c : Dev nD) (b : Fin 2) (f : Buf (Elt F) ((Memref.whole cc0_scratch2).view.loc (c : Thread nD τ))) : sProp 𝕄 :=
  ((Memref.whole cc0_scratch2).view.loc (c : Thread nD τ)) ↦[(rowR b).set]{fullShare} f

theorem row_disj : ∀ b ∈ (Finset.univ : Finset (Fin 2)), ∀ b' ∈ (Finset.univ : Finset (Fin 2)), b ≠ b' → Disjoint (rowR b).set (rowR b').set := by
  intro b _ b' _ h
  rw [Finset.disjoint_left]
  intro x hx hx'
  rw [mem_rowR] at hx hx'
  exact h (Fin.ext (hx.symm.trans hx'))
theorem row_cover : (Finset.univ : Finset (Fin 2)).biUnion (fun b => (rowR b).set) = Finset.univ := by
  ext x
  simp only [Finset.mem_biUnion, Finset.mem_univ, true_and, iff_true]
  exact ⟨x 0, (mem_rowR _ x).mpr rfl⟩
theorem ck_disj (b : Fin 2) : ∀ s ∈ (Finset.univ : Finset (Dev nD)), ∀ s' ∈ (Finset.univ : Finset (Dev nD)), s ≠ s' →
    Disjoint (ckR (ck b s)).set (ckR (ck b s')).set := by
  intro s _ s' _ h
  rw [Finset.disjoint_left]
  intro x hx hx'
  have h1 := (mem_ck b s x).mp hx
  have h2 := (mem_ck b s' x).mp hx'
  exact h (Fin.ext (h1.2.symm.trans h2.2))
theorem ck_cover (b : Fin 2) : (Finset.univ : Finset (Dev nD)).biUnion (fun s => (ckR (ck b s)).set) = (rowR b).set := by
  ext x
  simp only [Finset.mem_biUnion, Finset.mem_univ, true_and]
  rw [mem_rowR]
  have hx : (x 1).val < 256 := (x 1).isLt
  constructor
  · rintro ⟨s, hs⟩
    exact ((mem_ck b s x).mp hs).1
  · intro h
    exact ⟨⟨(x 1).val / 16, by simp only [nD]; omega⟩, (mem_ck b _ x).mpr ⟨h, rfl⟩⟩

theorem set_partV (b : Fin 2) (s : Dev nD) : (partV (ck b s)).view.set = (ckR (ck b s)).set := by
  rw [View.set_reshape, View.set_slice_whole]
theorem set_outV (b : Fin 2) (s : Dev nD) : (outV (ck b s)).view.set = (ckR (ck b s)).set := by
  rw [View.set_reshape, View.set_slice_whole]
theorem set_slotV (i : Fin 15) (b : Fin 2) : (slotV i b).view.set = (slotR i b).set := by
  rw [View.set_reshape, View.set_slice_whole]
theorem set_redV (b : Fin 2) : (redV b).view.set = (redR b).set := by
  rw [View.set_reshape, View.set_slice_whole]

/-- The partial products are their two rows. -/
theorem part_rows (c : Dev nD) (f : Buf (Elt F) ((Memref.whole cc0_scratch2).view.loc (c : Thread nD τ))) :
    vP (Memref.whole cc0_scratch2) c fullShare f = iprop(rowP c 0 f ∗ rowP c 1 f) := by
  unfold vP
  rw [← two (fun b => rowP c b f)]
  rw [show (Memref.whole cc0_scratch2).view.set = (Finset.univ : Finset (Fin 2)).biUnion (fun b => (rowR b).set) from (View.set_whole cc0_scratch2).trans row_cover.symm]
  exact pointsTo_biUnion _ _ row_disj
/-- A row of them is sixteen chunks. -/
theorem row_chunks (c : Dev nD) (b : Fin 2) (f : Buf (Elt F) ((Memref.whole cc0_scratch2).view.loc (c : Thread nD τ))) :
    rowP c b f = iprop(vP (partV (ck b c)) c fullShare f ∗ bigSep Finset.univ fun j : Fin 15 => vP (partV (ck b (dst c j))) c fullShare f) := by
  rw [← bigSep_dev c (fun s => vP (partV (ck b s)) c fullShare f)]
  unfold rowP
  rw [show (rowR b).set = (Finset.univ : Finset (Dev nD)).biUnion (fun s => (ckR (ck b s)).set) from (ck_cover b).symm]
  refine (pointsTo_biUnion _ _ (ck_disj b)).trans (bigSep_congr fun s _ => ?_)
  unfold vP
  rw [set_partV]
/-- The output is its chunks. -/
theorem out_chunks (c : Dev nD) (f : Buf (Elt F) ((Memref.whole main_v19).view.loc (c : Thread nD τ))) :
    vP (Memref.whole main_v19) c fullShare f
      = iprop((vP (outV (ck 0 c)) c fullShare f ∗ bigSep Finset.univ fun j : Fin 15 => vP (outV (ck 0 (dst c j))) c fullShare f)
        ∗ (vP (outV (ck 1 c)) c fullShare f ∗ bigSep Finset.univ fun j : Fin 15 => vP (outV (ck 1 (dst c j))) c fullShare f)) := by
  rw [← bigSep_dev c (fun s => vP (outV (ck 0 s)) c fullShare f), ← bigSep_dev c (fun s => vP (outV (ck 1 s)) c fullShare f),
    ← two (fun b => bigSep Finset.univ fun s : Dev nD => vP (outV (ck b s)) c fullShare f)]
  unfold vP
  rw [show (Memref.whole main_v19).view.set = (Finset.univ : Finset (Fin 2)).biUnion (fun b => (rowR b).set) from (View.set_whole main_v19).trans row_cover.symm]
  refine (pointsTo_biUnion _ _ row_disj).trans (bigSep_congr fun b _ => ?_)
  rw [show (rowR b).set = (Finset.univ : Finset (Dev nD)).biUnion (fun s => (ckR (ck b s)).set) from (ck_cover b).symm]
  refine (pointsTo_biUnion _ _ (ck_disj b)).trans (bigSep_congr fun s _ => ?_)
  rw [set_outV]
/-- The sums are two batches. -/
theorem red_rows (c : Dev nD) (f : Buf (Elt F) ((Memref.whole cc0_scratch3).view.loc (c : Thread nD τ))) :
    vP (Memref.whole cc0_scratch3) c fullShare f = iprop(vP (redV 0) c fullShare f ∗ vP (redV 1) c fullShare f) := by
  rw [← two (fun b => vP (redV b) c fullShare f)]
  unfold vP
  rw [show (Memref.whole cc0_scratch3).view.set = (Finset.univ : Finset (Fin 2)).biUnion (fun b => (redR b).set) from by
    refine (View.set_whole cc0_scratch3).trans ?_
    ext x
    simp only [Finset.mem_biUnion, Finset.mem_univ, true_and, true_iff]
    exact ⟨(x : S2x16x512.Idx) 0, (mem_redR _ x).mpr rfl⟩]
  refine (pointsTo_biUnion _ _ ?_).trans (bigSep_congr fun b _ => by rw [set_redV])
  intro b _ b' _ h
  rw [Finset.disjoint_left]
  intro x hx hx'
  exact h (Fin.ext (((mem_redR b x).mp hx).symm.trans ((mem_redR b' x).mp hx')))
/-- A batch of sums, at its sixteen shares. -/
theorem red_shares (c : Dev nD) (b : Fin 2) (f : Buf (Elt F) ((redV b).view.loc (c : Thread nD τ))) :
    vP (redV b) c fullShare f = iprop(vP (redV b) c (shr 0) f ∗ bigSep Finset.univ fun i : Fin 15 => vP (redV b) c (shr i.succ) f) := by
  unfold vP
  rw [Transfers.pointsTo_deal (Finset.univ : Finset (Fin 16)) ⟨0, Finset.mem_univ _⟩ fullShare, Fin.univ_succ, Finset.cons_eq_insert, bigSep_insert (by simp), bigSep_map]
  rw [← Finset.cons_eq_insert 0 _ (by simp), ← Fin.univ_succ]
  rfl

/-- All slots. -/
def slotsSet : Finset S16x2x16x512.Idx := (Finset.univ : Finset (Fin 2 × Fin 15)).biUnion fun p => (slotR p.2 p.1).set
theorem slots_disj : ∀ p ∈ (Finset.univ : Finset (Fin 2 × Fin 15)), ∀ p' ∈ (Finset.univ : Finset (Fin 2 × Fin 15)), p ≠ p' →
    Disjoint (slotR p.2 p.1).set (slotR p'.2 p'.1).set := by
  rintro ⟨b, i⟩ _ ⟨b', i'⟩ _ h
  rw [Finset.disjoint_left]
  intro x hx hx'
  have h1 := (mem_slotR i b x).mp hx
  have h2 := (mem_slotR i' b' x).mp hx'
  exact h (Prod.ext (Fin.ext (h1.2.symm.trans h2.2)) (Fin.ext (Nat.succ.inj (h1.1.symm.trans h2.1))))
/-- The slots, each by itself. -/
theorem slots_split (c : Dev nD) (f : Buf (Elt F) ((Memref.whole cc0_scratch4).view.loc (c : Thread nD τ))) :
    (((Memref.whole cc0_scratch4).view.loc (c : Thread nD τ)) ↦[slotsSet]{fullShare} f : sProp 𝕄)
      = iprop((bigSep Finset.univ fun i : Fin 15 => vP (slotV i 0) c fullShare f) ∗ bigSep Finset.univ fun i : Fin 15 => vP (slotV i 1) c fullShare f) := by
  rw [← two (fun b => bigSep Finset.univ fun i : Fin 15 => vP (slotV i b) c fullShare f),
    ← bigSep_univ_prod (fun p : Fin 2 × Fin 15 => vP (slotV p.2 p.1) c fullShare f)]
  unfold slotsSet
  refine (pointsTo_biUnion _ _ slots_disj).trans (bigSep_congr fun p _ => ?_)
  unfold vP
  rw [set_slotV]

/-! ## The loads and the stores -/

/-- A load, from elements held. -/
theorem ldS (c : Dev nD) (Q : PUnit → sProp 𝕄) {cs : CoreSpace} {s : Shape} {e : EltTy} (m : Memref sig .tc cs s e) (r : LoadRect s) (hl : m.view.LoadsAt r) (k : (r.shape.Idx → Elt F e) → PR F)
    (S : Finset (Idx (m.view.loc (c : Thread nD τ)))) (f : Buf (Elt F) (m.view.loc (c : Thread nD τ))) (hS : m.view.setOn r.set ⊆ S) :
    iprop((m.view.loc (c : Thread nD τ) ↦[S]{fullShare} f) ∗ ((m.view.loc (c : Thread nD τ) ↦[S]{fullShare} f) -∗ WPc c (k (m.view.readAt (Elt F) r f)) Q))
      ⊢ WPc c (.op (.load m r hl) k) Q := by
  iintro ⟨H, HK⟩
  iapply (wp_load 𝒱₀ (c : Thread nD τ) none Set.univ (m := m) (r := r) (hl := hl) (k := k) (S := S) (q := fullShare) (f := f) hS) $$ H
  iexact HK
/-- A load from a buffer held whole. -/
theorem ldW (c : Dev nD) (Q : PUnit → sProp 𝕄) {cs : CoreSpace} {s : Shape} {e : EltTy} (m : Memref sig .tc cs s e) (r : LoadRect s) (hl : m.view.LoadsAt r) (k : (r.shape.Idx → Elt F e) → PR F)
    (f : Buf (Elt F) (m.view.loc (c : Thread nD τ))) :
    iprop(vP m c fullShare f ∗ (vP m c fullShare f -∗ WPc c (k (m.view.readAt (Elt F) r f)) Q)) ⊢ WPc c (.op (.load m r hl) k) Q :=
  ldS c Q m r hl k m.view.set f (Finset.map_subset_map.mpr (Finset.subset_univ _))

theorem ldSlot_rule (c : Dev nD) (Q : PUnit → sProp 𝕄) (A : Dev nD → Ins F) (b : Fin 2) (i : Fin 15) (k : Vec F S1x1x16x512 .bf16 → PR F) :
    iprop((bigSep Finset.univ fun i : Fin 15 => vP (slotV i b) c fullShare (rsF A c))
        ∗ ((bigSep Finset.univ fun i : Fin 15 => vP (slotV i b) c fullShare (rsF A c)) -∗ WPc c (k (slotRow A c b i)) Q))
      ⊢ WPc c (ldSlot i b k) Q := by
  rw [bigSep_univ_at (fun i : Fin 15 => vP (slotV i b) c fullShare (rsF A c)) i]
  iintro ⟨⟨H, HR⟩, HK⟩
  iapply (ldS c Q (Memref.whole cc0_scratch4) (slotR i b).toLoadRect (View.loadsAt_vmem h_S1x1x16x512) k (slotV i b).view.set (rsF A c)
    (by rw [set_slotV]; exact Finset.map_subset_iff_subset_preimage.mpr (fun x hx => by simpa using hx)))
  isplitl [H]; · iexact H
  iintro H
  iapply HK
  isplitl [H]; · iexact H
  iexact HR

theorem vec15 {α : Type} (g : Fin 15 → α) : ![g 0, g 1, g 2, g 3, g 4, g 5, g 6, g 7, g 8, g 9, g 10, g 11, g 12, g 13, g 14] = g := by
  funext i; fin_cases i <;> rfl

theorem slots_rule (c : Dev nD) (Q : PUnit → sProp 𝕄) (A : Dev nD → Ins F) (b : Fin 2) (k : (Fin 15 → Vec F S1x1x16x512 .bf16) → PR F) :
    iprop((bigSep Finset.univ fun i : Fin 15 => vP (slotV i b) c fullShare (rsF A c))
        ∗ ((bigSep Finset.univ fun i : Fin 15 => vP (slotV i b) c fullShare (rsF A c)) -∗ WPc c (k (slotRow A c b)) Q))
      ⊢ WPc c (slotsL b k) Q := by
  rw [← vec15 (slotRow A c b)]
  unfold slotsL
  iintro ⟨H, HK⟩
  iapply (ldSlot_rule c Q A b 0 _); isplitl [H]; · iexact H
  iintro H
  iapply (ldSlot_rule c Q A b 1 _); isplitl [H]; · iexact H
  iintro H
  iapply (ldSlot_rule c Q A b 2 _); isplitl [H]; · iexact H
  iintro H
  iapply (ldSlot_rule c Q A b 3 _); isplitl [H]; · iexact H
  iintro H
  iapply (ldSlot_rule c Q A b 4 _); isplitl [H]; · iexact H
  iintro H
  iapply (ldSlot_rule c Q A b 5 _); isplitl [H]; · iexact H
  iintro H
  iapply (ldSlot_rule c Q A b 6 _); isplitl [H]; · iexact H
  iintro H
  iapply (ldSlot_rule c Q A b 7 _); isplitl [H]; · iexact H
  iintro H
  iapply (ldSlot_rule c Q A b 8 _); isplitl [H]; · iexact H
  iintro H
  iapply (ldSlot_rule c Q A b 9 _); isplitl [H]; · iexact H
  iintro H
  iapply (ldSlot_rule c Q A b 10 _); isplitl [H]; · iexact H
  iintro H
  iapply (ldSlot_rule c Q A b 11 _); isplitl [H]; · iexact H
  iintro H
  iapply (ldSlot_rule c Q A b 12 _); isplitl [H]; · iexact H
  iintro H
  iapply (ldSlot_rule c Q A b 13 _); isplitl [H]; · iexact H
  iintro H
  iapply (ldSlot_rule c Q A b 14 _); isplitl [H]; · iexact H
  iexact HK

/-- Keys and values held whole. -/
abbrev kvP (c : Dev nD) (k v : Vec F S2x256x256 .bf16) : sProp 𝕄 := iprop(vP (Memref.whole cc0_scratch0) c fullShare k ∗ vP (Memref.whole cc0_scratch1) c fullShare v)

theorem ldKV_rule (c : Dev nD) (Q : PUnit → sProp 𝕄) (b : Fin 2) (kk vv : Vec F S2x256x256 .bf16) (k : Vec F S1x256x256 .bf16 → Vec F S1x256x256 .bf16 → PR F) :
    iprop(kvP c kk vv ∗ (kvP c kk vv -∗ WPc c (k (kRow b kk) (vRow b vv)) Q)) ⊢ WPc c (ldK b fun x => ldV b fun y => k x y) Q := by
  iintro ⟨⟨H, H'⟩, HK⟩
  iapply (ldW c Q (Memref.whole cc0_scratch0) (kvR b).toLoadRect (View.loadsAt_vmem h_S1x256x256) _ kk)
  isplitl [H]; · iexact H
  iintro H
  iapply (ldW c Q (Memref.whole cc0_scratch1) (kvR b).toLoadRect (View.loadsAt_vmem h_S1x256x256) _ vv)
  isplitl [H']; · iexact H'
  iintro H'
  iapply HK
  isplitl [H] <;> iassumption

theorem kv_rule (c : Dev nD) (Q : PUnit → sProp 𝕄) (b : Fin 2) (kk vv : Vec F S2x256x256 .bf16) (k : (Fin 4 → Vec F S1x256x256 .bf16) → (Fin 4 → Vec F S1x256x256 .bf16) → PR F) :
    iprop(kvP c kk vv ∗ (kvP c kk vv -∗ WPc c (k ![kRow b kk, kRow b kk, kRow b kk, kRow b kk] ![vRow b vv, vRow b vv, vRow b vv, vRow b vv]) Q))
      ⊢ WPc c (kvL b k) Q := by
  unfold kvL
  iintro ⟨H, HK⟩
  iapply (ldKV_rule c Q b kk vv _); isplitl [H]; · iexact H
  iintro H
  iapply (ldKV_rule c Q b kk vv _); isplitl [H]; · iexact H
  iintro H
  iapply (ldKV_rule c Q b kk vv _); isplitl [H]; · iexact H
  iintro H
  iapply (ldKV_rule c Q b kk vv _); isplitl [H]; · iexact H
  iexact HK

/-- A batch's attention, from its loads to its store. -/
theorem att_rule (c : Dev nD) (Q : PUnit → sProp 𝕄) (A : Dev nD → Ins F) (b : Fin 2) (rest : PR F) :
    iprop(vP a0 c fullShare (A c).x ∗ kvP c (A c).k (A c).v ∗ (∃ f, rowP (F := F) c b f)
        ∗ (vP a0 c fullShare (A c).x ∗ kvP c (A c).k (A c).v ∗ rowP c b (partF A c) -∗ WPc c rest Q))
      ⊢ WPc c (attL b a0 (attB b (wqAll (A c).wq) (woAll (A c).wo)) rest) Q := by
  unfold attL
  iintro ⟨Hx, Hkv, ⟨%f, Hr⟩, HK⟩
  iapply (ldW c Q a0 (rowR b).toLoadRect (View.loadsAt_vmem h_S1x256x512) _ (A c).x)
  isplitl [Hx]; · iexact Hx
  iintro Hx
  iapply (kv_rule c Q b (A c).k (A c).v _); isplitl [Hkv]; · iexact Hkv
  iintro Hkv
  iapply (ldS c Q (Memref.whole cc0_scratch2) (rowR b).toLoadRect (View.loadsAt_vmem h_S1x256x512) _ (rowR b).set f
    (Finset.map_subset_iff_subset_preimage.mpr (fun x hx => by simpa using hx)))
  isplitl [Hr]; · iexact Hr
  iintro Hr
  have hset : ((Memref.whole cc0_scratch2).access (rowR b)).setOn Finset.univ = (rowR b).set := View.set_slice_whole cc0_scratch2 (rowR b)
  iapply (wp_store 𝒱₀ (c : Thread nD τ) none Set.univ (m := Memref.whole cc0_scratch2) (r := rowR b) (Mk := Finset.univ) (S := (rowR b).set) (f := f)
    (by rw [hset])) $$ [Hr]
  · iexact Hr
  iintro Hr
  iapply HK
  isplitl [Hx]; · iexact Hx
  isplitl [Hkv]; · iexact Hkv
  have e : ((((Memref.whole cc0_scratch2).access (rowR b)).loc (c : Thread nD τ)) ↦[(rowR b).set]{fullShare}
      (((Memref.whole cc0_scratch2).access (rowR b)).write (Elt F) f
        (attB b (wqAll (A c).wq) (woAll (A c).wo) (View.readAt (Elt F) a0.view (rowR b).toLoadRect (A c).x)
          ![kRow b (A c).k, kRow b (A c).k, kRow b (A c).k, kRow b (A c).k] ![vRow b (A c).v, vRow b (A c).v, vRow b (A c).v, vRow b (A c).v])
        Finset.univ) : sProp 𝕄) = rowP c b (partF A c) :=
    pointsTo_congr fun i hi => write_eq_of _ _ _ _ (stored_part A c b) i (by rw [← View.setOn_univ, hset]; exact hi)
  ihave Hr := (Entails.of_eq e) $$ Hr
  iexact Hr

end Cert.KernelIdeal.Att

end
-- ==== Proof.Batch.lean ====
module

public import proofs.«01_k».proof.Proof.Mem

/-! # The body's run

A batch at a time: the sums with their copies, the last waits; then the whole body, from what a device
starts with to what it holds at the end. -/

@[expose] public section

noncomputable section

namespace Cert.KernelIdeal.Att

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (A : Dev nD → Ins F) (κ : GSem nD τ sig → ℕ)

theorem outS (g : Fin 15 → GSem nD τ sig) (p : Fin 15 → sProp 𝕄) :
    (bigSep Finset.univ fun i => wtOut (g i) (p i)) = iprop((bigSep Finset.univ fun i => atPos ER (g i) 1 ∅ 0) ∗ bigSep Finset.univ p) :=
  bigSep_sep' Finset.univ (fun i => atPos ER (g i) 1 ∅ 0) p
theorem inS (g : Fin 15 → GSem nD τ sig) :
    (bigSep Finset.univ fun i => wtIn (F := F) (g i)) = iprop((bigSep Finset.univ fun i => cred (tallyAt (g i) () N)) ∗ bigSep Finset.univ fun i => atPos ER (g i) 0 ∅ 0) :=
  bigSep_sep' Finset.univ (fun i => cred (tallyAt (g i) () N)) (fun i => atPos ER (g i) 0 ∅ 0)

/-- What a copy of the second round takes, besides what it sends. -/
def agPre (c : Dev nD) (b : Fin 2) (j : Fin 15) : sProp 𝕄 :=
  iprop((∃ f, vP (F := F) (outV (ck b c)) (dst c j) fullShare f) ∗ reached ER (agT c b j) 0
    ∗ dutyTok ER (agSc c b (Fin.rev j)) 0 0 ∗ dutyTok ER (agT c b j) 0 0)

theorem agIn_of (c : Dev nD) (b : Fin 2) :
    iprop((bigSep Finset.univ fun j => agPre (F := F) c b j) ∗ bigSep Finset.univ fun i : Fin 15 => vP (redV b) c (shr i.succ) (redF A c))
      ⊢ bigSep Finset.univ fun j => agIn A c b j := by
  rw [← revS (fun i : Fin 15 => vP (redV b) c (shr i.succ) (redF A c))]
  refine (zipS _ _ _).trans (bigSep_mono fun j _ => ?_)
  unfold agPre agIn
  show (_ : sProp 𝕄) ⊢ _
  iintro ⟨⟨H1, H2, H3, H4⟩, H5⟩
  isplitl [H1]; · iexact H1
  isplitl [H2]; · iexact H2
  isplitl [H5]; · iexact H5
  isplitl [H3] <;> iassumption

/-- What a batch's sums take, -/
def sumPre (c : Dev nD) (b : Fin 2) : sProp 𝕄 :=
  iprop((bigSep Finset.univ fun i => wtIn (F := F) (rsRc c b i)) ∗ vP (partV (ck b c)) c fullShare (partF A c)
    ∗ (∃ f, vP (F := F) (redV b) c fullShare f) ∗ (∃ f, vP (F := F) (outV (ck b c)) c fullShare f)
    ∗ dutyTok ER (stC c b) 0 0 ∗ bigSep Finset.univ fun j => agPre (F := F) c b j)
/-- and give. -/
def sumPost (c : Dev nD) (b : Fin 2) : sProp 𝕄 :=
  iprop((bigSep Finset.univ fun i => atPos ER (rsRc c b i) 1 ∅ 0) ∗ (bigSep Finset.univ fun i => vP (slotV i b) c fullShare (rsF A c))
    ∗ vP (partV (ck b c)) c fullShare (partF A c)
    ∗ cred (tallyAt (stC c b) () N) ∗ bigSep Finset.univ fun j : Fin 15 => cred (tallyAt (agSc c b (Fin.rev j)) () N))

theorem sum_rule (c : Dev nD) (b : Fin 2) (O : Owed) (hO : Above 2 O) (rest : PR F) (Q : PUnit → sProp 𝕄) :
    iprop(P A κ c ∗ ow c (oL (agT c b) N I15 O) ∗ sumPre A c b ∗ (ow c O ∗ sumPost A c b -∗ WPc c rest Q))
      ⊢ WPc c (sumL b (ck b c) (ck b c) (dst c) (sumB b) rest) Q := by
  unfold sumL sumPre sumPost
  iintro ⟨#HP, HO, ⟨Hw, Hp, ⟨%f, Hr⟩, ⟨%fo, Ho⟩, Ht, Hag⟩, HK⟩
  iapply (rs_waits A κ c b _ (above_ag c b hO I15) _ Q)
  isplitr; · iexact HP
  isplitl [HO]; · iexact HO
  isplitl [Hw]; · iexact Hw
  iintro ⟨HO, Hw⟩
  ihave Hw := (Entails.of_eq (outS (fun i => rsRc c b i) (fun i => vP (slotV i b) c fullShare (rsF A c)))) $$ Hw
  icases Hw with ⟨Ha, Hs⟩
  iapply (ldS c Q (Memref.whole cc0_scratch2) (ckR (ck b c)).toLoadRect (View.loadsAt_vmem h_S1x16x512) _ (partV (ck b c)).view.set (partF A c)
    (by rw [set_partV]; exact Finset.map_subset_iff_subset_preimage.mpr (fun x hx => by simpa using hx)))
  isplitl [Hp]; · iexact Hp
  iintro Hp
  iapply (slots_rule c Q A b _)
  isplitl [Hs]; · iexact Hs
  iintro Hs
  iapply (ldS c Q (Memref.whole cc0_scratch3) (redR b).toLoadRect (View.loadsAt_vmem h_S1x16x512) _ (redV b).view.set f
    (by rw [set_redV]; exact Finset.map_subset_iff_subset_preimage.mpr (fun x hx => by simpa using hx)))
  isplitl [Hr]; · iexact Hr
  iintro Hr
  have hset : ((Memref.whole cc0_scratch3).access (redR b)).setOn Finset.univ = (redV b).view.set := (View.set_slice_whole cc0_scratch3 (redR b)).trans (set_redV b).symm
  iapply (wp_store 𝒱₀ (c : Thread nD τ) none Set.univ (m := Memref.whole cc0_scratch3) (r := redR b) (Mk := Finset.univ) (S := (redV b).view.set) (f := f)
    (by rw [hset])) $$ [Hr]
  · iexact Hr
  iintro Hr
  have e : ((((Memref.whole cc0_scratch3).access (redR b)).loc (c : Thread nD τ)) ↦[(redV b).view.set]{fullShare}
      (((Memref.whole cc0_scratch3).access (redR b)).write (Elt F) f
        (sumB b (View.readAt (Elt F) (Memref.whole cc0_scratch2).view (ckR (ck b c)).toLoadRect (partF A c)) (slotRow A c b))
        Finset.univ) : sProp 𝕄) = vP (redV b) c fullShare (redF A c) :=
    pointsTo_congr fun i hi => write_eq_of _ _ _ _ (stored_red A c b) i (by rw [← View.setOn_univ, hset]; exact hi)
  ihave Hr := (Entails.of_eq e) $$ Hr
  ihave Hr := (Entails.of_eq (red_shares c b (redF A c))) $$ Hr
  icases Hr with ⟨Hr0, Hr⟩
  iapply (Rounds.wp_copy_pointsTo 𝒱₀ ER (Rd A) (c : Thread nD τ) none (src := redV b) (dst := outV (ck b c)) (sem := .dma (sAt2 cc0_scratch10 b)) (q := shr 0)
      (fs := redF A c) (fd := fo) (r := 0) (d := 0) (κ := κ (stC c b)) (mem_zero A (dec_st b) nofun) () N rfl (amt_of A (dec_st b))
      (by rw [pay_of A (dec_st b)]
          exact sep_mono_left (Entails.of_eq (pointsTo_congr (write_eq_of _ _ _ _ (landed_ag A c b)))))) $$ [Hr0 Ho Ht]
  · isplitr; · iapply (P_own A κ c c _ (own_st b)); iexact HP
    isplitl [Hr0]; · iexact Hr0
    isplitl [Ho]; · iexact Ho
    isplitl [Ht]; · iexact Ht
    iapply (P_reached A κ c _ (own_st b)); iexact HP
  iintro Hst
  ihave Hag := (agIn_of A c b) $$ [Hag Hr]
  · isplitl [Hag] <;> iassumption
  iapply (ag_rule A κ c b O rest Q)
  isplitr; · iexact HP
  isplitl [HO]; · iexact HO
  isplitl [Hag]; · iexact Hag
  iintro ⟨HO, Hc⟩
  iapply HK
  isplitl [HO]; · iexact HO
  isplitl [Ha]; · iexact Ha
  isplitl [Hs]; · iexact Hs
  isplitl [Hp]; · iexact Hp
  isplitl [Hst] <;> iassumption

/-- What a batch's last waits take, -/
def endPre (c : Dev nD) (b : Fin 2) : sProp 𝕄 :=
  iprop(wtIn (F := F) (stC c b) ∗ (bigSep Finset.univ fun i => wtIn (F := F) (rsSc c b i)) ∗ bigSep Finset.univ fun i => wtIn (F := F) (agSc c b i))
/-- and give. -/
def endPost (c : Dev nD) (b : Fin 2) : sProp 𝕄 :=
  iprop((atPos ER (stC c b) 1 ∅ 0 ∗ vP (outV (ck b c)) c fullShare (outF A))
    ∗ ((bigSep Finset.univ fun i => atPos ER (rsSc c b i) 1 ∅ 0) ∗ bigSep Finset.univ fun j : Fin 15 => vP (partV (ck b (dst c j))) c fullShare (partF A c))
    ∗ (bigSep Finset.univ fun i => atPos ER (agSc c b i) 1 ∅ 0) ∗ vP (redV b) c fullShare (redF A c))

theorem end_rule (c : Dev nD) (b : Fin 2) (rest : PR F) (Q : PUnit → sProp 𝕄) :
    iprop(P A κ c ∗ ow c 0 ∗ endPre (F := F) c b ∗ (ow c 0 ∗ endPost A c b -∗ WPc c rest Q)) ⊢ WPc c (endL b (ck b c) rest) Q := by
  unfold endL endPre endPost
  rw [show wtIn (F := F) (stC c b) = iprop(cred (tallyAt (stC c b) () N) ∗ atPos ER (stC c b) 0 ∅ 0) from rfl]
  iintro ⟨#HP, HO, ⟨⟨Hc, Ha⟩, Hrs, Hag⟩, HK⟩
  iapply (waitD A κ c _ _ (dec_st b) nofun (own_st b) 0 (le_refl 0) 0 (above_zero 0) (redV b) (outV (ck b c)) (redV_words b) (outV_words (ck b c)) (credit_out (ck b c)) _ Q)
  isplitr; · iexact HP
  isplitl [HO]; · iexact HO
  isplitl [Hc]; · iexact Hc
  isplitl [Ha]; · iexact Ha
  iintro ⟨HO, Ha, Hp⟩
  ihave Hp := (Entails.of_eq (show payK A (.st b) c = iprop(vP (outV (ck b c)) c fullShare (outF A) ∗ vP (redV b) c (shr 0) (redF A c)) from rfl)) $$ Hp
  icases Hp with ⟨Ho, Hr0⟩
  iapply (sent_waits A κ c b rest Q)
  isplitr; · iexact HP
  isplitl [HO]; · iexact HO
  isplitl [Hrs Hag]
  · iapply (zipS _ _ _)
    isplitl [Hrs] <;> iassumption
  iintro ⟨HO, Hw⟩
  ihave Hw := (unzipS _ _ _) $$ Hw
  icases Hw with ⟨Hrs, Hag⟩
  ihave Hrs := (Entails.of_eq (outS (fun i => rsSc c b i) (fun i => vP (partV (ck b (dst c (Fin.rev i)))) c fullShare (partF A c)))) $$ Hrs
  ihave Hag := (Entails.of_eq (outS (fun i => agSc c b i) (fun i => vP (redV b) c (shr i.succ) (redF A c)))) $$ Hag
  icases Hrs with ⟨Hrs, Hps⟩
  icases Hag with ⟨Hag, Hrd⟩
  ihave Hps := (Entails.of_eq (revS (fun j => vP (partV (ck b (dst c j))) c fullShare (partF A c)))) $$ Hps
  iapply HK
  isplitl [HO]; · iexact HO
  isplitl [Ha Ho]
  · isplitl [Ha] <;> iassumption
  isplitl [Hrs Hps]
  · isplitl [Hrs] <;> iassumption
  isplitl [Hag]; · iexact Hag
  rw [red_shares c b (redF A c)]
  isplitl [Hr0] <;> iassumption

end Cert.KernelIdeal.Att

end
-- ==== Proof.Body.lean ====
module

public import proofs.«01_k».proof.Proof.Batch

/-! # The whole body

From what a device starts with to what it holds at the end. -/

@[expose] public section

noncomputable section

namespace Cert.KernelIdeal.Att

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (A : Dev nD → Ins F) (κ : GSem nD τ sig → ℕ)

/-- All cells of a batch, at round `r`. -/
def posB (c : Dev nD) (b : Fin 2) (r : ℕ) : sProp 𝕄 :=
  iprop((bigSep Finset.univ fun i : Fin 15 => atPos ER (rsSc c b i) r ∅ 0) ∗ (bigSep Finset.univ fun i : Fin 15 => atPos ER (rsRc c b i) r ∅ 0)
    ∗ (bigSep Finset.univ fun i : Fin 15 => atPos ER (agSc c b i) r ∅ 0) ∗ (bigSep Finset.univ fun i : Fin 15 => atPos ER (agRc c b i) r ∅ 0)
    ∗ atPos ER (stC c b) r ∅ 0 ∗ atPos ER (inpC c b) r ∅ 0)
/-- The rights to pay of a batch: the device's own cells and the arrivals at the others. -/
def tokB (c : Dev nD) (b : Fin 2) : sProp 𝕄 :=
  iprop((bigSep Finset.univ fun i : Fin 15 => dutyTok ER (rsSc c b i) 0 0) ∗ (bigSep Finset.univ fun i : Fin 15 => dutyTok ER (rsT c b i) 0 0)
    ∗ (bigSep Finset.univ fun i : Fin 15 => dutyTok ER (agSc c b i) 0 0) ∗ (bigSep Finset.univ fun i : Fin 15 => dutyTok ER (agT c b i) 0 0)
    ∗ dutyTok ER (stC c b) 0 0 ∗ dutyTok ER (inpC c b) 0 0)
/-- What is to arrive for a batch. -/
def crB (c : Dev nD) (b : Fin 2) : sProp 𝕄 :=
  iprop((bigSep Finset.univ fun i : Fin 15 => cred (tallyAt (rsRc c b i) () N)) ∗ bigSep Finset.univ fun i : Fin 15 => cred (tallyAt (agRc c b i) () N))

/-- The buffers, but the output. -/
def memB (c : Dev nD) : sProp 𝕄 :=
  iprop(vP a0 c fullShare (A c).x ∗ vP a1 c fullShare (A c).wq ∗ vP a4 c fullShare (A c).wo
    ∗ vP (Memref.whole main_v15) c fullShare (A c).k ∗ vP (Memref.whole main_v16) c fullShare (A c).v)
def memS (c : Dev nD) : sProp 𝕄 :=
  iprop((∃ f, vP (F := F) (Memref.whole cc0_scratch0) c fullShare f) ∗ (∃ f, vP (F := F) (Memref.whole cc0_scratch1) c fullShare f)
    ∗ (∃ f, vP (F := F) (Memref.whole cc0_scratch2) c fullShare f) ∗ (∃ f, vP (F := F) (Memref.whole cc0_scratch3) c fullShare f)
    ∗ (∃ f, vP (F := F) (Memref.whole cc0_scratch4) c fullShare f))

/-- What the body starts with. -/
def bodyPre (c : Dev nD) : sProp 𝕄 :=
  iprop((cred (tallyAt (barC c) () 15) ∗ atPos ER (barC c) 0 ∅ 0 ∗ bigSep Finset.univ fun i : Fin 15 => dutyTok ER (barC (dst c i)) 0 (Fin.rev i))
    ∗ (posB (F := F) c 0 0 ∗ tokB (F := F) c 0 ∗ crB (F := F) c 0) ∗ (posB (F := F) c 1 0 ∗ tokB (F := F) c 1 ∗ crB (F := F) c 1)
    ∗ memB A c ∗ memS (F := F) c ∗ ∃ f, vP (F := F) (Memref.whole main_v19) c fullShare f)
/-- What it ends with. -/
def bodyPost (c : Dev nD) : sProp 𝕄 :=
  iprop(atPos ER (barC c) 1 ∅ 0 ∗ posB (F := F) c 0 1 ∗ posB (F := F) c 1 1 ∗ memB A c ∗ memS (F := F) c ∗ vP (Memref.whole main_v19) c fullShare (outF A))

/-! ## What the signals hand over -/

theorem halfPay_eq (c : Dev nD) (i : Fin 15) (b : Fin 2) : halfPay (F := F) (dst c i) (Fin.rev i) b
    = iprop((∃ f, vP (F := F) (slotV i b) c fullShare f) ∗ (∃ f, vP (F := F) (outV (ck b (dst c i))) c fullShare f)
      ∗ reached ER (rsRc c b i) 0 ∗ reached ER (agRc c b i) 0) := by
  unfold halfPay
  rw [dst_rev, Fin.rev_rev]

theorem sig_all (c : Dev nD) (f : Buf (Elt F) ((Memref.whole cc0_scratch4).view.loc (c : Thread nD τ))) (fo : Buf (Elt F) ((Memref.whole main_v19).view.loc (c : Thread nD τ))) :
    iprop(P A κ c ∗ (bigSep Finset.univ fun i : Fin 15 => dutyTok ER (barC (dst c i)) 0 (Fin.rev i))
        ∗ ((bigSep Finset.univ fun i : Fin 15 => vP (slotV i 0) c fullShare f) ∗ bigSep Finset.univ fun i : Fin 15 => vP (slotV i 1) c fullShare f)
        ∗ (bigSep Finset.univ fun j : Fin 15 => vP (outV (ck 0 (dst c j))) c fullShare fo) ∗ bigSep Finset.univ fun j : Fin 15 => vP (outV (ck 1 (dst c j))) c fullShare fo)
      ⊢ bigSep Finset.univ fun i => sigIn (F := F) c i := by
  rw [← bigSep_sep', ← bigSep_sep', ← bigSep_sep', ← bigSep_sep']
  refine bigSep_with_persistent fun i _ => ?_
  unfold sigIn barPay
  rw [halfPay_eq, halfPay_eq]
  show (_ : sProp 𝕄) ⊢ _
  iintro ⟨#HP, Ht, ⟨Hs0, Hs1⟩, Ho0, Ho1⟩
  isplitl [Ht]; · iexact Ht
  isplitl [Hs0 Ho0]
  · isplitl [Hs0]; · iexists f; iexact Hs0
    isplitl [Ho0]; · iexists fo; iexact Ho0
    isplitr
    · iapply (P_reached A κ c _ (own_rsR i 0)); iexact HP
    iapply (P_reached A κ c _ (own_agR i 0)); iexact HP
  isplitl [Hs1]; · iexists f; iexact Hs1
  isplitl [Ho1]; · iexists fo; iexact Ho1
  isplitr
  · iapply (P_reached A κ c _ (own_rsR i 1)); iexact HP
  iapply (P_reached A κ c _ (own_agR i 1)); iexact HP

/-- What the barrier brings, for the copies of the first round and for those of the second. -/
def gotS (c : Dev nD) (b : Fin 2) (j : Fin 15) : sProp 𝕄 :=
  iprop((∃ f, vP (F := F) (slotV (Fin.rev j) b) (dst c j) fullShare f) ∗ reached ER (rsT c b j) 0)
def gotO (c : Dev nD) (b : Fin 2) (j : Fin 15) : sProp 𝕄 :=
  iprop((∃ f, vP (F := F) (outV (ck b c)) (dst c j) fullShare f) ∗ reached ER (agT c b j) 0)

theorem got_all (c : Dev nD) : (bigSep Finset.univ fun d => barPay (F := F) c d)
    ⊢ iprop(((bigSep Finset.univ fun j => gotS (F := F) c 0 j) ∗ bigSep Finset.univ fun j => gotO (F := F) c 0 j)
      ∗ (bigSep Finset.univ fun j => gotS (F := F) c 1 j) ∗ bigSep Finset.univ fun j => gotO (F := F) c 1 j) := by
  rw [← bigSep_sep', ← bigSep_sep', ← bigSep_sep']
  refine bigSep_mono fun j _ => ?_
  unfold barPay halfPay gotS gotO
  show (_ : sProp 𝕄) ⊢ _
  iintro ⟨⟨H1, H2, H3, H4⟩, K1, K2, K3, K4⟩
  isplitl [H1 H2 H3 H4]
  · isplitl [H1 H3]
    · isplitl [H1] <;> iassumption
    isplitl [H2] <;> iassumption
  isplitl [K1 K3]
  · isplitl [K1] <;> iassumption
  isplitl [K2] <;> iassumption

theorem rsIn_of (c : Dev nD) (b : Fin 2) :
    iprop((bigSep Finset.univ fun j => gotS (F := F) c b j) ∗ (bigSep Finset.univ fun j : Fin 15 => vP (partV (ck b (dst c j))) c fullShare (partF A c))
        ∗ (bigSep Finset.univ fun i : Fin 15 => dutyTok ER (rsSc c b i) 0 0) ∗ bigSep Finset.univ fun i : Fin 15 => dutyTok ER (rsT c b i) 0 0)
      ⊢ bigSep Finset.univ fun j => rsIn A c b j := by
  rw [← revS (fun i : Fin 15 => dutyTok ER (rsSc c b i) 0 0), ← bigSep_sep', ← bigSep_sep', ← bigSep_sep']
  refine bigSep_mono fun j _ => ?_
  unfold gotS rsIn
  show (_ : sProp 𝕄) ⊢ _
  iintro ⟨⟨H1, H2⟩, H3, H4, H5⟩
  isplitl [H1]; · iexact H1
  isplitl [H2]; · iexact H2
  isplitl [H3]; · iexact H3
  isplitl [H4] <;> iassumption

theorem agPre_of (c : Dev nD) (b : Fin 2) :
    iprop((bigSep Finset.univ fun j => gotO (F := F) c b j)
        ∗ (bigSep Finset.univ fun i : Fin 15 => dutyTok ER (agSc c b i) 0 0) ∗ bigSep Finset.univ fun i : Fin 15 => dutyTok ER (agT c b i) 0 0)
      ⊢ bigSep Finset.univ fun j => agPre (F := F) c b j := by
  rw [← revS (fun i : Fin 15 => dutyTok ER (agSc c b i) 0 0), ← bigSep_sep', ← bigSep_sep']
  refine bigSep_mono fun j _ => ?_
  unfold gotO agPre
  show (_ : sProp 𝕄) ⊢ _
  iintro ⟨⟨H1, H2⟩, H3, H4⟩
  isplitl [H1]; · iexact H1
  isplitl [H2]; · iexact H2
  isplitl [H3] <;> iassumption

/-- The receive buffer is its slots and the rest. -/
theorem scr4_split (c : Dev nD) (f : Buf (Elt F) ((Memref.whole cc0_scratch4).view.loc (c : Thread nD τ))) :
    vP (Memref.whole cc0_scratch4) c fullShare f
      ⊢ iprop((((Memref.whole cc0_scratch4).view.loc (c : Thread nD τ)) ↦[slotsSet]{fullShare} f)
        ∗ ((Memref.whole cc0_scratch4).view.loc (c : Thread nD τ)) ↦[(Memref.whole cc0_scratch4).view.set \ slotsSet]{fullShare} f) :=
  (pointsTo_split_subset (by rw [show (Memref.whole cc0_scratch4).view.set = Finset.univ from View.set_whole cc0_scratch4]; exact Finset.subset_univ _)).1
theorem scr4_join (c : Dev nD) (f g : Buf (Elt F) ((Memref.whole cc0_scratch4).view.loc (c : Thread nD τ))) :
    iprop((((Memref.whole cc0_scratch4).view.loc (c : Thread nD τ)) ↦[slotsSet]{fullShare} g)
        ∗ ((Memref.whole cc0_scratch4).view.loc (c : Thread nD τ)) ↦[(Memref.whole cc0_scratch4).view.set \ slotsSet]{fullShare} f)
      ⊢ iprop(∃ f, vP (F := F) (Memref.whole cc0_scratch4) c fullShare f) := by
  iintro H
  iexists _
  iapply (pointsTo_join_subset (by rw [show (Memref.whole cc0_scratch4).view.set = Finset.univ from View.set_whole cc0_scratch4]; exact Finset.subset_univ _)) $$ H

/-! ## The copies of the keys and of the values -/

theorem inK_copy (c : Dev nD) (rest : PR F) (Q : PUnit → sProp 𝕄) :
    iprop(P A κ c ∗ vP (Memref.whole main_v15) c fullShare (A c).k ∗ (∃ f, vP (F := F) (Memref.whole cc0_scratch0) c fullShare f) ∗ dutyTok ER (inpC c 0) 0 0
        ∗ (cred (tallyAt (inpC c 0) () N2) -∗ WPc c rest Q))
      ⊢ WPc c (.op (.enqueueDma (Memref.whole main_v15) (.here (Memref.whole cc0_scratch0)) (.dma (sAt2 cc0_scratch9 0)) (Memref.isWhole_whole main_v15).wordExact
    (Memref.isWhole_whole cc0_scratch0).wordExact ⟨Or.inl rfl, trivial⟩) fun _ => rest) Q := by
  iintro ⟨#HP, Hs, ⟨%f, Hd⟩, Ht, HK⟩
  iapply (Rounds.wp_copy_pointsTo 𝒱₀ ER (Rd A) (c : Thread nD τ) none (src := Memref.whole main_v15) (dst := Memref.whole cc0_scratch0) (sem := .dma (sAt2 cc0_scratch9 0)) (q := fullShare)
      (fs := (A c).k) (fd := f) (r := 0) (d := 0) (κ := κ (inpC c 0)) (mem_zero A dec_inK nofun) () N2 rfl (amt_of A dec_inK)
      (by rw [pay_of A dec_inK]
          exact sep_mono_left (Entails.of_eq (pointsTo_congr (write_eq_of (Memref.whole cc0_scratch0).view f ((Memref.whole main_v15).view.read (Elt F) (A c).k) (A c).k (fun x => rfl)))))) $$ [Hs Hd Ht]
  · isplitr; · iapply (P_own A κ c c _ (own_inp 0)); iexact HP
    isplitl [Hs]; · iexact Hs
    isplitl [Hd]; · iexact Hd
    isplitl [Ht]; · iexact Ht
    iapply (P_reached A κ c _ (own_inp 0)); iexact HP
  iexact HK
theorem inV_copy (c : Dev nD) (rest : PR F) (Q : PUnit → sProp 𝕄) :
    iprop(P A κ c ∗ vP (Memref.whole main_v16) c fullShare (A c).v ∗ (∃ f, vP (F := F) (Memref.whole cc0_scratch1) c fullShare f) ∗ dutyTok ER (inpC c 1) 0 0
        ∗ (cred (tallyAt (inpC c 1) () N2) -∗ WPc c rest Q))
      ⊢ WPc c (.op (.enqueueDma (Memref.whole main_v16) (.here (Memref.whole cc0_scratch1)) (.dma (sAt2 cc0_scratch9 1)) (Memref.isWhole_whole main_v16).wordExact
    (Memref.isWhole_whole cc0_scratch1).wordExact ⟨Or.inl rfl, trivial⟩) fun _ => rest) Q := by
  iintro ⟨#HP, Hs, ⟨%f, Hd⟩, Ht, HK⟩
  iapply (Rounds.wp_copy_pointsTo 𝒱₀ ER (Rd A) (c : Thread nD τ) none (src := Memref.whole main_v16) (dst := Memref.whole cc0_scratch1) (sem := .dma (sAt2 cc0_scratch9 1)) (q := fullShare)
      (fs := (A c).v) (fd := f) (r := 0) (d := 0) (κ := κ (inpC c 1)) (mem_zero A dec_inV nofun) () N2 rfl (amt_of A dec_inV)
      (by rw [pay_of A dec_inV]
          exact sep_mono_left (Entails.of_eq (pointsTo_congr (write_eq_of (Memref.whole cc0_scratch1).view f ((Memref.whole main_v16).view.read (Elt F) (A c).v) (A c).v (fun x => rfl)))))) $$ [Hs Hd Ht]
  · isplitr; · iapply (P_own A κ c c _ (own_inp 1)); iexact HP
    isplitl [Hs]; · iexact Hs
    isplitl [Hd]; · iexact Hd
    isplitl [Ht]; · iexact Ht
    iapply (P_reached A κ c _ (own_inp 1)); iexact HP
  iexact HK

/-! ## The run -/

set_option maxHeartbeats 1600000 in
theorem body_run (c : Dev nD) (Q : PUnit → sProp 𝕄) :
    iprop(P A κ c ∗ ow c (O₀ c) ∗ bodyPre A c ∗ (ow c 0 ∗ bodyPost A c -∗ Q ⟨⟩)) ⊢ WPc c (bodyC c) Q := by
  unfold bodyC prog bodyPre bodyPost posB tokB crB memB memS
  iintro ⟨#HP, HO, ⟨⟨HcB, HaB, HtB⟩, ⟨⟨HaS, HaR, HaGS, HaGR, Hast, Hain⟩, ⟨HtS, HtR, HtGS, HtGR, Htst, Htin⟩, HcR, HcG⟩,
    ⟨⟨HaS', HaR', HaGS', HaGR', Hast', Hain'⟩, ⟨HtS', HtR', HtGS', HtGR', Htst', Htin'⟩, HcR', HcG'⟩,
    ⟨Hx, Hq, Hwo, Hk, Hv⟩, ⟨Hk1, Hv1, ⟨%f2, H2⟩, ⟨%f3, H3⟩, ⟨%f4, H4⟩⟩, ⟨%fo, Ho⟩⟩, HK⟩
  -- the buffers in pieces
  ihave H2 := (Entails.of_eq (part_rows c f2)) $$ H2
  icases H2 with ⟨H20, H21⟩
  ihave H3 := (Entails.of_eq (red_rows c f3)) $$ H3
  icases H3 with ⟨H30, H31⟩
  ihave H4 := (scr4_split c f4) $$ H4
  icases H4 with ⟨H4, H4r⟩
  ihave H4 := (Entails.of_eq (slots_split c f4)) $$ H4
  ihave Ho := (Entails.of_eq (out_chunks c fo)) $$ Ho
  icases Ho with ⟨⟨Ho0, Hoc0⟩, Ho1, Hoc1⟩
  -- the keys and the values set out
  iapply (inK_copy A κ c _ Q)
  isplitr; · iexact HP
  isplitl [Hk]; · iexact Hk
  isplitl [Hk1]; · iexact Hk1
  isplitl [Htin]; · iexact Htin
  iintro Hcin
  iapply (inV_copy A κ c _ Q)
  isplitr; · iexact HP
  isplitl [Hv]; · iexact Hv
  isplitl [Hv1]; · iexact Hv1
  isplitl [Htin']; · iexact Htin'
  iintro Hcin'
  -- the signals
  ihave Hsig := (sig_all A κ c f4 fo) $$ [HtB H4 Hoc0 Hoc1]
  · isplitr; · iexact HP
    isplitl [HtB]; · iexact HtB
    isplitl [H4]; · iexact H4
    isplitl [Hoc0] <;> iassumption
  iapply (sig_rule A κ c _ Q)
  isplitr; · iexact HP
  isplitl [HO]; · iexact HO
  isplitl [Hsig]; · iexact Hsig
  iintro HO
  -- the keys and the values are here
  iapply (waitD A κ c _ _ dec_inK nofun (own_inp 0) 1 (Nat.zero_le 1) _ (above_Ors0 c) (Memref.whole main_v15) (Memref.whole cc0_scratch0)
    (Memref.isWhole_whole main_v15).wordExact (Memref.isWhole_whole cc0_scratch0).wordExact rfl _ Q)
  isplitr; · iexact HP
  isplitl [HO]; · iexact HO
  isplitl [Hcin]; · iexact Hcin
  isplitl [Hain]; · iexact Hain
  iintro ⟨HO, Hain, Hp⟩
  ihave Hp := (Entails.of_eq (show payK A .inK c = iprop(vP (Memref.whole cc0_scratch0) c fullShare (A c).k ∗ vP (Memref.whole main_v15) c fullShare (A c).k) from rfl)) $$ Hp
  icases Hp with ⟨Hk1, Hk⟩
  iapply (waitD A κ c _ _ dec_inV nofun (own_inp 1) 1 (Nat.zero_le 1) _ (above_Ors0 c) (Memref.whole main_v16) (Memref.whole cc0_scratch1)
    (Memref.isWhole_whole main_v16).wordExact (Memref.isWhole_whole cc0_scratch1).wordExact rfl _ Q)
  isplitr; · iexact HP
  isplitl [HO]; · iexact HO
  isplitl [Hcin']; · iexact Hcin'
  isplitl [Hain']; · iexact Hain'
  iintro ⟨HO, Hain', Hp⟩
  ihave Hp := (Entails.of_eq (show payK A .inV c = iprop(vP (Memref.whole cc0_scratch1) c fullShare (A c).v ∗ vP (Memref.whole main_v16) c fullShare (A c).v) from rfl)) $$ Hp
  icases Hp with ⟨Hv1, Hv⟩
  iapply (ldW c Q a1 _ (View.loadsAt_vmem h_S512x256) _ (A c).wq)
  isplitl [Hq]; · iexact Hq
  iintro Hq
  iapply (ldW c Q a4 _ (View.loadsAt_vmem h_S256x512) _ (A c).wo)
  isplitl [Hwo]; · iexact Hwo
  iintro Hwo
  -- the first batch's attention, the barrier, its copies
  iapply (att_rule c Q A 0 _)
  isplitl [Hx]; · iexact Hx
  isplitl [Hk1 Hv1]; · isplitl [Hk1] <;> iassumption
  isplitl [H20]; · iexists f2; iexact H20
  iintro ⟨Hx, Hkv, H20⟩
  iapply (bar_wait A κ c _ Q)
  isplitr; · iexact HP
  isplitl [HO]; · iexact HO
  isplitl [HcB]; · iexact HcB
  isplitl [HaB]; · iexact HaB
  iintro ⟨HO, HaB, Hg⟩
  ihave Hg := (got_all c) $$ Hg
  icases Hg with ⟨⟨Hg0, Hgo0⟩, Hg1, Hgo1⟩
  ihave H20 := (Entails.of_eq (row_chunks c 0 (partF A c))) $$ H20
  icases H20 with ⟨Hp0, H20⟩
  ihave Hrs := (rsIn_of A c 0) $$ [Hg0 H20 HtS HtR]
  · isplitl [Hg0]; · iexact Hg0
    isplitl [H20]; · iexact H20
    isplitl [HtS] <;> iassumption
  iapply (rs_rule A κ c 0 (Ors1 c) _ Q)
  isplitr; · iexact HP
  isplitl [HO]; · iexact HO
  isplitl [Hrs]; · iexact Hrs
  iintro ⟨HO, HcS⟩
  -- the second batch's
  iapply (att_rule c Q A 1 _)
  isplitl [Hx]; · iexact Hx
  isplitl [Hkv]; · iexact Hkv
  isplitl [H21]; · iexists f2; iexact H21
  iintro ⟨Hx, Hkv, H21⟩
  ihave H21 := (Entails.of_eq (row_chunks c 1 (partF A c))) $$ H21
  icases H21 with ⟨Hp1, H21⟩
  ihave Hrs := (rsIn_of A c 1) $$ [Hg1 H21 HtS' HtR']
  · isplitl [Hg1]; · iexact Hg1
    isplitl [H21]; · iexact H21
    isplitl [HtS'] <;> iassumption
  iapply (rs_rule A κ c 1 (Oag0 c) _ Q)
  isplitr; · iexact HP
  isplitl [HO]; · iexact HO
  isplitl [Hrs]; · iexact Hrs
  iintro ⟨HO, HcS'⟩
  -- the sums of both
  iapply (sum_rule A κ c 0 (Oag1 c) (above_Oag1 c) _ Q)
  isplitr; · iexact HP
  isplitl [HO]; · iexact HO
  isplitl [HcR HaR Hp0 H30 Ho0 Htst Hgo0 HtGS HtGR]
  · unfold sumPre
    rw [inS (fun i => rsRc c 0 i)]
    isplitl [HcR HaR]; · isplitl [HcR] <;> iassumption
    isplitl [Hp0]; · iexact Hp0
    isplitl [H30]; · iexists f3; iexact H30
    isplitl [Ho0]; · iexists fo; iexact Ho0
    isplitl [Htst]; · iexact Htst
    iapply (agPre_of c 0)
    isplitl [Hgo0]; · iexact Hgo0
    isplitl [HtGS] <;> iassumption
  unfold sumPost
  iintro ⟨HO, HaR, Hs0, Hp0, Hcst, HcGS⟩
  iapply (sum_rule A κ c 1 0 (above_zero 2) _ Q)
  isplitr; · iexact HP
  isplitl [HO]; · iexact HO
  isplitl [HcR' HaR' Hp1 H31 Ho1 Htst' Hgo1 HtGS' HtGR']
  · unfold sumPre
    rw [inS (fun i => rsRc c 1 i)]
    isplitl [HcR' HaR']; · isplitl [HcR'] <;> iassumption
    isplitl [Hp1]; · iexact Hp1
    isplitl [H31]; · iexists f3; iexact H31
    isplitl [Ho1]; · iexists fo; iexact Ho1
    isplitl [Htst']; · iexact Htst'
    iapply (agPre_of c 1)
    isplitl [Hgo1]; · iexact Hgo1
    isplitl [HtGS'] <;> iassumption
  unfold sumPost
  iintro ⟨HO, HaR', Hs1, Hp1, Hcst', HcGS'⟩
  -- the sums of the others
  iapply (ag_waits A κ c 0 _ Q)
  isplitr; · iexact HP
  isplitl [HO]; · iexact HO
  isplitl [HcG HaGR]
  · rw [inS (fun i => agRc c 0 i)]
    isplitl [HcG] <;> iassumption
  iintro ⟨HO, Hw⟩
  ihave Hw := (Entails.of_eq (outS (fun i => agRc c 0 i) (fun i => vP (outV (ck 0 (dst c i))) c fullShare (outF A)))) $$ Hw
  icases Hw with ⟨HaGR, Hoc0⟩
  iapply (ag_waits A κ c 1 _ Q)
  isplitr; · iexact HP
  isplitl [HO]; · iexact HO
  isplitl [HcG' HaGR']
  · rw [inS (fun i => agRc c 1 i)]
    isplitl [HcG'] <;> iassumption
  iintro ⟨HO, Hw⟩
  ihave Hw := (Entails.of_eq (outS (fun i => agRc c 1 i) (fun i => vP (outV (ck 1 (dst c i))) c fullShare (outF A)))) $$ Hw
  icases Hw with ⟨HaGR', Hoc1⟩
  -- the departures
  ihave HcS := (Entails.of_eq (revS (fun i : Fin 15 => cred (tallyAt (rsSc c 0 i) () N)))) $$ HcS
  ihave HcS' := (Entails.of_eq (revS (fun i : Fin 15 => cred (tallyAt (rsSc c 1 i) () N)))) $$ HcS'
  ihave HcGS := (Entails.of_eq (revS (fun i : Fin 15 => cred (tallyAt (agSc c 0 i) () N)))) $$ HcGS
  ihave HcGS' := (Entails.of_eq (revS (fun i : Fin 15 => cred (tallyAt (agSc c 1 i) () N)))) $$ HcGS'
  iapply (end_rule A κ c 0 _ Q)
  isplitr; · iexact HP
  isplitl [HO]; · iexact HO
  isplitl [Hcst Hast HcS HaS HcGS HaGS]
  · unfold endPre
    rw [inS (fun i => rsSc c 0 i), inS (fun i => agSc c 0 i), show wtIn (F := F) (stC c 0) = iprop(cred (tallyAt (stC c 0) () N) ∗ atPos ER (stC c 0) 0 ∅ 0) from rfl]
    isplitl [Hcst Hast]; · isplitl [Hcst] <;> iassumption
    isplitl [HcS HaS]; · isplitl [HcS] <;> iassumption
    isplitl [HcGS] <;> iassumption
  unfold endPost
  iintro ⟨HO, ⟨Hast, Ho0⟩, ⟨HaS, H20⟩, HaGS, H30⟩
  iapply (end_rule A κ c 1 _ Q)
  isplitr; · iexact HP
  isplitl [HO]; · iexact HO
  isplitl [Hcst' Hast' HcS' HaS' HcGS' HaGS']
  · unfold endPre
    rw [inS (fun i => rsSc c 1 i), inS (fun i => agSc c 1 i), show wtIn (F := F) (stC c 1) = iprop(cred (tallyAt (stC c 1) () N) ∗ atPos ER (stC c 1) 0 ∅ 0) from rfl]
    isplitl [Hcst' Hast']; · isplitl [Hcst'] <;> iassumption
    isplitl [HcS' HaS']; · isplitl [HcS'] <;> iassumption
    isplitl [HcGS'] <;> iassumption
  unfold endPost
  iintro ⟨HO, ⟨Hast', Ho1⟩, ⟨HaS', H21⟩, HaGS', H31⟩
  -- the buffers whole again
  iapply (show iprop(Q ⟨⟩) ⊢ WPc c (.ret ⟨⟩) Q from by
    unfold WPc; rw [wp_ret]; exact BI.fupd_intro)
  iapply HK
  isplitl [HO]; · iexact HO
  isplitl [HaB]; · iexact HaB
  isplitl [HaS HaR HaGS HaGR Hast Hain]
  · isplitl [HaS]; · iexact HaS
    isplitl [HaR]; · iexact HaR
    isplitl [HaGS]; · iexact HaGS
    isplitl [HaGR]; · iexact HaGR
    isplitl [Hast] <;> iassumption
  isplitl [HaS' HaR' HaGS' HaGR' Hast' Hain']
  · isplitl [HaS']; · iexact HaS'
    isplitl [HaR']; · iexact HaR'
    isplitl [HaGS']; · iexact HaGS'
    isplitl [HaGR']; · iexact HaGR'
    isplitl [Hast'] <;> iassumption
  isplitl [Hx Hq Hwo Hk Hv]
  · isplitl [Hx]; · iexact Hx
    isplitl [Hq]; · iexact Hq
    isplitl [Hwo]; · iexact Hwo
    isplitl [Hk] <;> iassumption
  isplitl [Hkv Hp0 H20 Hp1 H21 H30 H31 Hs0 Hs1 H4r]
  · icases Hkv with ⟨Hk1, Hv1⟩
    isplitl [Hk1]; · iexists (A c).k; iexact Hk1
    isplitl [Hv1]; · iexists (A c).v; iexact Hv1
    isplitl [Hp0 H20 Hp1 H21]
    · iexists (partF A c)
      rw [part_rows, row_chunks, row_chunks]
      isplitl [Hp0 H20]; · isplitl [Hp0] <;> iassumption
      isplitl [Hp1] <;> iassumption
    isplitl [H30 H31]
    · iexists (redF A c)
      rw [red_rows]
      isplitl [H30] <;> iassumption
    iapply (scr4_join c f4 (rsF A c))
    isplitl [Hs0 Hs1]
    · iapply (Entails.of_eq (slots_split c (rsF A c)).symm)
      isplitl [Hs0] <;> iassumption
    iexact H4r
  rw [out_chunks]
  isplitl [Ho0 Hoc0]; · isplitl [Ho0] <;> iassumption
  isplitl [Ho1] <;> iassumption

end Cert.KernelIdeal.Att

end
-- ==== Proof.Deal.lean ====
module

public import proofs.«01_k».proof.Proof.Body
public import Idealize.ShloMosaic.Lib.Pipeline.Launch

/-! # What each device is dealt

The cells' tokens and credit, from one whole to what each device's body starts with. -/

@[expose] public section

noncomputable section

namespace Cert.KernelIdeal.Att

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## A family over the kernel's own semaphores -/

/-- Those a batch uses, and those nothing uses. -/
def osB (Φ : OS → sProp 𝕄) (b : Fin 2) : sProp 𝕄 :=
  iprop((bigSep Finset.univ fun i : Fin 15 => Φ (.inl (0, i.succ, b))) ∗ (bigSep Finset.univ fun i : Fin 15 => Φ (.inl (1, i.succ, b)))
    ∗ (bigSep Finset.univ fun i : Fin 15 => Φ (.inl (2, i.succ, b))) ∗ (bigSep Finset.univ fun i : Fin 15 => Φ (.inl (3, i.succ, b)))
    ∗ Φ (.inr (1, b)) ∗ Φ (.inr (0, b)))
def osN (Φ : OS → sProp 𝕄) : sProp 𝕄 := bigSep Finset.univ fun p : Fin 4 × Fin 2 => Φ (.inl (p.1, 0, p.2))

theorem four (Φ : Fin 4 → sProp 𝕄) : bigSep Finset.univ Φ = iprop(Φ 0 ∗ Φ 1 ∗ Φ 2 ∗ Φ 3) :=
  bigSep_univ_eq_bigSepL [(0 : Fin 4), (1 : Fin 4), (2 : Fin 4), (3 : Fin 4)] (by decide) (by decide) Φ
theorem succ16 (Φ : Fin 16 → sProp 𝕄) : bigSep Finset.univ Φ = iprop(Φ 0 ∗ bigSep Finset.univ fun k : Fin 15 => Φ k.succ) := by
  rw [Fin.univ_succ, Finset.cons_eq_insert, bigSep_insert (by simp), bigSep_map]; rfl

theorem os_arr (Φ : OS → sProp 𝕄) (a : Fin 4) : (bigSep Finset.univ fun p : Fin 16 × Fin 2 => Φ (.inl (a, p.1, p.2)))
    = iprop((bigSep Finset.univ fun b : Fin 2 => Φ (.inl (a, 0, b)))
      ∗ (bigSep Finset.univ fun i : Fin 15 => Φ (.inl (a, i.succ, 0))) ∗ bigSep Finset.univ fun i : Fin 15 => Φ (.inl (a, i.succ, 1))) := by
  rw [bigSep_univ_prod, succ16]
  congr 1
  rw [← bigSep_sep']
  exact bigSep_congr fun i _ => two fun b => Φ (.inl (a, i.succ, b))

theorem sumS {α β : Type} [Fintype α] [Fintype β] (Φ : α ⊕ β → sProp 𝕄) :
    bigSep Finset.univ Φ = iprop((bigSep Finset.univ fun a => Φ (.inl a)) ∗ bigSep Finset.univ fun b => Φ (.inr b)) := BI.bigSep_univ_sum Φ

theorem os_split (Φ : OS → sProp 𝕄) : bigSep Finset.univ Φ = iprop(osB Φ 0 ∗ osB Φ 1 ∗ osN Φ) := by
  rw [sumS, bigSep_univ_prod, bigSep_univ_prod (fun p : Fin 2 × Fin 2 => Φ (.inr p)), two, two, two,
    bigSep_congr (s := (Finset.univ : Finset (Fin 4))) (fun a _ => os_arr Φ a), four]
  unfold osN osB
  rw [bigSep_univ_prod, four]
  refine BI.equiv_iff.mp ⟨?_, ?_⟩
  · show (_ : sProp 𝕄) ⊢ _
    iintro ⟨⟨⟨N0, A0, A1⟩, ⟨N1, B0, B1⟩, ⟨N2, C0, C1⟩, ⟨N3, D0, D1⟩⟩, ⟨I0, I1⟩, S0, S1⟩
    isplitl [A0 B0 C0 D0 I0 S0]
    · isplitl [A0]; · iexact A0
      isplitl [B0]; · iexact B0
      isplitl [C0]; · iexact C0
      isplitl [D0]; · iexact D0
      isplitl [S0] <;> iassumption
    isplitl [A1 B1 C1 D1 I1 S1]
    · isplitl [A1]; · iexact A1
      isplitl [B1]; · iexact B1
      isplitl [C1]; · iexact C1
      isplitl [D1]; · iexact D1
      isplitl [S1] <;> iassumption
    isplitl [N0]; · iexact N0
    isplitl [N1]; · iexact N1
    isplitl [N2] <;> iassumption
  · show (_ : sProp 𝕄) ⊢ _
    iintro ⟨⟨A0, B0, C0, D0, S0, I0⟩, ⟨A1, B1, C1, D1, S1, I1⟩, N0, N1, N2, N3⟩
    isplitr [I0 I1 S0 S1]
    · isplitl [N0 A0 A1]
      · isplitl [N0]; · iexact N0
        isplitl [A0] <;> iassumption
      isplitl [N1 B0 B1]
      · isplitl [N1]; · iexact N1
        isplitl [B0] <;> iassumption
      isplitl [N2 C0 C1]
      · isplitl [N2]; · iexact N2
        isplitl [C0] <;> iassumption
      isplitl [N3]; · iexact N3
      isplitl [D0] <;> iassumption
    isplitl [I0 I1]
    · isplitl [I0] <;> iassumption
    isplitl [S0] <;> iassumption

theorem own_rsS_eq (c : Dev nD) (i : Fin 15) (b : Fin 2) : ownC c (.inl (0, i.succ, b)) = rsSc c b i := by unfold ownC; rw [osem_rsS]
theorem own_rsR_eq (c : Dev nD) (i : Fin 15) (b : Fin 2) : ownC c (.inl (1, i.succ, b)) = rsRc c b i := by unfold ownC; rw [osem_rsR]
theorem own_agS_eq (c : Dev nD) (i : Fin 15) (b : Fin 2) : ownC c (.inl (2, i.succ, b)) = agSc c b i := by unfold ownC; rw [osem_agS]
theorem own_agR_eq (c : Dev nD) (i : Fin 15) (b : Fin 2) : ownC c (.inl (3, i.succ, b)) = agRc c b i := by unfold ownC; rw [osem_agR]
theorem own_inp_eq (c : Dev nD) (b : Fin 2) : ownC c (.inr (0, b)) = inpC c b := by unfold ownC; rw [osem_inp]
theorem own_st_eq (c : Dev nD) (b : Fin 2) : ownC c (.inr (1, b)) = stC c b := by unfold ownC; rw [osem_st]

theorem osB_cells (c : Dev nD) (Ψ : GSem nD τ sig → sProp 𝕄) (b : Fin 2) : osB (fun k => Ψ (ownC c k)) b
    = iprop((bigSep Finset.univ fun i : Fin 15 => Ψ (rsSc c b i)) ∗ (bigSep Finset.univ fun i : Fin 15 => Ψ (rsRc c b i))
      ∗ (bigSep Finset.univ fun i : Fin 15 => Ψ (agSc c b i)) ∗ (bigSep Finset.univ fun i : Fin 15 => Ψ (agRc c b i)) ∗ Ψ (stC c b) ∗ Ψ (inpC c b)) := by
  unfold osB
  simp only [own_rsS_eq, own_rsR_eq, own_agS_eq, own_agR_eq, own_inp_eq, own_st_eq]

theorem posB_eq (c : Dev nD) (b : Fin 2) (r : ℕ) : posB (F := F) c b r = osB (fun k => atPos ER (ownC c k) r ∅ 0) b :=
  (osB_cells c (fun g => atPos ER g r ∅ 0) b).symm

/-! ## The tokens -/

theorem swapS {α β : Type} [Fintype α] [Fintype β] (Φ : α → β → sProp 𝕄) :
    (bigSep Finset.univ fun a => bigSep Finset.univ fun b => Φ a b) = bigSep Finset.univ fun b => bigSep Finset.univ fun a => Φ a b := by
  rw [← bigSep_univ_prod fun p : α × β => Φ p.1 p.2, bigSep_univ_equiv (Equiv.prodComm β α) fun p : α × β => Φ p.1 p.2, bigSep_univ_prod]
  rfl

/-- Handing around: what each device holds for each of the others, as each holds of its own. -/
theorem around (Φ : Dev nD → Fin 15 → sProp 𝕄) : (bigSep Finset.univ fun c : Dev nD => bigSep Finset.univ fun i : Fin 15 => Φ (dst c i) (Fin.rev i))
    = bigSep Finset.univ fun d : Dev nD => bigSep Finset.univ fun i : Fin 15 => Φ d i := by
  rw [swapS, swapS Φ, ← revS]
  refine bigSep_congr fun i _ => ?_
  have hb : Function.Bijective fun c : Dev nD => dst c (Fin.rev i) := Finite.injective_iff_bijective.mp (dst_inj (Fin.rev i))
  rw [bigSep_univ_equiv (Equiv.ofBijective _ hb) fun d => Φ d i]
  refine bigSep_congr fun c _ => ?_
  show Φ (dst c (Fin.rev i)) (Fin.rev (Fin.rev i)) = Φ (dst c (Fin.rev i)) i
  rw [Fin.rev_rev]

def tokSet : Finset (GSem nD τ sig × ℕ × Fin 15) :=
  Finset.univ.map ⟨fun p : Dev nD × (Fin 15 ⊕ OS) => (match p with | (c, .inl i) => (barC c, 0, i) | (c, .inr k) => (ownC c k, 0, 0)), fun p p' h => by
    obtain ⟨c, i | k⟩ := p <;> obtain ⟨c', i' | k'⟩ := p'
    · have h1 : c = c' := congrArg (fun x : GSem nD τ sig × ℕ × Fin 15 => x.1.1.1) h
      have h2 : i = i' := congrArg (fun x : GSem nD τ sig × ℕ × Fin 15 => x.2.2) h
      rw [h1, h2]
    · have h1 : SemLoc.reg barS = osem k' := congrArg (fun x : GSem nD τ sig × ℕ × Fin 15 => x.1.2) h
      rcases k' with k' | k' <;> exact absurd h1 nofun
    · have h1 : osem k = SemLoc.reg barS := congrArg (fun x : GSem nD τ sig × ℕ × Fin 15 => x.1.2) h
      rcases k with k | k <;> exact absurd h1 nofun
    · have h1 : c = c' := congrArg (fun x : GSem nD τ sig × ℕ × Fin 15 => x.1.1.1) h
      have h2 : osem k = osem k' := congrArg (fun x : GSem nD τ sig × ℕ × Fin 15 => x.1.2) h
      rw [h1, osem_inj h2]⟩

theorem tokSet_eq : (bigSep tokSet fun x => (dutyTok ER x.1 x.2.1 x.2.2 : sProp 𝕄))
    = bigSep Finset.univ fun c : Dev nD => iprop((bigSep Finset.univ fun i : Fin 15 => dutyTok ER (barC c) 0 i)
        ∗ bigSep Finset.univ fun k : OS => dutyTok ER (ownC c k) 0 0) := by
  unfold tokSet
  rw [bigSep_map, bigSep_univ_prod]
  exact bigSep_congr fun c _ => sumS _

theorem deal : (bigSep tokSet fun x => (dutyTok ER x.1 x.2.1 x.2.2 : sProp 𝕄))
    ⊢ bigSep Finset.univ fun c : Dev nD => iprop((bigSep Finset.univ fun i : Fin 15 => dutyTok ER (barC (dst c i)) 0 (Fin.rev i))
        ∗ tokB (F := F) c 0 ∗ tokB (F := F) c 1) := by
  have hB (b : Fin 2) : (bigSep Finset.univ fun c : Dev nD => osB (F := F) (fun k => dutyTok ER (ownC c k) 0 0) b)
      = bigSep Finset.univ fun c : Dev nD => tokB (F := F) c b := by
    rw [bigSep_congr (s := (Finset.univ : Finset (Dev nD))) fun c _ => osB_cells (F := F) c (fun g => dutyTok ER g 0 0) b]
    unfold tokB rsT agT
    simp only [bigSep_sep']
    rw [around fun d i => dutyTok ER (rsRc d b i) 0 0, around fun d i => dutyTok ER (agRc d b i) 0 0]
  rw [tokSet_eq, bigSep_sep', bigSep_sep', bigSep_sep', ← hB 0, ← hB 1, around fun d i => dutyTok ER (barC d) 0 i,
    bigSep_congr (s := (Finset.univ : Finset (Dev nD))) fun c _ => os_split (F := F) fun k => dutyTok ER (ownC c k) 0 0, bigSep_sep', bigSep_sep']
  show (_ : sProp 𝕄) ⊢ _
  iintro ⟨Hb, H0, H1, -⟩
  isplitl [Hb]; · iexact Hb
  isplitl [H0] <;> iassumption

/-! ## What is to arrive -/

theorem cred_oL (sm : Fin 15 → SemLoc sig) (n : ℕ) (rest : Dev nD → Owed) (c : Dev nD) : ∀ l : List (Fin 15),
    (Pipeline.launchCred (fun d => oL (fun j => ((dst d j : Thread nD τ), sm j)) n l (rest d)) c : sProp 𝕄)
      ⊢ iprop(bigL l (fun j => cred (tallyAt ((c : Thread nD τ), sm j) () n)) ∗ Pipeline.launchCred rest c)
  | [] => by
    show (Pipeline.launchCred rest c : sProp 𝕄) ⊢ iprop(emp ∗ Pipeline.launchCred rest c)
    iintro H
    isplitr; · iempintro
    iexact H
  | j :: l => by
    show (Pipeline.launchCred (fun d => oL (fun j => ((dst d j : Thread nD τ), sm j)) n l (rest d) + tallyAt ((dst d j : Thread nD τ), sm j) () n) c : sProp 𝕄)
      ⊢ iprop((cred (tallyAt ((c : Thread nD τ), sm j) () n) ∗ bigL l (fun j => cred (tallyAt ((c : Thread nD τ), sm j) () n))) ∗ Pipeline.launchCred rest c)
    rw [Pipeline.launchCred_add]
    iintro ⟨Hl, Hj⟩
    ihave Hl := (cred_oL sm n rest c l) $$ Hl
    icases Hl with ⟨Hl, Hr⟩
    isplitr [Hr]
    · isplitl [Hj]
      · iapply (Pipeline.launchCred_tallyAt (sm j) (fun d => dst d j) (fun d => dst d (Fin.rev j))
          (fun d => by have h := dst_rev d (Fin.rev j); rwa [Fin.rev_rev] at h) (fun d => dst_rev d j) () n c) $$ Hj
      iexact Hl
    iexact Hr

theorem cred_fold (c : Dev nD) (sm : SemLoc sig) : ∀ l : List (Fin 15), bigL l (fun _ => (cred (tallyAt ((c : Thread nD τ), sm) () 1) : sProp 𝕄))
    ⊢ cred (tallyAt ((c : Thread nD τ), sm) () l.length)
  | [] => by
    show (BI.emp : sProp 𝕄) ⊢ _
    rw [List.length_nil, tallyAt_zero, cred_zero]
    exact .rfl
  | i :: l => by
    show (iprop(cred (tallyAt ((c : Thread nD τ), sm) () 1) ∗ bigL l (fun _ => (cred (tallyAt ((c : Thread nD τ), sm) () 1) : sProp 𝕄))) : sProp 𝕄) ⊢ _
    rw [List.length_cons, Nat.add_comm, ← tallyAt_add]
    exact (sep_mono_right (cred_fold c sm l)).trans (cred_add _ _).2

theorem creds (c : Dev nD) : (Pipeline.launchCred O₀ c : sProp 𝕄)
    ⊢ iprop(cred (tallyAt (barC c) () 15) ∗ crB (F := F) c 0 ∗ crB (F := F) c 1) := by
  have hR (b : Fin 2) : bigL I15 (fun j => (cred (tallyAt ((c : Thread nD τ), SemLoc.dma (sAt cc0_scratch6 (Fin.rev j) b)) () N) : sProp 𝕄))
      = bigSep Finset.univ fun i : Fin 15 => cred (tallyAt (rsRc c b i) () N) := by
    rw [bigL_I15, ← revS fun i : Fin 15 => cred (tallyAt (rsRc c b i) () N)]
  have hA (b : Fin 2) : bigL I15 (fun j => (cred (tallyAt ((c : Thread nD τ), SemLoc.dma (sAt cc0_scratch8 (Fin.rev j) b)) () N) : sProp 𝕄))
      = bigSep Finset.univ fun i : Fin 15 => cred (tallyAt (agRc c b i) () N) := by
    rw [bigL_I15, ← revS fun i : Fin 15 => cred (tallyAt (agRc c b i) () N)]
  iintro H
  ihave H := (show (Pipeline.launchCred O₀ c : sProp 𝕄) ⊢ _ from cred_oL (F := F) (fun _ => .reg barS) 1 Ors0 c I15) $$ H
  icases H with ⟨Hb, H⟩
  ihave H := (show (Pipeline.launchCred Ors0 c : sProp 𝕄) ⊢ _ from cred_oL (F := F) (fun j => .dma (sAt cc0_scratch6 (Fin.rev j) 0)) N Ors1 c I15) $$ H
  icases H with ⟨H1, H⟩
  ihave H := (show (Pipeline.launchCred Ors1 c : sProp 𝕄) ⊢ _ from cred_oL (F := F) (fun j => .dma (sAt cc0_scratch6 (Fin.rev j) 1)) N Oag0 c I15) $$ H
  icases H with ⟨H2, H⟩
  ihave H := (show (Pipeline.launchCred Oag0 c : sProp 𝕄) ⊢ _ from cred_oL (F := F) (fun j => .dma (sAt cc0_scratch8 (Fin.rev j) 0)) N Oag1 c I15) $$ H
  icases H with ⟨H3, H⟩
  ihave H := (show (Pipeline.launchCred Oag1 c : sProp 𝕄) ⊢ _ from cred_oL (F := F) (fun j => .dma (sAt cc0_scratch8 (Fin.rev j) 1)) N (fun _ => 0) c I15) $$ H
  icases H with ⟨H4, -⟩
  ihave H1 := (Entails.of_eq (hR 0)) $$ H1
  ihave H2 := (Entails.of_eq (hR 1)) $$ H2
  ihave H3 := (Entails.of_eq (hA 0)) $$ H3
  ihave H4 := (Entails.of_eq (hA 1)) $$ H4
  unfold crB
  isplitl [Hb]; · iapply (cred_fold (F := F) c (.reg barS) I15) $$ Hb
  isplitl [H1 H3]
  · isplitl [H1] <;> iassumption
  isplitl [H2] <;> iassumption

end Cert.KernelIdeal.Att

end
-- ==== Proof.Region.lean ====
module

public import proofs.«01_k».proof.Proof.Deal
public import proofs.«01_k».proof.Proof.Gen.KernelIdeal.Regions
public import Idealize.ShloMosaic.Lib.Pipeline.RegionArrays

/-! # The kernel's region

Around the body: the cells opened as the kernel begins and closed as it ends, and the arrays its pipeline stages. -/

@[expose] public section

noncomputable section

namespace Cert.KernelIdeal.Att

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-- What each device brings to the kernel: its arguments and what its host code makes of them. -/
def ins (c : Dev nD) : Ins F :=
  ⟨V1 m c main_arg0, V1 m c main_v18, V1 m c main_arg4, V1 m c main_v15, V1 m c main_v16⟩

/-! ## A device's cells opened and closed -/

section Cells
variable (A : Dev nD → Ins F)

/-- The position a semaphore's cell ends at: one round on, where a copy counts. -/
def rnd : OS → ℕ
  | .inl (_, r, _) => if r = 0 then 0 else 1
  | .inr _ => 1

theorem idle_dec : ∀ (a : Fin 4) (b : Fin 2) (s : DmaSem sig), osem (.inl (a, 0, b)) = .dma s → dec s = Kind.none := by decide +kernel

theorem no_duty (c : Dev nD) (k : OS) (r : ℕ) (h : rnd k ≤ r) : (Rd A).duties (ownC c k) r = ∅ := by
  rcases k with ⟨a, i, b⟩ | k
  · by_cases hi : i = 0
    · subst hi
      exact duties_none A c _ (idle_dec a b _ rfl) r
    · exact duties_later A _ r ((if_neg hi).ge.trans h)
  · exact duties_later A _ r h

theorem recs_at (κ : GSem nD τ sig → ℕ) (c : Dev nD) (k : OS) : recs A κ ⊢ cellInv ER (Rd A) (κ (ownC c k)) (ownC c k) := by
  have h := bigSep_elim (M := 𝕄) (Φ := fun g => cellInv ER (Rd A) (κ g) g) (Finset.mem_union_right barCs (mem_own c k))
  unfold recs
  iintro ⟨H, -⟩
  iapply (show (_ : sProp 𝕄) ⊢ _ from h) $$ H

theorem open_all (κ : GSem nD τ sig → ℕ) (c : Dev nD) :
    iprop(recs A κ ∗ (bigSep Finset.univ fun k : OS => openTok ER (ownC c k)) ∗ Pipeline.ownSems0 osem c)
      ⊢ |={Set.univ}=> iprop((bigSep Finset.univ fun k : OS => atPos ER (ownC c k) 0 ∅ 0) ∗ bigSep Finset.univ fun k : OS => reached ER (ownC c k) 0) := by
  have h1 (k : OS) : iprop(recs A κ ∗ (openTok ER (ownC c k) ∗ semVal (ownC c k) 0))
      ⊢ (|={Set.univ}=> iprop(atPos ER (ownC c k) 0 ∅ 0 ∗ reached ER (ownC c k) 0) : sProp 𝕄) := by
    iintro ⟨#HR, Ho, Hv⟩
    iapply (Rounds.cell_open ER (Rd A) (g := ownC c k) (Set.mem_univ (κ (ownC c k))))
    isplitr; · iapply (recs_at A κ c k); iexact HR
    isplitl [Ho] <;> iassumption
  unfold Pipeline.ownSems0
  show iprop(recs A κ ∗ (bigSep Finset.univ fun k : OS => openTok ER (ownC c k)) ∗ bigSep Finset.univ fun k : OS => semVal (ownC c k) 0) ⊢ _
  rw [← bigSep_sep', ← bigSep_sep']
  exact (bigSep_with_persistent fun k _ => h1 k).trans (bigSep_fupd _ _)

theorem close_all (κ : GSem nD τ sig → ℕ) (c : Dev nD) :
    iprop(recs A κ ∗ (posB (F := F) c 0 1 ∗ posB (F := F) c 1 1 ∗ osN (F := F) fun k => atPos ER (ownC c k) 0 ∅ 0))
      ⊢ (|={Set.univ}=> Pipeline.ownSems0 osem c : sProp 𝕄) := by
  have h1 (k : OS) : iprop(recs A κ ∗ atPos ER (ownC c k) (rnd k) ∅ 0) ⊢ (|={Set.univ}=> semVal (ownC c k) 0 : sProp 𝕄) := by
    iintro ⟨#HR, Ha⟩
    iapply (Rounds.cell_close ER (Rd A) (g := ownC c k) (Set.mem_univ (κ (ownC c k))) id (R := rnd k) (no_duty A c k))
    isplitr; · iapply (recs_at A κ c k); iexact HR
    iexact Ha
  have e : iprop(posB (F := F) c 0 1 ∗ posB (F := F) c 1 1 ∗ osN (F := F) fun k => atPos ER (ownC c k) 0 ∅ 0)
      = bigSep Finset.univ fun k : OS => (atPos ER (ownC c k) (rnd k) ∅ 0 : sProp 𝕄) := by
    rw [os_split, posB_eq, posB_eq]; rfl
  rw [e]
  exact (bigSep_with_persistent fun k _ => h1 k).trans (bigSep_fupd _ _)

theorem close_bar (κ : GSem nD τ sig → ℕ) (c : Dev nD) : iprop(recs A κ ∗ atPos ER (barC c) 1 ∅ 0) ⊢ (|={Set.univ}=> semVal (barC c) 0 : sProp 𝕄) := by
  iintro ⟨#HR, Ha⟩
  iapply (Rounds.cell_close ER (Rd A) (g := barC c) (Set.mem_univ (κ (barC c))) id (R := 1) (duties_later A _))
  isplitr; · iapply (recs_bar A κ c); iexact HR
  iexact Ha

end Cells

/-! ## What goes with a device -/

/-- Beside the rights to its own cells: its barrier, the tokens it pays with, and what is to arrive. -/
def dealt (c : Dev nD) : sProp 𝕄 :=
  iprop((cred (tallyAt (barC c) () 15) ∗ atPos ER (barC c) 0 ∅ 0 ∗ bigSep Finset.univ fun i : Fin 15 => dutyTok ER (barC (dst c i)) 0 (Fin.rev i))
    ∗ (tokB (F := F) c 0 ∗ tokB (F := F) c 1) ∗ crB (F := F) c 0 ∗ crB (F := F) c 1)
/-- From the launch to the kernel. -/
def Tk (c : Dev nD) : sProp 𝕄 := iprop(∃ κ, recs (ins m) κ ∗ (bigSep Finset.univ fun k : OS => openTok ER (ownC c k)) ∗ dealt (F := F) c)
/-- Into the kernel. -/
def Xk (c : Dev nD) : sProp 𝕄 :=
  iprop(∃ κ, P (ins m) κ c ∗ (posB (F := F) c 0 0 ∗ posB (F := F) c 1 0 ∗ osN (F := F) fun k => atPos ER (ownC c k) 0 ∅ 0) ∗ dealt (F := F) c)
/-- Out of it. -/
def Yk (c : Dev nD) : sProp 𝕄 := semVal (barC c) 0

theorem hopen (c : Dev nD) : iprop(Tk m c ∗ Pipeline.ownSems0 osem c ∗ levAts L lv) ⊢ (|={Set.univ}=> Xk m c : sProp 𝕄) := by
  unfold Tk Xk P
  iintro ⟨⟨%κ, #HR, Ho, Hd⟩, Hs, #Hl⟩
  imod (open_all (ins m) κ c) $$ [Ho Hs] with ⟨Ha, #Hr⟩
  · isplitr; · iexact HR
    isplitl [Ho] <;> iassumption
  imodintro
  iexists κ
  isplitr
  · isplitr; · iexact HR
    isplitr; · iexact Hr
    iexact Hl
  isplitl [Ha]
  · rw [posB_eq, posB_eq]
    iapply (Entails.of_eq (os_split (F := F) fun k => atPos ER (ownC c k) 0 ∅ 0)) $$ Ha
  iexact Hd

/-! ## The buffers around the kernel -/

/-- What the unscoped buffers hold after it. -/
def Vend (c : Dev nD) : Valuation τ sig (Elt F) := Function.update (V1 m c) (Proc.devRef .tc main_v19) (outF (ins m))

/-- The unscoped buffers that no window stages; and those of them that the body touches. -/
abbrev Sr : Finset (DevRef τ sig) := Pipeline.ucRefs τ sig \ Pipeline.arrRefs (τ := τ) spec0
def Hs : Finset (DevRef τ sig) := {Proc.devRef .tc main_v15, Proc.devRef .tc main_v16, Proc.devRef .tc main_v19}

theorem Hs_sub : Hs ⊆ Sr := by decide +kernel

/-- A buffer of device `c`, whole. -/
abbrev pl (c : Dev nD) (b : Ref sig .tc) (f : b.ty.Contents (Elt F)) : sProp 𝕄 := ((c : Thread nD τ).loc b) ↦{fullShare} f

theorem held_Hs (c : Dev nD) (W : Valuation τ sig (Elt F)) : (StableHlo.held (c : Thread nD τ) Hs W : sProp 𝕄)
    = iprop(pl c main_v15 (W main_v15) ∗ pl c main_v16 (W main_v16) ∗ pl c main_v19 (W main_v19)) := by
  unfold StableHlo.held Hs
  rw [bigSep_eq_bigSepL_of_eq [Proc.devRef .tc main_v15, Proc.devRef .tc main_v16, Proc.devRef .tc main_v19] (by decide) (by decide)]
  rfl

theorem Vend_out (c : Dev nD) : Vend m c main_v19 = outF (ins m) := Function.update_self ..
theorem Vend_of (c : Dev nD) (b : DevRef τ sig) (h : b ≠ Proc.devRef .tc main_v19) : Vend m c b = V1 m c b := Function.update_of_ne h ..

/-! ## The kernel's region -/

/-- What the region holds as the body begins, and as it ends. -/
def Φin (c : Dev nD) : sProp 𝕄 := iprop(Pipeline.scopedRest spec0 c ∗ (∃ r, prngReg c r) ∗ StableHlo.held (c : Thread nD τ) Hs (V1 m c) ∗ Xk m c)
def Φout (c : Dev nD) : sProp 𝕄 := iprop(Pipeline.scopedRest spec0 c ∗ (∃ r, prngReg c r) ∗ StableHlo.held (c : Thread nD τ) Hs (Vend m c) ∗ Pipeline.ownSems0 osem c ∗ Yk c)

/-- The pipeline's data: three arrays, staged whole and left as they are. -/
def dat0 (c : Dev nD) : Pipeline.Dat τ (Elt F) Unit ℕ UU ℕ cfg0 c where
  A w := V1 m c (Proc.devRef .tc (Pipeline.arrRef spec0 w))
  after w _ := match w with
    | ⟨0, _⟩ => (ins m c).x
    | ⟨1, _⟩ => (ins m c).wq
    | ⟨2, _⟩ => (ins m c).wo
  Φ t := if t.val = 0 then Φin m c else Φout m c
  q _ := fullShare
  owed t := if t.val = 0 then O₀ c else 0

abbrev adm : (p : Fin 1) → (pcfgs (F := F) p).Adm := fun p => (cfgs p).toPCfg_adm
def pdats : (p : Fin 1) → (c : Dev nD) → Pipeline.Dat τ (Elt F) Unit ℕ UU ℕ (Pipeline.pin (pcfgs (F := F)) adm p) c
  | 0 => dat0 m

theorem before_0 (c : Dev nD) (d : (cfg0.win 0).block.Idx → Elt F (cfg0.win 0).elt) : (dat0 m c).before 0 t0_0 d = (ins m c).x := by
  unfold Pipeline.Dat.before; rw [if_pos (by decide)]
  unfold Pipeline.Dat.fetched Pipeline.Dat.blockOf
  funext j
  show (ins m c).x _ = (ins m c).x j
  refine congrArg (ins m c).x (funext fun a => Fin.ext ?_)
  dsimp
  refine (Rect.emb_apply _ _ _).trans ?_
  simp
  exact Or.inl rfl
theorem before_1 (c : Dev nD) (d : (cfg0.win 1).block.Idx → Elt F (cfg0.win 1).elt) : (dat0 m c).before 1 t0_0 d = (ins m c).wq := by
  unfold Pipeline.Dat.before; rw [if_pos (by decide)]
  unfold Pipeline.Dat.fetched Pipeline.Dat.blockOf
  funext j
  show (ins m c).wq _ = (ins m c).wq j
  refine congrArg (ins m c).wq (funext fun a => Fin.ext ?_)
  dsimp
  refine (Rect.emb_apply _ _ _).trans ?_
  simp
  exact Or.inl rfl
theorem before_2 (c : Dev nD) (d : (cfg0.win 2).block.Idx → Elt F (cfg0.win 2).elt) : (dat0 m c).before 2 t0_0 d = (ins m c).wo := by
  unfold Pipeline.Dat.before; rw [if_pos (by decide)]
  unfold Pipeline.Dat.fetched Pipeline.Dat.blockOf
  funext j
  show (ins m c).wo _ = (ins m c).wo j
  refine congrArg (ins m c).wo (funext fun a => Fin.ext ?_)
  dsimp
  refine (Rect.emb_apply _ _ _).trans ?_
  simp
  exact Or.inl rfl

theorem owed_zero (c : Dev nD) : (pdats (F := F) m 0 c).owed 0 = O₀ c := by
  show (if ((0 : Fin (cfg0.N + 1)).val = 0) then O₀ c else 0) = O₀ c; exact if_pos rfl
theorem owed_first (c : Dev nD) : (dat0 (F := F) m c).owed (Fin.castSucc t0_0) = O₀ c := by
  show (if ((Fin.castSucc t0_0 : Fin (cfg0.N + 1)).val = 0) then O₀ c else 0) = O₀ c; exact if_pos rfl
theorem owed_succ (c : Dev nD) : (dat0 (F := F) m c).owed (Fin.succ t0_0) = 0 := by
  show (if ((Fin.succ t0_0 : Fin (cfg0.N + 1)).val = 0) then O₀ c else 0) = 0; exact if_neg (Nat.succ_ne_zero _)
theorem owed_last (c : Dev nD) : (pdats (F := F) m 0 c).owed (Fin.last _) = 0 := by
  show (if (Fin.last cfg0.N).val = 0 then O₀ c else 0) = 0
  rw [Fin.val_last, if_neg (by rw [show cfg0.N = 1 from N_0]; decide)]
theorem Φ_first (c : Dev nD) : (dat0 (F := F) m c).Φ (Fin.castSucc t0_0) = Φin m c := by
  show (if ((Fin.castSucc t0_0 : Fin (cfg0.N + 1)).val = 0) then Φin m c else Φout m c) = _; exact if_pos rfl
theorem Φ_succ (c : Dev nD) : (dat0 (F := F) m c).Φ (Fin.succ t0_0) = Φout m c := by
  show (if ((Fin.succ t0_0 : Fin (cfg0.N + 1)).val = 0) then Φin m c else Φout m c) = _; exact if_neg (Nat.succ_ne_zero _)
theorem Φ_zero (c : Dev nD) : (pdats (F := F) m 0 c).Φ 0 = Φin m c := by
  show (if ((0 : Fin (cfg0.N + 1)).val = 0) then Φin m c else Φout m c) = _; exact if_pos rfl
theorem Φ_last (c : Dev nD) : (pdats (F := F) m 0 c).Φ (Fin.last _) = Φout m c := by
  show (if (Fin.last cfg0.N).val = 0 then Φin m c else Φout m c) = _
  rw [Fin.val_last, if_neg (by rw [show cfg0.N = 1 from N_0]; decide)]

theorem owesAt_in (c : Dev nD) (t : Fin (cfg0.N + 1)) (O : Owed) (h : (dat0 m c).owed t = O) : ow (F := F) c O ⊢ ((dat0 m c).owesAt () t : sProp 𝕄) := by
  unfold ow Dat.owesAt Pipeline.owesWithin Dat.bound
  rw [h]
  iintro ⟨%W, HO⟩
  iexists W
  isplitr; · ipureintro; exact fun _ _ => Or.inl trivial
  iexact HO
theorem owesAt_out (c : Dev nD) (t : Fin (cfg0.N + 1)) (O : Owed) (h : (dat0 m c).owed t = O) : ((dat0 m c).owesAt () t : sProp 𝕄) ⊢ ow (F := F) c O := by
  unfold ow Dat.owesAt Pipeline.owesWithin
  rw [h]
  iintro ⟨%W, -, HO⟩
  iexists W; iexact HO

theorem vP_pl (c : Dev nD) (b : Ref sig .tc) (f : b.ty.Contents (Elt F)) : (vP (F := F) (Memref.whole b) c fullShare f : sProp 𝕄) = pl c b f := by
  unfold vP; simp only [Memref.view_whole, View.set_whole]

theorem some_pl (c : Dev nD) (b : Ref sig .tc) :
    iprop(∃ f : Buf (Elt F) ((c : Thread nD τ).loc b), ((c : Thread nD τ).loc b) ↦{fullShare} f) = (iprop(∃ f, vP (F := F) (Memref.whole b) c fullShare f) : sProp 𝕄) :=
  congrArg _ (funext fun f => (vP_pl c b f).symm)

theorem memS_eq (c : Dev nD) : (Pipeline.scopedRest spec0 c : sProp 𝕄) = memS (F := F) c := by
  rw [scopedRest0_eq]
  exact congrArg₂ BI.sep (some_pl c cc0_scratch0) (congrArg₂ BI.sep (some_pl c cc0_scratch1) (congrArg₂ BI.sep (some_pl c cc0_scratch2)
    (congrArg₂ BI.sep (some_pl c cc0_scratch3) (some_pl c cc0_scratch4))))

theorem owns_stage (c : Dev nD) (b : Ref sig .tc) (X : b.ty.Contents (Elt F)) :
    (owns (c : Thread nD τ) (Memref.whole b) fullShare X : sProp 𝕄) = vP (Memref.whole b) c fullShare X := by
  rw [owns_whole, vP_pl]

theorem Φin_body (c : Dev nD) : (Φin m c : sProp 𝕄) ⊢ iprop((∃ r, prngReg c r) ∗ ∃ κ, P (ins m) κ c ∗ (osN (F := F) fun k => atPos ER (ownC c k) 0 ∅ 0)
    ∗ (vP a0 c fullShare (ins m c).x -∗ vP a1 c fullShare (ins m c).wq -∗ vP a4 c fullShare (ins m c).wo -∗ bodyPre (ins m) c)) := by
  unfold Φin Xk dealt bodyPre memB
  rw [memS_eq, held_Hs]
  iintro ⟨HS, Hg, ⟨Hk, Hv, Ho⟩, ⟨%κ, #HP, ⟨Hp0, Hp1, Hn⟩, Hb, ⟨Ht0, Ht1⟩, Hc0, Hc1⟩⟩
  ihave Hk := (Entails.of_eq (show (pl c main_v15 (V1 m c (Proc.devRef .tc main_v15)) : sProp 𝕄) = vP (F := F) (Memref.whole main_v15) c fullShare (ins m c).k from (vP_pl c main_v15 (ins m c).k).symm)) $$ Hk
  ihave Hv := (Entails.of_eq (show (pl c main_v16 (V1 m c (Proc.devRef .tc main_v16)) : sProp 𝕄) = vP (F := F) (Memref.whole main_v16) c fullShare (ins m c).v from (vP_pl c main_v16 (ins m c).v).symm)) $$ Hv
  ihave Ho := (Entails.of_eq (vP_pl c main_v19 (V1 m c main_v19)).symm) $$ Ho
  isplitl [Hg]; · iexact Hg
  iexists κ
  isplitr; · iexact HP
  isplitl [Hn]; · iexact Hn
  iintro H0 H1 H4
  isplitl [Hb]; · iexact Hb
  isplitl [Hp0 Ht0 Hc0]
  · isplitl [Hp0]; · iexact Hp0
    isplitl [Ht0] <;> iassumption
  isplitl [Hp1 Ht1 Hc1]
  · isplitl [Hp1]; · iexact Hp1
    isplitl [Ht1] <;> iassumption
  isplitl [H0 H1 H4 Hk Hv]
  · isplitl [H0]; · iexact H0
    isplitl [H1]; · iexact H1
    isplitl [H4]; · iexact H4
    isplitl [Hk] <;> iassumption
  isplitl [HS]; · iexact HS
  iexists _; iexact Ho

theorem body_Φout (κ : GSem nD τ sig → ℕ) (c : Dev nD) : iprop(P (ins m) κ c ∗ (∃ r, prngReg c r) ∗ (osN (F := F) fun k => atPos ER (ownC c k) 0 ∅ 0) ∗ bodyPost (ins m) c)
    ⊢ (|={Set.univ}=> iprop((vP a0 c fullShare (ins m c).x ∗ vP a1 c fullShare (ins m c).wq ∗ vP a4 c fullShare (ins m c).wo) ∗ Φout m c) : sProp 𝕄) := by
  unfold Φout Yk bodyPost memB P
  rw [memS_eq, held_Hs]
  iintro ⟨⟨#HR, -, -⟩, Hg, Hn, Hb, Hp0, Hp1, ⟨H0, H1, H4, Hk, Hv⟩, HS, Ho⟩
  imod (close_all (ins m) κ c) $$ [Hn Hp0 Hp1] with Hs
  · isplitr; · iexact HR
    isplitl [Hp0]; · iexact Hp0
    isplitl [Hp1] <;> iassumption
  imod (close_bar (ins m) κ c) $$ [Hb] with Hb
  · isplitr; · iexact HR
    iexact Hb
  imodintro
  ihave Hk := (Entails.of_eq ((vP_pl c main_v15 (ins m c).k).trans (congrArg (pl c main_v15) (Vend_of m c (Proc.devRef .tc main_v15) (by decide)).symm))) $$ Hk
  ihave Hv := (Entails.of_eq ((vP_pl c main_v16 (ins m c).v).trans (congrArg (pl c main_v16) (Vend_of m c (Proc.devRef .tc main_v16) (by decide)).symm))) $$ Hv
  ihave Ho := (Entails.of_eq ((vP_pl c main_v19 (outF (ins m))).trans (congrArg (pl c main_v19) (Vend_out m c).symm))) $$ Ho
  isplitl [H0 H1 H4]
  · isplitl [H0]; · iexact H0
    isplitl [H1] <;> iassumption
  isplitl [HS]; · iexact HS
  isplitl [Hg]; · iexact Hg
  isplitl [Hk Hv Ho]
  · isplitl [Hk]; · iexact Hk
    isplitl [Hv] <;> iassumption
  isplitl [Hs] <;> iassumption

theorem wp_dev (c : Dev nD) (k : Dev nD → PR F) (Q : PUnit → sProp 𝕄) : WPc c (.op .deviceId k) Q = WPc c (k c) Q := by
  unfold WPc
  rw [wp_deviceId]

theorem body_at (A : Dev nD → Ins F) (κ : GSem nD τ sig → ℕ) (c : Dev nD) (t : Fin cfg0.N) (Q : PUnit → sProp 𝕄) :
    iprop(P A κ c ∗ ow c (O₀ c) ∗ bodyPre A c ∗ (ow c 0 ∗ bodyPost A c -∗ |={Set.univ}=> Q ⟨⟩)) ⊢ WPc c (bodyAt0 t) Q := by
  have h := body_run A κ c (fun a => iprop(|={Set.univ}=> Q a))
  rw [bodyAt_eq]
  revert h
  generalize bodyC (F := F) = k
  intro h
  refine BI.Entails.trans ?_ (wp_fupd _ _ Set.univ _ _)
  have e := wp_dev c k (fun a => iprop(|={Set.univ}=> Q a))
  exact h.trans (Entails.of_eq e.symm)

set_option maxRecDepth 4000 in
theorem body_obligation (c : Dev nD) : BodyObligation (dat0 m c) defs₀ 𝒱₀ () Set.univ := fun t => by
  obtain rfl := fin_N0 t
  rw [bigSep_W0, bigSep_W0]
  simp only [owns_stage]
  rw [Φ_first, Φ_succ]
  iintro ⟨HΦ, HO, ⟨%d0, H0⟩, ⟨%d1, H1⟩, ⟨%d2, H4⟩⟩
  ihave H0 := (Entails.of_eq (congrArg (vP (F := F) a0 c fullShare) (before_0 m c d0))) $$ H0
  ihave H1 := (Entails.of_eq (congrArg (vP (F := F) a1 c fullShare) (before_1 m c d1))) $$ H1
  ihave H4 := (Entails.of_eq (congrArg (vP (F := F) a4 c fullShare) (before_2 m c d2))) $$ H4
  ihave HO := (owesAt_out m c (Fin.castSucc t0_0) (O₀ c) (owed_first m c)) $$ HO
  ihave HΦ := (Φin_body m c) $$ HΦ
  icases HΦ with ⟨Hg, %κ, #HP, Hn, Hf⟩
  iapply (body_at (ins m) κ c t0_0 _)
  isplitr; · iexact HP
  isplitl [HO]; · iexact HO
  isplitl [Hf H0 H1 H4]
  · iapply Hf $$ H0 H1 H4
  iintro ⟨HO, Hp⟩
  imod (body_Φout m κ c) $$ [Hg Hn Hp] with ⟨⟨H0, H1, H4⟩, HΦ⟩
  · isplitr; · iexact HP
    isplitl [Hg]; · iexact Hg
    isplitl [Hn] <;> iassumption
  imodintro
  isplitl [HΦ]; · iexact HΦ
  isplitl [HO]; · iapply (owesAt_in m c (Fin.succ t0_0) 0 (owed_succ m c)) $$ HO
  isplitl [H0]; · iexact H0
  isplitl [H1]; · iexact H1
  iexact H4

end Cert.KernelIdeal.Att

end
-- ==== Proof.Launch.lean ====
module

public import proofs.«01_k».proof.Proof.Region
public import Idealize.ShloMosaic.Lib.Pipeline.RegionTalk

/-! # The launch and the run

The region's record, what the launch hands each device, and the whole run: its end, its result, its counters. -/

@[expose] public section

noncomputable section

namespace Cert.KernelIdeal.Att

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## The region's record -/

theorem stage_low : ∀ (w : Fin 3) (s : Fin (cfg0.win w).nbuf), dec ((cfg0.win w).sem s) = Kind.none := by decide +kernel

theorem owed_above (c : Dev nD) (t : Fin (cfg0.N + 1)) (g : GSem nD τ sig) (u : Unit) (h : 0 < (dat0 (F := F) m c).owed t g u) : u ∈ L g ∧ 0 < lv g u := by
  have h' : 0 < (if t.val = 0 then O₀ c else 0) g u := h
  by_cases h0 : t.val = 0
  · rw [if_pos h0] at h'
    obtain ⟨h1, h2⟩ := above_O₀ c g u h'
    exact ⟨by rw [show L g = {()} from if_pos h1]; exact Finset.mem_singleton_self _, h2⟩
  · rw [if_neg h0] at h'
    exact absurd h' (Nat.lt_irrefl 0)

theorem arr_ne : ∀ w : Fin 3, Proc.devRef (τ := τ) .tc (Pipeline.arrRef spec0 w) ≠ Proc.devRef .tc main_v19 := by decide

theorem ownFacts : Pipeline.OwnSemFacts spec0 osem := ⟨by decide +kernel, osem_inj, by decide +kernel⟩

set_option backward.isDefEq.respectTransparency.types false in
def reg0 : Pipeline.RegionSeg (pcfgs (F := F)) adm (pdats m) () defs₀ 𝒱₀ L lv 0 :=
  Pipeline.RegionSeg.ofTalk (pcfgs (F := F)) adm (pdats m) () defs₀ 𝒱₀ L lv 0 osem ownFacts
    Hs Sr Hs_sub launch0.toP rfl (fun c => (body_obligation m c).loose)
    (fun _ => 0) O₀ (fun c => (owed_zero m c).trans (zero_add _).symm) (owed_last m) (fun _ => rfl) (fun c => (dat0 m c).share_full fun _ => rfl)
    (V1 m) (Vend m) (fun c b hb => Vend_of m c b (fun h => (Finset.mem_sdiff.mp hb).2 (by rw [h]; decide)))
    (Tk m) Yk (Xk m) Yk (hopen m)
    (fun c => Entails.of_eq (Φ_zero m c).symm) (fun c => Entails.of_eq (Φ_last m c))
    (fun c => by iintro H; imodintro; iexact H)
    (fun _ => 0)
    ⟨fun c w s => by rw [L_tc]; exact Finset.mem_singleton_self _, fun c w s => (congrArg lvK (stage_low w s)).le, fun c t g i h => owed_above m c t g i h⟩
    (fun _ => iprop(emp))
    (fun c w => rfl) (fun c w => ((dat0 m c).arrAt_in w (by fin_cases w <;> rfl) _).trans (Vend_of m c _ (arr_ne w)).symm)

/-! ## Into it and out of it -/

/-- Beside the buffers. -/
def E0 (c : Dev nD) : sProp 𝕄 := iprop((∃ r, prngReg c r) ∗ Tk m c ∗ ow (F := F) c (O₀ c))

theorem bufs_split (c : Dev nD) (W : Valuation τ sig (Elt F)) : (StableHlo.held (c : Thread nD τ) (Pipeline.ucRefs τ sig) W : sProp 𝕄)
    = iprop(StableHlo.held (c : Thread nD τ) (Pipeline.arrRefs (τ := τ) spec0) W ∗ StableHlo.held (c : Thread nD τ) Sr W) :=
  StableHlo.held_sub_split _ (by decide +kernel) W

set_option backward.isDefEq.respectTransparency.types false in
theorem reg0_pre (c : Dev nD) : iprop(StableHlo.held (c : Thread nD τ) (Pipeline.ucRefs τ sig) (V1 m c) ∗ E0 m c) ⊢ (reg0 m).pre c := by
  show _ ⊢ iprop(StableHlo.held (c : Thread nD τ) (Pipeline.arrRefs (τ := τ) spec0) (V1 m c) ∗ (∃ r, prngReg c r)
    ∗ (StableHlo.held (c : Thread nD τ) Sr (V1 m c) ∗ emp) ∗ Tk m c ∗ ∃ Wd, owes (c : Thread nD τ) (0 + O₀ c) Wd)
  rw [bufs_split, zero_add]
  unfold E0 ow
  iintro ⟨⟨Ha, Hs⟩, Hp, HT, HO⟩
  isplitl [Ha]; · iexact Ha
  isplitl [Hp]; · iexact Hp
  isplitl [Hs]
  · isplitl [Hs]; · iexact Hs
    iempintro
  isplitl [HT] <;> iassumption

set_option backward.isDefEq.respectTransparency.types false in
theorem reg0_post (c : Dev nD) : (reg0 m).post c ⊢ iprop((StableHlo.held (c : Thread nD τ) (Pipeline.ucRefs τ sig) (Vend m c) ∗ semVal (barC c) 0) ∗ ∃ W, owes (c : Thread nD τ) (0 : Owed) W) := by
  show iprop(StableHlo.held (c : Thread nD τ) (Pipeline.arrRefs (τ := τ) spec0) (Vend m c) ∗ (∃ r, prngReg c r)
    ∗ (StableHlo.held (c : Thread nD τ) Sr (Vend m c) ∗ emp) ∗ Yk c ∗ ∃ Wd, owes (c : Thread nD τ) (0 : Owed) Wd) ⊢ _
  rw [bufs_split]
  unfold Yk
  iintro ⟨Ha, -, ⟨Hs, -⟩, Hb, HO⟩
  isplitr [HO]
  · isplitr [Hb]
    · isplitl [Ha] <;> iassumption
    iexact Hb
  iexact HO

/-! ## The launch -/

theorem osem_ne_bar : ∀ k : OS, osem k ≠ SemLoc.reg barS := by decide +kernel

theorem disjoint_cells : Disjoint barCs ownCs := by
  rw [Finset.disjoint_left]
  intro g hb ho
  obtain ⟨c, -, rfl⟩ := Finset.mem_map.mp hb
  obtain ⟨⟨c', k⟩, -, h⟩ := Finset.mem_map.mp ho
  exact osem_ne_bar k (congrArg Prod.snd h)

/-- All the protocol's ghost state, made on one device. -/
def G (c : Dev nD) : sProp 𝕄 := if c = 0 then BI.own (ER (launchOf barCs ownCs tokSet)) else iprop(emp)

theorem G_all : (bigSep Finset.univ (G (F := F))) = (BI.own (ER (launchOf barCs ownCs tokSet)) : sProp 𝕄) := by
  rw [bigSep_univ_at _ (0 : Dev nD), show G (F := F) 0 = BI.own (ER (launchOf barCs ownCs tokSet)) from if_pos rfl,
    show bigSep ((Finset.univ : Finset (Dev nD)).erase 0) (G (F := F)) = bigSep ((Finset.univ : Finset (Dev nD)).erase 0) fun _ => iprop(emp) from
      bigSep_congr fun c hc => if_neg (Finset.ne_of_mem_erase hc),
    show (bigSep ((Finset.univ : Finset (Dev nD)).erase 0) fun _ => iprop(emp) : sProp 𝕄) = iprop(emp) from BI.bigSep_emp_const _]
  exact BI.equiv_iff.mp BI.sep_emp

def u₀ : UU := (initOf (Pipeline.cells (Pipeline.pin (pcfgs (F := F)) adm) cellOf_inj) (Pipeline.launchToks (Pipeline.pin (pcfgs (F := F)) adm) cellOf_inj),
  launchOf barCs ownCs tokSet)

theorem sems_bar (c : Dev nD) : (unscopedSems0 c : sProp 𝕄) = semVal (barC c) 0 := by
  unfold unscopedSems0
  rw [show (Finset.univ.filter fun sm : SemLoc sig => ¬ sm.isScoped .tc) = {SemLoc.reg barS} from by decide +kernel, BI.bigSep_singleton]

theorem only_bar : ∀ sm : SemLoc sig, sm.isScoped .tc = false → sm = .reg barS := by decide +kernel

variable (ρ : Dev nD → PrngReg)

theorem cells_bar (Ψ : GSem nD τ sig → sProp 𝕄) : bigSep barCs Ψ = bigSep Finset.univ fun c : Dev nD => Ψ (barC c) := by
  unfold barCs; rw [bigSep_map]; rfl
theorem cells_own (Ψ : GSem nD τ sig → sProp 𝕄) : bigSep ownCs Ψ = bigSep Finset.univ fun c : Dev nD => bigSep Finset.univ fun k : OS => Ψ (ownC c k) := by
  unfold ownCs; rw [bigSep_map, bigSep_univ_prod]; rfl

theorem start (κ : GSem nD τ sig → ℕ) (c : Dev nD) :
    iprop(recs (ins m) κ ∗ ((atPos ER (barC c) 0 ∅ 0 ∗ (bigSep Finset.univ fun k : OS => openTok ER (ownC c k))
        ∗ ((bigSep Finset.univ fun i : Fin 15 => dutyTok ER (barC (dst c i)) 0 (Fin.rev i)) ∗ tokB (F := F) c 0 ∗ tokB (F := F) c 1))
        ∗ (StableHlo.held (c : Thread nD τ) (Pipeline.ucRefs τ sig) (V0 m c) ∗ owes (c : Thread nD τ) (O₀ c) ∅ ∗ Pipeline.launchCred O₀ c ∗ prngReg c (ρ c))))
      ⊢ iprop(StableHlo.held (c : Thread nD τ) (Pipeline.ucRefs τ sig) (V0 m c) ∗ E0 m c) := by
  unfold E0 Tk dealt ow
  iintro ⟨#HR, ⟨Ha, Ho, Hd, Ht0, Ht1⟩, Hh, HO, Hc, Hp⟩
  ihave Hc := (creds (F := F) c) $$ Hc
  icases Hc with ⟨Hcb, Hc0, Hc1⟩
  isplitl [Hh]; · iexact Hh
  isplitl [Hp]; · iexists _; iexact Hp
  isplitr [HO]
  · iexists κ
    isplitr; · iexact HR
    isplitl [Ho]; · iexact Ho
    isplitl [Hcb Ha Hd]
    · isplitl [Hcb]; · iexact Hcb
      isplitl [Ha] <;> iassumption
    isplitl [Ht0 Ht1]
    · isplitl [Ht0] <;> iassumption
    isplitl [Hc0] <;> iassumption
  iexists ∅; iexact HO

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G (F := F) c)) ∗ levAts L lv)
      ⊢ (|={Set.univ}=> bigSep Finset.univ fun c : Dev nD => iprop(StableHlo.held (c : Thread nD τ) (Pipeline.ucRefs τ sig) (V0 m c) ∗ E0 m c) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G (F := F) c)
      ⊢ (iprop((StableHlo.held (c : Thread nD τ) (Pipeline.ucRefs τ sig) (V0 m c) ∗ owes (c : Thread nD τ) (O₀ c) ∅ ∗ Pipeline.launchCred O₀ c ∗ prngReg c (ρ c))
        ∗ (semVal (barC c) 0 ∗ G (F := F) c)) : sProp 𝕄) := by
    rw [show unscopedBufs c (fun b => m ((c : Thread nD τ).loc b)) = StableHlo.held (c : Thread nD τ) (Pipeline.ucRefs τ sig) (V0 m c) from Pipeline.unscopedBufs_held c (V0 m c),
      sems_bar]
    iintro ⟨Hh, Hs, HO, Hc, Hp, HG⟩
    isplitr [Hs HG]
    · isplitl [Hh]; · iexact Hh
      isplitl [HO]; · iexact HO
      isplitl [Hc] <;> iassumption
    isplitl [Hs] <;> iassumption
  iintro ⟨H, -⟩
  ihave H := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G (F := F) c))
      ⊢ (bigSep Finset.univ fun c : Dev nD => iprop((StableHlo.held (c : Thread nD τ) (Pipeline.ucRefs τ sig) (V0 m c) ∗ owes (c : Thread nD τ) (O₀ c) ∅ ∗ Pipeline.launchCred O₀ c ∗ prngReg c (ρ c))
        ∗ (semVal (barC c) 0 ∗ G (F := F) c)) : sProp 𝕄) from bigSep_mono fun c _ => hcore c) $$ H
  ihave H := (Entails.of_eq (bigSep_sep' ..)) $$ H; icases H with ⟨HB, H⟩
  ihave H := (Entails.of_eq (bigSep_sep' ..)) $$ H; icases H with ⟨Hv, HG⟩
  ihave Hv := (Entails.of_eq (cells_bar (F := F) fun g => semVal g 0).symm) $$ Hv
  ihave HG := (Entails.of_eq (G_all (F := F))) $$ HG
  imod (Rounds.fund_launch ER (Rd (ins m)) disjoint_cells (fun g _ h => h) tokSet) $$ [Hv HG] with ⟨%κ, -, #Hinv, #Hr, Hat, Hopen, Htok⟩
  · isplitl [Hv] <;> iassumption
  imodintro
  ihave Hat := (Entails.of_eq (cells_bar (F := F) fun g => atPos ER g 0 ∅ 0)) $$ Hat
  ihave Hopen := (Entails.of_eq (cells_own (F := F) fun g => openTok ER g)) $$ Hopen
  ihave Htok := (deal (F := F)) $$ Htok
  iapply (bigSep_with_persistent (R := recs (ins m) κ) fun c _ => start m ρ κ c)
  isplitr
  · unfold recs
    isplitr; · iexact Hinv
    iexact Hr
  iapply (Entails.of_eq (bigSep_sep' ..).symm)
  isplitr [HB]
  · iapply (Entails.of_eq (bigSep_sep' ..).symm); isplitl [Hat]; · iexact Hat
    iapply (Entails.of_eq (bigSep_sep' ..).symm); isplitl [Hopen]; · iexact Hopen
    iexact Htok
  iexact HB

/-! ## The run -/

theorem Vend_arg (c : Dev nD) (r : Ref sig .tc) (h : r ∉ hostOps0_W) (h' : Proc.devRef (τ := τ) .tc r ≠ Proc.devRef .tc main_v19) : Vend m c r = m ((c : Thread nD τ).loc r) :=
  (Vend_of m c _ h').trans ((V1_of m c r h).trans rfl)

set_option backward.isDefEq.respectTransparency.types false in
/-- Over any float values, from any memory with zero counters: every fair execution of the sixteen devices ends, the
    arguments unchanged, every device's result the one value `outF` of what they all brought, every counter at zero. -/
theorem run_main : θ_run defs (onTc (τ := τ) (main (F := F))) ⟨m, fun _ => 0, ρ⟩
    (fun r => (∀ c : Dev nD, (r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4))
        ∧ r.2.mem ((c : Thread nD τ).loc main_v19) = outF (ins m)) ∧ r.2.sem = fun _ => 0) :=
  Pipeline.θ_run_regions_kit_dev_sems (pcfgs (F := F)) adm (pdats m) () cellOf_inj EP defs₀ 𝒱₀ L lv m ρ main
    (fun c => segs m 𝒱₀ L lv (fun _ => E0 m) () (pdats m) (reg0 m) c)
    (fun c Q => by
      rewrite [main_chain c, Pipeline.Seg.run_eq_chain,
        show (segs m 𝒱₀ L lv (fun _ => E0 m) () (pdats m) (reg0 m) c).map Pipeline.Seg.prog = [
          StableHlo.seq (hostOps0 c),
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide)
    (O₀ := O₀) (hL := L_of_ne) (G := G) (u₀ := u₀ (F := F))
    (hu₀ := by
      unfold u₀
      iintro Hu
      ihave H := (ownU_pair _ _) $$ Hu
      icases H with ⟨HP, HX⟩
      imodintro
      isplitl [HP]; · iexact HP
      rw [G_all]; iexact HX)
    (T₀ := fun c => iprop(StableHlo.held (c : Thread nD τ) (Pipeline.ucRefs τ sig) (V0 m c) ∗ E0 m c))
    (Tₙ := fun c => iprop(StableHlo.held (c : Thread nD τ) (Pipeline.ucRefs τ sig) (Vend m c) ∗ semVal (barC c) 0))
    (hch := fun c => ⟨.rfl, reg0_pre m c, reg0_post m c⟩)
    (hinit := init m ρ)
    (QY := fun c s => (∀ b ∈ Pipeline.ucRefs τ sig, s.mem (c, b) = Vend m c b) ∧ s.sem (barC c) = 0)
    (hfin := fun c s' => by
      unfold StableHlo.held
      iintro ⟨⟨Hh, Hb⟩, HSI⟩
      icombine HSI Hb gives %hb
      ihave Hr := (pointsTo_read_all (Pipeline.ucRefs τ sig) (fun b => ((c : Thread nD τ).1, b)) (Vend m c) s') $$ [Hh HSI]
      · isplitl [Hh] <;> iassumption
      icases Hr with ⟨%h, HSI⟩
      imodintro
      isplitr
      · ipureintro
        exact ⟨h, by simpa using hb⟩
      iexact HSI)
    (hQ := fun s h hs => ⟨fun c => by
        have hm (r : Ref sig .tc) (hr : Proc.devRef (τ := τ) .tc r ∈ Pipeline.ucRefs τ sig) : s.mem ((c : Thread nD τ).loc r) = Vend m c r := (h c).1 _ hr
        exact ⟨⟨(hm main_arg0 (by decide)).trans (Vend_arg m c main_arg0 (by decide) (by decide)),
          (hm main_arg1 (by decide)).trans (Vend_arg m c main_arg1 (by decide) (by decide)),
          (hm main_arg2 (by decide)).trans (Vend_arg m c main_arg2 (by decide) (by decide)),
          (hm main_arg3 (by decide)).trans (Vend_arg m c main_arg3 (by decide) (by decide)),
          (hm main_arg4 (by decide)).trans (Vend_arg m c main_arg4 (by decide) (by decide))⟩,
          (hm main_v19 (by decide)).trans (Vend_out m c)⟩,
      sem_eq_zero hs fun c sm hsm => by
        obtain rfl := only_bar sm hsm
        exact (h c).2⟩)

/-- Of the run, the end alone. -/
theorem run_frame : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)) ∧ r.2.sem = fun _ => 0) :=
  (θ_run defs _ _).mono (fun _ h => ⟨fun c => (h.1 c).1, h.2⟩) (run_main m ρ)

end Cert.KernelIdeal.Att

end
-- ==== Proof.KVal.lean ====
module

public import proofs.«01_k».proof.Proof.Prog
public import Idealize.ShloMosaic.Lib.Pointwise

/-! # One device's partial product, read at an index over the extended reals -/

@[expose] public section

set_option maxRecDepth 16384

noncomputable section

namespace Cert.KernelIdeal.Att

open Idealize.ShloMosaic Cert.KernelIdeal Cert.KernelIdeal.Gen

/-- Column `d` of head `h` among a device's 256. -/
def hd (h : Fin 4) (d : Fin 64) : Fin 256 := ⟨64 * h.val + d.val, by have := h.isLt; have := d.isLt; omega⟩

section
variable (msk : IVec S256x256 1) (q k v : Fin 256 → Fin 256 → EReal)

/-- A query of one batch: row `i` of `x` against column `e` of `Wq`. -/
def kq (wq : Vec Ideal S512x256 .bf16) (x : Vec Ideal S1x256x512 .bf16) (i e : Fin 256) : EReal :=
  ∑ n : Fin 512, x (ix3 0 i n) * wq (ix2 n e)

/-- What stands where a query does not see a key. -/
def low : EReal := Ideal.ofBits .f32 0xCE6E6B28#32

/-- The score of key `j` for query `i` at head `h`. -/
def ksc (h : Fin 4) (i j : Fin 256) : EReal :=
  Scalar.select (msk (ix2 i j)) (∑ d : Fin 64, q i (hd h d) * k j (hd h d)) low

/-- The weight of key `j` for query `i` at head `h`. -/
def kwt (h : Fin 4) (i j : Fin 256) : EReal :=
  Ideal.div (Ideal.exp (ksc msk q k h i j)) (∑ j' : Fin 256, Ideal.exp (ksc msk q k h i j'))

/-- The context of query `i` at head `h`, column `d`. -/
def kctx (h : Fin 4) (i : Fin 256) (d : Fin 64) : EReal :=
  ∑ j : Fin 256, kwt msk q k h i j * v j (hd h d)
end

/-- Row `j`, column `e` of a batch's keys or values. -/
def row3 (k : Vec Ideal S1x256x256 .bf16) (j e : Fin 256) : EReal := k (ix3 0 j e)

/-- The partial product: the contexts of the four heads against the rows of `Wo`. -/
def kpart (msk : IVec S256x256 1) (wq : Vec Ideal S512x256 .bf16) (wo : Vec Ideal S256x512 .bf16) (x : Vec Ideal S1x256x512 .bf16)
    (k v : Vec Ideal S1x256x256 .bf16) (i : Fin 256) (l : Fin 512) : EReal :=
  ∑ h : Fin 4, ∑ d : Fin 64, kctx msk (kq wq x) (row3 k) (row3 v) h i d * wo (ix2 (hd h d) l)

section
variable (msk : IVec S256x256 1) (wq : Vec Ideal S512x256 .bf16) (wo : Vec Ideal S256x512 .bf16) (x : Vec Ideal S1x256x512 .bf16)
  (k v : Vec Ideal S1x256x256 .bf16) (i j : Fin 256) (d : Fin 64) (l : Fin 512)

/-! ## The heads, one after another -/

theorem pay6_apply : k0_pay6 wq x (ix2 i j) = kq wq x i j := by
  pointwise [k0_pay6, k0_pay4, kq]
theorem pay14_apply : k0_pay14 (k0_pay4 wq) x (ix2 i j) = kq wq x i j := by
  pointwise [k0_pay14, k0_pay4, kq]

theorem head00 : k0_pay7 msk wq x k v (ix2 i d) = kctx msk (kq wq x) (row3 k) (row3 v) 0 i d := by
  pointwise [k0_pay7, k0_pay6, k0_pay4, kctx, kwt, ksc, kq, low, row3, hd]
theorem head01 : k0_pay9 (k0_pay8 msk wq x k) v (ix2 i d) = kctx msk (kq wq x) (row3 k) (row3 v) 1 i d := by
  pointwise [k0_pay9, k0_pay8, k0_pay6, k0_pay4, kctx, kwt, ksc, kq, low, row3, hd]
theorem head02 : k0_pay10 msk (k0_pay6 wq x) k v (ix2 i d) = kctx msk (kq wq x) (row3 k) (row3 v) 2 i d := by
  pointwise [k0_pay10, k0_pay6, k0_pay4, kctx, kwt, ksc, kq, low, row3, hd]
theorem weight03 : k0_pay11 msk (k0_pay6 wq x) k (ix2 i j) = kwt msk (kq wq x) (row3 k) 3 i j := by
  pointwise [k0_pay11, k0_pay6, k0_pay4, kctx, kwt, ksc, kq, low, row3, hd]
theorem head10 : k0_pay15 msk (k0_pay4 wq) x k v (ix2 i d) = kctx msk (kq wq x) (row3 k) (row3 v) 0 i d := by
  pointwise [k0_pay15, k0_pay14, k0_pay4, kctx, kwt, ksc, kq, low, row3, hd]
theorem weight11 : k0_pay16 msk (k0_pay4 wq) x k (ix2 i j) = kwt msk (kq wq x) (row3 k) 1 i j := by
  pointwise [k0_pay16, k0_pay14, k0_pay4, kctx, kwt, ksc, kq, low, row3, hd]

/-! ## The product with `Wo` -/

omit msk wq wo x k v i j d l in
/-- A sum over a device's 256 columns, head by head. -/
theorem sum_heads (f : Fin 256 → EReal) :
    ∑ e : Fin 256, f e = ∑ d : Fin 64, f (hd 0 d) + (∑ d : Fin 64, f (hd 1 d) + (∑ d : Fin 64, f (hd 2 d) + ∑ d : Fin 64, f (hd 3 d))) := by
  have h : ∑ e : Fin (64 + (64 + (64 + 64))), f e = _ := Fin.sum_univ_add (a := 64) (b := 64 + (64 + 64)) f
  rw [Fin.sum_univ_add (a := 64) (b := 64 + 64), Fin.sum_univ_add (a := 64) (b := 64)] at h
  refine h.trans ?_
  refine congrArg₂ (· + ·) (Finset.sum_congr rfl fun d _ => congrArg f (Fin.ext ?_)) (congrArg₂ (· + ·) (Finset.sum_congr rfl fun d _ => congrArg f (Fin.ext ?_))
    (congrArg₂ (· + ·) (Finset.sum_congr rfl fun d _ => congrArg f (Fin.ext ?_)) (Finset.sum_congr rfl fun d _ => congrArg f (Fin.ext ?_))))
  all_goals simp [hd]; try omega

theorem pay13_apply (c0 c1 c2 : Vec Ideal S256x64 .f32) (w3 : Vec Ideal S256x256 .bf16) :
    k0_pay13 (k0_pay5 wo) c0 c1 c2 w3 (k0_pay12 v) (ix3 0 i l)
      = ∑ d : Fin 64, c0 (ix2 i d) * wo (ix2 (hd 0 d) l) + (∑ d : Fin 64, c1 (ix2 i d) * wo (ix2 (hd 1 d) l)
        + (∑ d : Fin 64, c2 (ix2 i d) * wo (ix2 (hd 2 d) l)
          + ∑ d : Fin 64, (∑ j : Fin 256, w3 (ix2 i j) * row3 v j (hd 3 d)) * wo (ix2 (hd 3 d) l))) := by
  pointwise [k0_pay13, k0_pay12, k0_pay5, row3, hd]
  rw [sum_heads]
  have lt := fun d : Fin 64 => d.isLt
  have n1 : ∀ d : Fin 64, ¬ 64 + d.val < 64 := fun d => by omega
  have n2 : ∀ d : Fin 64, ¬ 128 + d.val < 64 := fun d => by omega
  have n3 : ∀ d : Fin 64, ¬ 192 + d.val < 64 := fun d => by omega
  have e1 : ∀ d : Fin 64, 64 + d.val - 64 = d.val := fun d => by omega
  have e2 : ∀ d : Fin 64, 128 + d.val - 64 = 64 + d.val := fun d => by omega
  have e3 : ∀ d : Fin 64, 192 + d.val - 64 = 128 + d.val := fun d => by omega
  simp only [hd, Fin.val_zero, Fin.val_one, Fin.val_two, show ((3 : Fin 4) : ℕ) = 3 from rfl, Nat.mul_zero, Nat.zero_add, Nat.mul_one, Nat.reduceMul, lt, n1, n2, n3, e1, e2, e3,
    dif_pos, dif_neg, not_false_eq_true]

theorem pay18_apply (q : Vec Ideal S256x256 .bf16) (c0 : Vec Ideal S256x64 .f32) (w1 : Vec Ideal S256x256 .bf16) :
    k0_pay18 (k0_pay5 wo) (k0_pay17 msk q c0 w1 v k v k v) (ix3 0 i l)
      = ∑ d : Fin 64, c0 (ix2 i d) * wo (ix2 (hd 0 d) l) + (∑ d : Fin 64, (∑ j : Fin 256, w1 (ix2 i j) * row3 v j (hd 1 d)) * wo (ix2 (hd 1 d) l)
        + (∑ d : Fin 64, kctx msk (fun i e => q (ix2 i e)) (row3 k) (row3 v) 2 i d * wo (ix2 (hd 2 d) l)
          + ∑ d : Fin 64, kctx msk (fun i e => q (ix2 i e)) (row3 k) (row3 v) 3 i d * wo (ix2 (hd 3 d) l))) := by
  pointwise [k0_pay18, k0_pay17, k0_pay5, kctx, kwt, ksc, low, row3, hd]
  rw [sum_heads]
  have lt := fun d : Fin 64 => d.isLt
  have n1 : ∀ d : Fin 64, ¬ 64 + d.val < 64 := fun d => by omega
  have n2 : ∀ d : Fin 64, ¬ 128 + d.val < 64 := fun d => by omega
  have n3 : ∀ d : Fin 64, ¬ 192 + d.val < 64 := fun d => by omega
  have e1 : ∀ d : Fin 64, 64 + d.val - 64 = d.val := fun d => by omega
  have e2 : ∀ d : Fin 64, 128 + d.val - 64 = 64 + d.val := fun d => by omega
  have e3 : ∀ d : Fin 64, 192 + d.val - 64 = 128 + d.val := fun d => by omega
  simp only [hd, Fin.val_zero, Fin.val_one, Fin.val_two, show ((3 : Fin 4) : ℕ) = 3 from rfl, Nat.mul_zero, Nat.zero_add, Nat.mul_one, Nat.reduceMul, lt, n1, n2, n3, e1, e2, e3,
    dif_pos, dif_neg, not_false_eq_true]

/-! ## The partial products -/

theorem att0_apply : att0 wq wo x ![k, k, k, k] ![v, v, v, v] (ix3 0 i l) = kpart mask wq wo x k v i l := by
  refine (pay13_apply wo v i l (k0_pay7 mask wq x k v) (k0_pay9 (k0_pay8 mask wq x k) v) (k0_pay10 mask (k0_pay6 wq x) k v)
    (k0_pay11 mask (k0_pay6 wq x) k)).trans ?_
  simp only [head00, head01, head02, weight03, kpart, Fin.sum_univ_four, add_assoc]
  rfl

theorem att1_apply : att1 wq wo x ![k, k, k, k] ![v, v, v, v] (ix3 0 i l) = kpart mask wq wo x k v i l := by
  refine (pay18_apply mask wo k v i l (k0_pay14 (k0_pay4 wq) x) (k0_pay15 mask (k0_pay4 wq) x k v) (k0_pay16 mask (k0_pay4 wq) x k)).trans ?_
  simp only [head10, weight11, pay14_apply, kpart, Fin.sum_univ_four, add_assoc]
  rfl
end

end Cert.KernelIdeal.Att

end
-- ==== Proof.RedVal.lean ====
module

public import proofs.«01_k».proof.Proof.Prog
public import Idealize.ShloMosaic.Lib.Pointwise

/-! # The sums of the sixteen devices' rows, read at an index over the extended reals -/

@[expose] public section

set_option maxRecDepth 16384

noncomputable section

namespace Cert.KernelIdeal.Att

open Idealize.ShloMosaic Cert.KernelIdeal Cert.KernelIdeal.Gen

variable (own : Vec Ideal S1x16x512 .bf16) (s : Fin 15 → Vec Ideal S1x1x16x512 .bf16) (i : Fin 16) (l : Fin 512)

theorem sum0_apply : sum0 own s (ix3 0 i l) = own (ix3 0 i l) + ∑ r : Fin 15, s r (ix4 0 0 i l) := by
  pointwise [sum0, k0_pay21, k0_pay20, k0_pay19]
  simp only [Fin.sum_univ_succ, Fin.sum_univ_zero, add_zero, add_assoc]
  rfl

theorem sum1_apply : sum1 own s (ix3 0 i l) = own (ix3 0 i l) + ∑ r : Fin 15, s r (ix4 0 0 i l) := by
  pointwise [sum1, k0_pay24, k0_pay23, k0_pay22]
  simp only [Fin.sum_univ_succ, Fin.sum_univ_zero, add_zero, add_assoc]
  rfl

end Cert.KernelIdeal.Att

end
-- ==== Proof.OutVal.lean ====
module

public import proofs.«01_k».proof.Proof.Cont
public import proofs.«01_k».proof.Proof.KVal
public import proofs.«01_k».proof.Proof.RedVal

/-! # The kernel's result, read at an index over the extended reals

An element of the result is the sum over the sixteen devices of that element of their partial products. -/

@[expose] public section

set_option maxRecDepth 16384

noncomputable section

namespace Cert.KernelIdeal.Att

open Idealize.ShloMosaic Cert.KernelIdeal Cert.KernelIdeal.Gen

/-! ## What the body's loads read -/

theorem xRow_apply (b : Fin 2) (x : Vec Ideal S2x256x512 .bf16) (i : Fin 256) (n : Fin 512) : xRow b x (ix3 0 i n) = x (ix3 b i n) := by
  show x ((Rect.unit (s := S2x256x512) ![b.val, 0, 0] S1x256x512.size (row_inb b)).emb (ix3 (0 : Fin 1) i n)) = _
  rw [emb_unit3, ix3_eq_valueIdx, ix3_eq_valueIdx]
  congr 2
  all_goals first | rfl | (apply Fin.ext; exact Nat.zero_add _)
theorem kRow_apply (b : Fin 2) (k : Vec Ideal S2x256x256 .bf16) (j e : Fin 256) : kRow b k (ix3 0 j e) = k (ix3 b j e) := by
  show k ((Rect.unit (s := S2x256x256) ![b.val, 0, 0] S1x256x256.size (kv_inb b)).emb (ix3 (0 : Fin 1) j e)) = _
  rw [emb_unit3, ix3_eq_valueIdx, ix3_eq_valueIdx]
  congr 2
  all_goals first | rfl | (apply Fin.ext; exact Nat.zero_add _)
theorem vRow_apply (b : Fin 2) (v : Vec Ideal S2x256x256 .bf16) (j e : Fin 256) : vRow b v (ix3 0 j e) = v (ix3 b j e) := by
  show v ((Rect.unit (s := S2x256x256) ![b.val, 0, 0] S1x256x256.size (kv_inb b)).emb (ix3 (0 : Fin 1) j e)) = _
  rw [emb_unit3, ix3_eq_valueIdx, ix3_eq_valueIdx]
  congr 2
  all_goals first | rfl | (apply Fin.ext; exact Nat.zero_add _)
theorem wqAll_apply (w : Vec Ideal S512x256 .bf16) (n : Fin 512) (e : Fin 256) : wqAll w (ix2 n e) = w (ix2 n e) := by
  show w ((Rect.unit (s := S512x256) ![0, 0] S512x256.size inb_S512x256_S512x256_0_0).emb (ix2 n e)) = _
  congr 1
  funext a; apply Fin.ext
  rw [Rect.emb_apply]
  match a with
  | 0 => exact (Nat.zero_add _).trans (Nat.one_mul _)
  | 1 => exact (Nat.zero_add _).trans (Nat.one_mul _)
theorem woAll_apply (w : Vec Ideal S256x512 .bf16) (e : Fin 256) (l : Fin 512) : woAll w (ix2 e l) = w (ix2 e l) := by
  show w ((Rect.unit (s := S256x512) ![0, 0] S256x512.size inb_S256x512_S256x512_0_0).emb (ix2 e l)) = _
  congr 1
  funext a; apply Fin.ext
  rw [Rect.emb_apply]
  match a with
  | 0 => exact (Nat.zero_add _).trans (Nat.one_mul _)
  | 1 => exact (Nat.zero_add _).trans (Nat.one_mul _)

/-! ## A device's partial product -/

/-- Element `(b, i, l)` of the partial product a device makes of what it is given. -/
def dpart (a : Ins Ideal) (b : Fin 2) (i : Fin 256) (l : Fin 512) : EReal :=
  ∑ h : Fin 4, ∑ d : Fin 64, kctx mask (fun i e => ∑ n : Fin 512, a.x (ix3 b i n) * a.wq (ix2 n e)) (fun j e => a.k (ix3 b j e)) (fun j e => a.v (ix3 b j e)) h i d
    * a.wo (ix2 (hd h d) l)

variable (A : Dev nD → Ins Ideal)

theorem partRow_apply (c : Dev nD) (b : Fin 2) (i : Fin 256) (l : Fin 512) : partRow A c b (ix3 0 i l) = dpart (A c) b i l := by
  have h : partRow A c b (ix3 0 i l) = kpart mask (wqAll (A c).wq) (woAll (A c).wo) (xRow b (A c).x) (kRow b (A c).k) (vRow b (A c).v) i l := by
    unfold partRow attB
    split
    · exact att0_apply ..
    · exact att1_apply ..
  rw [h]
  unfold kpart dpart
  simp only [woAll_apply]
  have hq : kq (wqAll (A c).wq) (xRow b (A c).x) = fun i e => ∑ n : Fin 512, (A c).x (ix3 b i n) * (A c).wq (ix2 n e) := by
    funext i e
    simp only [kq, wqAll_apply, xRow_apply]
  have hk : row3 (kRow b (A c).k) = fun j e => (A c).k (ix3 b j e) := by
    funext j e; exact kRow_apply ..
  have hv : row3 (vRow b (A c).v) = fun j e => (A c).v (ix3 b j e) := by
    funext j e; exact vRow_apply ..
  rw [hq, hk, hv]

theorem partF_apply (c : Dev nD) (b : Fin 2) (i : Fin 256) (l : Fin 512) : partF A c (ix3 b i l) = dpart (A c) b i l := by
  rw [← partRow_apply, ix3_eq_valueIdx, ix3_eq_valueIdx]; rfl

/-! ## The sums -/

theorem ownRow_apply (c : Dev nD) (b : Fin 2) (i : Fin 16) (l : Fin 512) : ownRow A c b (ix3 0 i l) = dpart (A c) b (rowOf c i) l := by
  rw [← partF_apply]
  show partF A c ((Rect.unit (s := S2x256x512) ![b.val, 16 * c.val, 0] S1x16x512.size (ck_inb b c)).emb (ix3 (0 : Fin 1) i l)) = _
  rw [emb_unit3, ix3_eq_valueIdx, ix3_eq_valueIdx]
  congr 2
  all_goals first | rfl | (apply Fin.ext; exact Nat.zero_add _)

theorem slotRow_apply (c : Dev nD) (b : Fin 2) (r : Fin 15) (i : Fin 16) (l : Fin 512) :
    slotRow A c b r (ix4 0 0 i l) = dpart (A (after c (slotOf r))) b (rowOf c i) l := by
  rw [← partF_apply]
  show rsF A c ((Rect.unit (s := S16x2x16x512) ![r.val + 1, b.val, 0, 0] S1x1x16x512.size (slot_inb r b)).emb (ix4 (0 : Fin 1) (0 : Fin 1) i l)) = _
  rw [emb_unit4]
  have h : ∀ (i' : Fin 16) (l' : Fin 512), i' = i → l' = l → rsF A c (ValueIdx.ix4 (slotOf r) b i' l') = partF A (after c (slotOf r)) (ix3 b (rowOf c i) l) := by
    rintro _ _ rfl rfl
    rw [ix3_eq_valueIdx]; rfl
  exact h _ _ (Fin.ext (Nat.zero_add _)) (Fin.ext (Nat.zero_add _))

/-- The devices in the order in which device `c` sums them. -/
def afterEquiv (c : Dev nD) : Fin 16 ≃ Dev nD where
  toFun := after c
  invFun d := ⟨(d.val + 16 - c.val) % 16, Nat.mod_lt _ (by decide)⟩
  left_inv r := by revert c r; decide +kernel
  right_inv d := by revert c d; decide +kernel

theorem redF_apply (c : Dev nD) (b : Fin 2) (i : Fin 16) (l : Fin 512) : redF A c (ix3 b i l) = ∑ d : Dev nD, dpart (A d) b (rowOf c i) l := by
  have h : redF A c (ix3 b i l) = ownRow A c b (ix3 0 i l) + ∑ r : Fin 15, slotRow A c b r (ix4 0 0 i l) := by
    show redRow A c b (ValueIdx.ix3 (0 : Fin 1) i l) = _
    rw [← ix3_eq_valueIdx]
    unfold redRow sumB
    split
    · exact sum0_apply ..
    · exact sum1_apply ..
  rw [h, ownRow_apply, ← (afterEquiv c).sum_comp, Fin.sum_univ_succ (n := 15) (f := fun r => dpart (A (afterEquiv c r)) b (rowOf c i) l)]
  have h0 : afterEquiv c 0 = c := Fin.ext (Nat.mod_eq_of_lt c.isLt)
  rw [h0]
  refine congrArg₂ (· + ·) rfl (Finset.sum_congr rfl fun r _ => ?_)
  rw [slotRow_apply]; rfl

/-- The kernel's result at an index. -/
theorem outF_apply (b : Fin 2) (i : Fin 256) (l : Fin 512) : outF A (ix3 b i l) = ∑ d : Dev nD, dpart (A d) b i l := by
  have h : outF A (ix3 b i l) = redF A (devOf i) (ix3 b (subOf i) l) := by
    rw [ix3_eq_valueIdx, ix3_eq_valueIdx]; rfl
  have hr : rowOf (devOf i) (subOf i) = i := Fin.ext (Nat.div_add_mod i.val 16)
  rw [h, redF_apply, hr]

end Cert.KernelIdeal.Att

end
-- ==== Proof.HostVal.lean ====
module

public import proofs.«01_k».proof.Proof.Region
public import Idealize.ShloMosaic.Lib.Pointwise

/-! # What the host code gives the kernel, read at an index over the extended reals -/

@[expose] public section

set_option maxRecDepth 16384

noncomputable section

namespace Cert.KernelIdeal.Att

open Idealize.ShloMosaic Idealize.ShloMosaic.TcCoe Idealize.SL.Sem
open Cert.KernelIdeal Cert.KernelIdeal.Gen

variable (m : (ℓ : Loc nD τ sig) → Buf (Elt Ideal) ℓ)

/-- A device's arguments, as arrays. -/
def aX (c : Dev nD) : Vec Ideal S2x256x512 .bf16 := m ((c.tc : Thread nD τ).loc main_arg0)
def aWq (c : Dev nD) : Vec Ideal S512x256 .bf16 := m ((c.tc : Thread nD τ).loc main_arg1)
def aK (c : Dev nD) : Vec Ideal S2x256x64x64 .bf16 := m ((c.tc : Thread nD τ).loc main_arg2)
def aV (c : Dev nD) : Vec Ideal S2x256x64x64 .bf16 := m ((c.tc : Thread nD τ).loc main_arg3)
def aWo (c : Dev nD) : Vec Ideal S256x512 .bf16 := m ((c.tc : Thread nD τ).loc main_arg4)

theorem ins_x (c : Dev nD) : (ins m c).x = aX m c := rfl
theorem ins_wo (c : Dev nD) : (ins m c).wo = aWo m c := rfl

theorem ins_wq (c : Dev nD) (n : Fin 512) (e : Fin 256) : (ins m c).wq (ix2 n e) = aWq m c (ix2 n e) * Ideal.ofBits .bf16 0x3E00#16 := by
  show V1 m c main_v18 (ix2 n e) = _
  simp only [V1, hostOps0]
  after_results_simp
  rfl

/-- The device's first head, as the host code computes it from the device's number. -/
theorem start_word : ∀ c : Dev nD,
    (Scalar.select (IntOp.cmpi .slt (IntOp.muli (IntOp.remui .host (IntOp.divui .host (Dev.word c) 1#32) 16#32) 4#32) 0#32)
      (IntOp.addi (IntOp.muli (IntOp.remui .host (IntOp.divui .host (Dev.word c) 1#32) 16#32) 4#32) 64#32)
      (IntOp.muli (IntOp.remui .host (IntOp.divui .host (Dev.word c) 1#32) 16#32) 4#32)).toInt = 4 * (c.val : Int) := by
  decide +kernel

/-- Column `e` of a device's keys is a column of one of its four heads. -/
theorem slice_apply (c : Dev nD) (st : Fin 4 → Int) (h0 : st 0 = 0) (h1 : st 1 = 0) (h2 : st 2 = 4 * (c.val : Int)) (h3 : st 3 = 0)
    (x : Vec Ideal S2x256x64x64 .bf16) (b : Fin 2) (j : Fin 256) (h : Fin 4) (d : Fin 64) :
    shapeCast S2x256x256 (Host.dynamicSlice S2x256x4x64 x st sliceFits_S2x256x64x64_S2x256x4x64) shapeCasts_S2x256x4x64_S2x256x256
      (ix3 b j (⟨64 * h.val + d.val, by have := h.isLt; have := d.isLt; omega⟩ : Fin 256))
      = x (ix4 b j (⟨4 * c.val + h.val, by have := h.isLt; have : c.val < 16 := c.isLt; omega⟩ : Fin 64) d) := by
  pointwise
  have hc : c.val < 16 := c.isLt
  refine congrArg x ?_
  congr 1
  · exact Fin.ext ((congrArg (· + b.val) (Host.clampedStart_of_le _ _ _ 0 h0 (by decide))).trans (Nat.zero_add _))
  · exact Fin.ext ((congrArg (· + j.val) (Host.clampedStart_of_le _ _ _ 0 h1 (by decide))).trans (Nat.zero_add _))
  · exact Fin.ext (congrArg (· + h.val) (Host.clampedStart_of_le _ _ _ (4 * c.val) (by exact_mod_cast h2) (show 4 * c.val + 4 ≤ 64 by omega)))
  · exact Fin.ext ((congrArg (· + d.val) (Host.clampedStart_of_le _ _ _ 0 h3 (by decide))).trans (Nat.zero_add _))

theorem ins_k (c : Dev nD) (b : Fin 2) (j : Fin 256) (h : Fin 4) (d : Fin 64) :
    (ins m c).k (ix3 b j (⟨64 * h.val + d.val, by have := h.isLt; have := d.isLt; omega⟩ : Fin 256))
      = aK m c (ix4 b j (⟨4 * c.val + h.val, by have := h.isLt; have : c.val < 16 := c.isLt; omega⟩ : Fin 64) d) := by
  show V1 m c main_v15 _ = _
  simp only [V1, hostOps0]
  after_results_simp
  refine slice_apply c _ ?_ ?_ ?_ ?_ (aK m c) b j h d
  · simp only [Matrix.cons_val]
    after_results_simp
    rfl
  · simp only [Matrix.cons_val]
    after_results_simp
    rfl
  · simp only [Matrix.cons_val]
    after_results_simp
    exact start_word c
  · simp only [Matrix.cons_val]
    after_results_simp
    rfl

theorem ins_v (c : Dev nD) (b : Fin 2) (j : Fin 256) (h : Fin 4) (d : Fin 64) :
    (ins m c).v (ix3 b j (⟨64 * h.val + d.val, by have := h.isLt; have := d.isLt; omega⟩ : Fin 256))
      = aV m c (ix4 b j (⟨4 * c.val + h.val, by have := h.isLt; have : c.val < 16 := c.isLt; omega⟩ : Fin 64) d) := by
  show V1 m c main_v16 _ = _
  simp only [V1, hostOps0]
  after_results_simp
  refine slice_apply c _ ?_ ?_ ?_ ?_ (aV m c) b j h d
  · simp only [Matrix.cons_val]
    after_results_simp
    rfl
  · simp only [Matrix.cons_val]
    after_results_simp
    rfl
  · simp only [Matrix.cons_val]
    after_results_simp
    exact start_word c
  · simp only [Matrix.cons_val]
    after_results_simp
    rfl

end Cert.KernelIdeal.Att

end
-- ==== Proof.Seen.lean ====
module

public import Idealize.ShloMosaic.Lib.Pointwise

/-! # The mask as a rule, and the columns of the 64 heads -/

@[expose] public section

namespace Cert.Att

/-- Query `i` sees key `j`: their blocks of 64 are the same, or the key's is the first, or the two numbers
sum to a multiple of three. -/
def seen (i j : Fin 256) : BitVec 1 :=
  BitVec.ofBool (decide (i.val / 64 = j.val / 64) || decide (j.val / 64 = 0) || decide ((i.val / 64 + j.val / 64) % 3 = 0))

/-- Every query sees the first key. -/
theorem seen_zero (i : Fin 256) : seen i 0 = 1#1 := by
  unfold seen
  simp

/-- Column `d` of head `h` among all 4096. -/
def col (h d : Fin 64) : Fin 4096 := ⟨h.val * 64 + d.val, by omega⟩
/-- The head a column belongs to, and its number in it. -/
def hOf (e : Fin 4096) : Fin 64 := ⟨e.val / 64, by omega⟩
def dOf (e : Fin 4096) : Fin 64 := ⟨e.val % 64, by omega⟩

end Cert.Att
-- ==== Proof.KMask.lean ====
module

public import proofs.«01_k».proof.Proof.Prog
public import proofs.«01_k».proof.Proof.Seen

/-! # The kernel's mask is the rule -/

@[expose] public section

set_option maxRecDepth 16384

noncomputable section

namespace Cert.KernelIdeal.Att

open Idealize.ShloMosaic Cert.KernelIdeal Cert.KernelIdeal.Gen

/-- The queries' blocks. -/
theorem qblk_apply (i j : Fin 256) : k0_pay1 (ix2 i j) = BitVec.ofNat 32 (i.val / 64) := by
  pointwise [k0_pay1]
  clear j
  revert i
  decide +kernel

/-- The keys' blocks, before they are rounded down. -/
theorem kquo_apply (i j : Fin 256) : k0_pay2 (ix2 i j) = BitVec.ofNat 32 (j.val / 64) := by
  pointwise [k0_pay2]
  clear i
  revert j
  decide +kernel

/-- Rounding a number that is not negative down, or towards zero, is the same. -/
theorem floor_apply (j : Fin 256) :
    (Scalar.select
      (IntOp.andi
        (IntOp.cmpi CmpIPredicate.ne
          (IntOp.subi (BitVec.setWidth 32 (IntOp.cmpi CmpIPredicate.sgt (BitVec.ofNat 32 j.val) 0#32))
            (BitVec.setWidth 32 (IntOp.cmpi CmpIPredicate.slt (BitVec.ofNat 32 j.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 j.val) 64#32) 0#32))
      (IntOp.subi (BitVec.ofNat 32 (j.val / 64)) 1#32) (BitVec.ofNat 32 (j.val / 64)) : BitVec 32) = BitVec.ofNat 32 (j.val / 64) := by
  revert j
  decide +kernel

theorem mask_apply (i j : Fin 256) : mask (ix2 i j) = Cert.Att.seen i j := by
  unfold mask
  have hq := qblk_apply
  have hk := kquo_apply
  generalize (k0_pay1 : IVec S256x256 32) = qb at hq ⊢
  generalize (k0_pay2 : IVec S256x256 32) = kb at hk ⊢
  pointwise [k0_pay3]
  simp only [hq, hk, floor_apply]
  unfold Cert.Att.seen
  obtain ⟨p, hp⟩ : ∃ p : Fin 4, p.val = i.val / 64 := ⟨⟨i.val / 64, by omega⟩, rfl⟩
  obtain ⟨q, hq⟩ : ∃ q : Fin 4, q.val = j.val / 64 := ⟨⟨j.val / 64, by omega⟩, rfl⟩
  rw [← hp, ← hq]
  clear hp hq
  revert p q
  decide +kernel

end Cert.KernelIdeal.Att

end
-- ==== Proof.RefTerm.lean ====
module

public import proofs.«01_k».proof.Proof.Gen.ReferenceIdeal.Run

/-! # The reference's result in stages

The reference's host operations, from its arguments to its result, with a name for the block numbers, the
mask, the masked scores, the weights and the result. -/

@[expose] public section

noncomputable section

namespace Cert.ReferenceIdeal.Stage

open Idealize.ShloMosaic Idealize.SL.Sem Cert.ReferenceIdeal Cert.ReferenceIdeal.Gen

variable {F : FTy → Type} [FloatOps F]

/-- The block each of the 256 positions lies in: its number over 64. -/
def blk : IVec S256 32 :=
  have n : IVec S256 32 := iotaInDim S256 32 0
  have c : IVec S_ 32 := constantI S_ 32 64#32
  have cs : IVec S256 32 := broadcastInDim S256 ![] bcast_S_S256 c
  have q : IVec S256 32 := Host.divsi n cs
  have sg : IVec S256 1 := cmpi .ne (signi n) (broadcastInDim S256 ![] bcast_S_S256 (signi c))
  have rm : IVec S256 1 := cmpi .ne (Host.remsi n cs) (broadcastInDim S256 ![] bcast_S_S256 (constantI S_ 32 0#32))
  select (andi sg rm) (subi q (broadcastInDim S256 ![] bcast_S_S256 (constantI S_ 32 1#32))) q

/-- Which query sees which key. -/
def msk : IVec S256x256 1 :=
  have qc : IVec S256x1 32 := broadcastInDim S256x1 ![0] bcast_S256_S256x1_0 blk
  have kr : IVec S1x256 32 := broadcastInDim S1x256 ![1] bcast_S256_S1x256_1 blk
  have qs : IVec S256x256 32 := broadcastInDim S256x256 ![0, 1] bcast_S256x1_S256x256_0_1 qc
  have ks : IVec S256x256 32 := broadcastInDim S256x256 ![0, 1] bcast_S1x256_S256x256_0_1 kr
  have same : IVec S256x256 1 := cmpi .eq qs ks
  have fst : IVec S1x256 1 := cmpi .eq kr (broadcastInDim S1x256 ![] bcast_S_S1x256 (constantI S_ 32 0#32))
  have near : IVec S256x256 1 := ori same (broadcastInDim S256x256 ![0, 1] bcast_S1x256_S256x256_0_1 fst)
  have three : IVec S_ 32 := constantI S_ 32 3#32
  have dv : IVec S_ 32 := select (cmpi .eq three (constantI S_ 32 0#32)) (constantI S_ 32 1#32) three
  have dvs : IVec S256x256 32 := broadcastInDim S256x256 ![] bcast_S_S256x256 dv
  have z : IVec S256x256 32 := broadcastInDim S256x256 ![] bcast_S_S256x256 (constantI S_ 32 0#32)
  have rm : IVec S256x256 32 := Host.remsi (addi qs ks) dvs
  have ng : IVec S256x256 1 := cmpi .ne (cmpi .slt rm z) (broadcastInDim S256x256 ![] bcast_S_S256x256 (cmpi .slt dv (constantI S_ 32 0#32)))
  have md : IVec S256x256 32 := select (andi ng (cmpi .ne rm z)) (addi rm dvs) rm
  ori near (cmpi .eq md z)

/-- The masked scores. -/
def sco (x : FVec F S2x256x512 .bf16) (wq : FVec F S512x4096 .bf16) (k : FVec F S2x256x64x64 .bf16) : FVec F S2x64x256x256 .f32 :=
  have q : FVec F S2x256x4096 .f32 := Host.dotGeneral dot_S2x256x512_S512x4096_S2x256x4096_2_0_01_1_n_n none (extf .f32 x bitsLt_bf16_f32) (extf .f32 wq bitsLt_bf16_f32)
  have q4 : FVec F S2x256x64x64 .f32 := shapeCast S2x256x64x64 q shapeCasts_S2x256x4096_S2x256x64x64
  have s : FVec F S2x64x256x256 .f32 := Host.dotGeneral dot_S2x256x64x64_S2x256x64x64_S2x64x256x256_3_3_1_1_02_02 none q4 (extf .f32 k bitsLt_bf16_f32)
  have sc : FVec F S2x64x256x256 .f32 := mulf s (broadcastInDim S2x64x256x256 ![] bcast_S_S2x64x256x256 (constant S_ .f32 0x3E000000#32))
  have m4 : IVec S1x1x256x256 1 := broadcastInDim S1x1x256x256 ![2, 3] bcast_S256x256_S1x1x256x256_2_3 msk
  select (broadcastInDim S2x64x256x256 ![0, 1, 2, 3] bcast_S1x1x256x256_S2x64x256x256_0_1_2_3 m4) sc
    (broadcastInDim S2x64x256x256 ![] bcast_S_S2x64x256x256 (constant S_ .f32 0xCE6E6B28#32))

/-- Which query sees a key at all. -/
def any : IVec S256 1 := Host.reduce IntOp.ori msk (constantI S_ 1 0#1) reducesTo_S256x256_S256_d1 h_S_

/-- The greatest score of each query. -/
def top (s : FVec F S2x64x256x256 .f32) : FVec F S2x64x256 .f32 :=
  Host.reduce FloatOps.maximumf s (constant S_ .f32 0xFF800000#32) reducesTo_S2x64x256x256_S2x64x256_d3 h_S_

/-- The exponentials of the scores, each query's greatest score taken off. -/
def ex (s : FVec F S2x64x256x256 .f32) : FVec F S2x64x256x256 .f32 :=
  have t : FVec F S2x64x256x1 .f32 := broadcastInDim S2x64x256x1 ![0, 1, 2] bcast_S2x64x256_S2x64x256x1_0_1_2 (top s)
  Host.exp (subf s (broadcastInDim S2x64x256x256 ![0, 1, 2, 3] bcast_S2x64x256x1_S2x64x256x256_0_1_2_3 t))

/-- The weights made of the exponentials. -/
def wts (e : FVec F S2x64x256x256 .f32) : FVec F S2x64x256x256 .f32 :=
  have a4 : IVec S1x1x256x1 1 := broadcastInDim S1x1x256x1 ![2] bcast_S256_S1x1x256x1_2 any
  have sm : FVec F S2x64x256 .f32 := Host.reduceAdd e (constant S_ .f32 0x00000000#32) reducesTo_S2x64x256x256_S2x64x256_d3 h_S_
  have sm4 : FVec F S2x64x256x1 .f32 := broadcastInDim S2x64x256x1 ![0, 1, 2] bcast_S2x64x256_S2x64x256x1_0_1_2 sm
  have sm1 : FVec F S2x64x256x1 .f32 := select (broadcastInDim S2x64x256x1 ![0, 1, 2, 3] bcast_S1x1x256x1_S2x64x256x1_0_1_2_3 a4) sm4
    (broadcastInDim S2x64x256x1 ![] bcast_S_S2x64x256x1 (constant S_ .f32 0x3F800000#32))
  have w : FVec F S2x64x256x256 .f32 := Host.divf e (broadcastInDim S2x64x256x256 ![0, 1, 2, 3] bcast_S2x64x256x1_S2x64x256x256_0_1_2_3 sm1)
  select (broadcastInDim S2x64x256x256 ![0, 1, 2, 3] bcast_S1x1x256x1_S2x64x256x256_0_1_2_3 a4) w
    (broadcastInDim S2x64x256x256 ![] bcast_S_S2x64x256x256 (constant S_ .f32 0x00000000#32))

/-- The result made of the weights. -/
def out (w : FVec F S2x64x256x256 .f32) (v : FVec F S2x256x64x64 .bf16) (wo : FVec F S4096x512 .bf16) : FVec F S2x256x512 .bf16 :=
  have c : FVec F S2x64x64x256 .f32 := Host.dotGeneral dot_S2x256x64x64_S2x64x256x256_S2x64x64x256_1_3_3_2_02_01 none (extf .f32 v bitsLt_bf16_f32) w
  have c4 : FVec F S2x256x64x64 .f32 := transpose S2x256x64x64 [0, 3, 1, 2] c transposes_S2x64x64x256_S2x256x64x64_0_3_1_2
  have c3 : FVec F S2x256x4096 .f32 := shapeCast S2x256x4096 c4 shapeCasts_S2x256x64x64_S2x256x4096
  truncf .bf16 (Host.dotGeneral dot_S2x256x4096_S4096x512_S2x256x512_2_0_01_1_n_n none c3 (extf .f32 wo bitsLt_bf16_f32)) bitsLt_bf16_f32

set_option maxRecDepth 16384 in
/-- The reference's result is those stages of its arguments. -/
theorem res_eq (m : (ℓ : Loc nD τ sig) → Buf (Elt F) ℓ) (c : Dev nD) :
    Value.res_out0 m c
      = out (wts (ex (sco (m ((c.tc : Thread nD τ).loc main_arg0)) (m ((c.tc : Thread nD τ).loc main_arg1)) (m ((c.tc : Thread nD τ).loc main_arg2)))))
          (m ((c.tc : Thread nD τ).loc main_arg3)) (m ((c.tc : Thread nD τ).loc main_arg4)) := rfl

end Cert.ReferenceIdeal.Stage

end
-- ==== Proof.RefVal.lean ====
module

public import proofs.«01_k».proof.Proof.RefTerm
public import proofs.«01_k».proof.Proof.Seen
public import Idealize.ShloMosaic.Lib.Pointwise
public import Idealize.ShloMosaic.Lib.Routing.OpsOrder

/-! # The reference's stages, read at an index over the extended reals -/

@[expose] public section

set_option maxRecDepth 16384

noncomputable section

namespace Cert.ReferenceIdeal.Stage

open Idealize.ShloMosaic Cert.ReferenceIdeal Cert.ReferenceIdeal.Gen

/-! ## The mask -/

/-- A position's block is its number over 64. -/
theorem blk_apply (i : Fin 256) : blk (ix1 i) = BitVec.ofNat 32 (i.val / 64) := by
  unfold blk
  pointwise
  revert i
  decide +kernel

/-- The mask is the rule on the two blocks. -/
theorem msk_apply (i j : Fin 256) : msk (ix2 i j) = Att.seen i j := by
  unfold msk
  have hb := blk_apply
  generalize blk = bb at hb ⊢
  pointwise
  simp only [hb]
  unfold Att.seen
  obtain ⟨p, hp⟩ : ∃ p : Fin 4, p.val = i.val / 64 := ⟨⟨i.val / 64, by omega⟩, rfl⟩
  obtain ⟨q, hq⟩ : ∃ q : Fin 4, q.val = j.val / 64 := ⟨⟨j.val / 64, by omega⟩, rfl⟩
  rw [← hp, ← hq]
  clear hp hq
  revert p q
  decide +kernel

/-- Every query sees some key. -/
theorem any_apply (i : Fin 256) : any (ix1 i) = 1#1 := by
  unfold any
  have hm := msk_apply
  generalize msk = mm at hm ⊢
  pointwise
  rw [Routing.fold_ori]
  exact ⟨0, Finset.mem_univ _, (hm i 0).trans (Att.seen_zero i)⟩

/-! ## The scores, the weights and the result -/

theorem sco_apply (x : FVec Ideal S2x256x512 .bf16) (wq : FVec Ideal S512x4096 .bf16) (k : FVec Ideal S2x256x64x64 .bf16)
    (b : Fin 2) (h : Fin 64) (i j : Fin 256) :
    sco x wq k (ix4 b h i j) = Scalar.select (Att.seen i j)
      ((∑ d : Fin 64, (∑ n : Fin 512, x (ix3 b i n) * wq (ix2 n (Att.col h d))) * k (ix4 b j h d)) * Ideal.ofBits .f32 0x3E000000#32)
      (Ideal.ofBits .f32 0xCE6E6B28#32) := by
  rw [← msk_apply]
  unfold sco Att.col
  generalize msk = mm
  pointwise

theorem top_apply (s : FVec Ideal S2x64x256x256 .f32) (b : Fin 2) (h : Fin 64) (i : Fin 256) :
    top s (ix3 b h i) = Finset.fold max (Ideal.ofBits .f32 0xFF800000#32) (fun j : Fin 256 => s (ix4 b h i j)) Finset.univ := by
  pointwise [top]

theorem ex_apply (s : FVec Ideal S2x64x256x256 .f32) (b : Fin 2) (h : Fin 64) (i j : Fin 256) :
    ex s (ix4 b h i j) = Ideal.exp (s (ix4 b h i j) - Finset.fold max (Ideal.ofBits .f32 0xFF800000#32) (fun j : Fin 256 => s (ix4 b h i j)) Finset.univ) := by
  rw [← top_apply]
  unfold ex
  generalize top s = t
  pointwise

theorem wts_apply (e : FVec Ideal S2x64x256x256 .f32) (b : Fin 2) (h : Fin 64) (i j : Fin 256) :
    wts e (ix4 b h i j) = Ideal.div (e (ix4 b h i j)) (∑ j' : Fin 256, e (ix4 b h i j')) := by
  have ha := any_apply i
  unfold wts
  generalize any = a at ha ⊢
  pointwise
  rw [ha]
  rfl

theorem out_apply (w : FVec Ideal S2x64x256x256 .f32) (v : FVec Ideal S2x256x64x64 .bf16) (wo : FVec Ideal S4096x512 .bf16)
    (b : Fin 2) (i : Fin 256) (l : Fin 512) :
    out w v wo (ix3 b i l) = ∑ e : Fin 4096, (∑ j : Fin 256, v (ix4 b j (Att.hOf e) (Att.dOf e)) * w (ix4 b (Att.hOf e) i j)) * wo (ix2 e l) := by
  unfold out Att.hOf Att.dOf
  pointwise

end Cert.ReferenceIdeal.Stage

end
-- ==== Proof.Soft.lean ====
module

public import Idealize.ShloMosaic.Lib.Pointwise
public import Idealize.ShloMosaic.PureOps.Ideal.Laws

/-! # Weights of real scores

Over the extended reals: taking the greatest score off all of them, or scaling the queries instead of the
scores, changes nothing, as long as the numbers are real. -/

@[expose] public section

noncomputable section

namespace Cert.Att

open Idealize.ShloMosaic

/-! ## The constants -/

theorem eighth_bf16 : Ideal.ofBits .bf16 0x3E00#16 = ((1 / 8 : ℝ) : EReal) := by
  simp [Ideal.ofBits, Ideal.ieee, -EReal.coe_mul]; norm_num
theorem eighth_f32 : Ideal.ofBits .f32 0x3E000000#32 = ((1 / 8 : ℝ) : EReal) := by
  simp [Ideal.ofBits, Ideal.ieee, -EReal.coe_mul]; norm_num
theorem inf_bf16 : Ideal.ofBits .bf16 0x7F80#16 = (⊤ : EReal) := by
  simp [Ideal.ofBits, Ideal.ieee]
theorem ninf_f32 : Ideal.ofBits .f32 0xFF800000#32 = (⊥ : EReal) := by
  simp [Ideal.ofBits, Ideal.ieee]
/-- What stands where a query does not see a key is a real number. -/
theorem low_real : ∃ r : ℝ, Ideal.ofBits .f32 0xCE6E6B28#32 = (r : EReal) := by
  refine ⟨-(10 ^ 9), ?_⟩
  simp [Ideal.ofBits, Ideal.ieee, -EReal.coe_mul, -EReal.coe_neg, -EReal.coe_pow]; norm_num

/-! ## Sums -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The product of a row with a scaled column, against a third factor: the scale can be taken last. -/
theorem scale_last {ι κ : Type} [Fintype ι] [Fintype κ] (x : κ → ℝ) (w : κ → ι → ℝ) (k : ι → ℝ) (c : ℝ) :
    ∑ d, (∑ n, (x n : EReal) * ((w n d : EReal) * (c : EReal))) * (k d : EReal)
      = (∑ d, (∑ n, (x n : EReal) * (w n d : EReal)) * (k d : EReal)) * (c : EReal) := by
  simp only [← EReal.coe_mul, ← coe_sum]
  congr 1
  rw [Finset.sum_mul]
  refine Finset.sum_congr rfl fun d _ => ?_
  rw [Finset.sum_mul, Finset.sum_mul, Finset.sum_mul]
  refine Finset.sum_congr rfl fun n _ => ?_
  ring

/-- Those products are real. -/
theorem score_real {ι κ : Type} [Fintype ι] [Fintype κ] (x : κ → ℝ) (w : κ → ι → ℝ) (k : ι → ℝ) (c : ℝ) :
    (∑ d, (∑ n, (x n : EReal) * (w n d : EReal)) * (k d : EReal)) * (c : EReal)
      = ((∑ d, (∑ n, x n * w n d) * k d) * c : ℝ) := by
  simp only [← EReal.coe_mul, ← coe_sum]

/-! ## The greatest score -/

/-- The greatest of finitely many real scores, of which there is one at least, is real. -/
theorem top_real {ι : Type} [Fintype ι] [Nonempty ι] (r : ι → ℝ) :
    ∃ t : ℝ, Finset.fold max (⊥ : EReal) (fun j => (r j : EReal)) Finset.univ = (t : EReal) := by
  have ht : Finset.fold max (⊥ : EReal) (fun j => (r j : EReal)) Finset.univ ≠ ⊤ :=
    ((Finset.fold_max_lt ⊤).2 ⟨bot_lt_top, fun j _ => EReal.coe_lt_top _⟩).ne
  have hb : Finset.fold max (⊥ : EReal) (fun j => (r j : EReal)) Finset.univ ≠ ⊥ :=
    ((Finset.lt_fold_max ⊥).2 (.inr ⟨Classical.arbitrary ι, Finset.mem_univ _, EReal.bot_lt_coe _⟩)).ne'
  exact ⟨_, (EReal.coe_toReal ht hb).symm⟩

/-- A quotient of two reals, the second not zero. -/
theorem div_real (x y : ℝ) (hy : y ≠ 0) : Ideal.div (x : EReal) (y : EReal) = ((x / y : ℝ) : EReal) := by
  unfold Ideal.div
  rw [if_neg (by exact_mod_cast hy), div_eq_mul_inv, EReal.coe_mul, EReal.coe_inv]

/-- The weights of real scores, the greatest score taken off or not. -/
theorem weights_eq {ι : Type} [Fintype ι] [Nonempty ι] (r : ι → ℝ) (j : ι) :
    Ideal.div (Ideal.exp (r j : EReal)) (∑ j', Ideal.exp (r j' : EReal))
      = Ideal.div (Ideal.exp ((r j : EReal) - Finset.fold max (⊥ : EReal) (fun j => (r j : EReal)) Finset.univ))
          (∑ j', Ideal.exp ((r j' : EReal) - Finset.fold max (⊥ : EReal) (fun j => (r j : EReal)) Finset.univ)) := by
  obtain ⟨t, ht⟩ := top_real r
  rw [ht]
  simp only [← EReal.coe_sub, Ideal.exp_coe, ← coe_sum]
  have hp : ∀ f : ι → ℝ, (∑ j', Real.exp (f j')) ≠ 0 := fun f =>
    (Finset.sum_pos (fun j' _ => Real.exp_pos _) Finset.univ_nonempty).ne'
  rw [div_real _ _ (hp _), div_real _ _ (hp fun j' => r j' - t)]
  congr 1
  simp only [Real.exp_sub, ← Finset.sum_div]
  rw [div_div_div_cancel_right₀ (Real.exp_ne_zero t)]

end Cert.Att

end
-- ==== Proof.Value.lean ====
module

public import proofs.«01_k».proof.Proof.OutVal
public import proofs.«01_k».proof.Proof.HostVal
public import proofs.«01_k».proof.Proof.KMask
public import proofs.«01_k».proof.Proof.RefVal
public import proofs.«01_k».proof.Proof.Soft

/-! # The two results are one

A device's partial product is the reference's, over the columns of its four heads; so the sum over the
devices is the reference's sum over all 4096 columns. -/

@[expose] public section

set_option maxRecDepth 16384

noncomputable section

namespace Cert.Att

open Idealize.ShloMosaic

/-! ## The columns of all heads, device by device -/

/-- Head `h` of device `c` among all 64. -/
def head (c : Fin 16) (h : Fin 4) : Fin 64 := ⟨4 * c.val + h.val, by omega⟩

/-- The 4096 columns: a device, one of its heads, a column of it. -/
def cols : Fin 16 × Fin 4 × Fin 64 ≃ Fin 4096 where
  toFun p := col (head p.1 p.2.1) p.2.2
  invFun e := (⟨e.val / 256, by omega⟩, ⟨e.val / 64 % 4, by omega⟩, ⟨e.val % 64, by omega⟩)
  left_inv p := by
    obtain ⟨c, h, d⟩ := p
    refine Prod.ext (Fin.ext ?_) (Prod.ext (Fin.ext ?_) (Fin.ext ?_)) <;> simp only [col, head] <;> omega
  right_inv e := by
    refine Fin.ext ?_
    simp only [col, head]
    omega

theorem hOf_col (h d : Fin 64) : hOf (col h d) = h := Fin.ext (by simp only [hOf, col]; omega)
theorem dOf_col (h d : Fin 64) : dOf (col h d) = d := Fin.ext (by simp only [dOf, col]; omega)

/-- A sum over all columns, device by device. -/
theorem sum_cols (f : Fin 4096 → EReal) : ∑ e, f e = ∑ c : Fin 16, ∑ h : Fin 4, ∑ d : Fin 64, f (col (head c h) d) := by
  rw [← cols.sum_comp, Fintype.sum_prod_type]
  refine Finset.sum_congr rfl fun c _ => ?_
  rw [Fintype.sum_prod_type]
  rfl

/-! ## One head -/

section
variable (x : (⟨3, ![2, 256, 512]⟩ : Shape).Idx → EReal) (wq : (⟨2, ![512, 4096]⟩ : Shape).Idx → EReal)
  (k v : (⟨4, ![2, 256, 64, 64]⟩ : Shape).Idx → EReal) (wo : (⟨2, ![4096, 512]⟩ : Shape).Idx → EReal)

/-- The score of key `j` for query `i` at head `h` of batch `b`. -/
def score (b : Fin 2) (h : Fin 64) (i j : Fin 256) : EReal :=
  Scalar.select (seen i j)
    ((∑ d : Fin 64, (∑ n : Fin 512, x (ix3 b i n) * wq (ix2 n (col h d))) * k (ix4 b j h d)) * Ideal.ofBits .f32 0x3E000000#32)
    (Ideal.ofBits .f32 0xCE6E6B28#32)

/-- The scores of real numbers are real. -/
theorem score_is_real (hx : ∀ i, ∃ r : ℝ, x i = (r : EReal)) (hw : ∀ i, ∃ r : ℝ, wq i = (r : EReal)) (hk : ∀ i, ∃ r : ℝ, k i = (r : EReal))
    (b : Fin 2) (h : Fin 64) (i j : Fin 256) : ∃ r : ℝ, score x wq k b h i j = (r : EReal) := by
  choose x' hx using hx
  choose w' hw using hw
  choose k' hk using hk
  obtain ⟨l, hl⟩ := low_real
  unfold score
  rw [hl, eighth_f32]
  simp only [hx, hw, hk]
  rw [score_real (fun n => x' (ix3 b i n)) (fun n d => w' (ix2 n (col h d))) (fun d => k' (ix4 b j h d))]
  unfold Scalar.select
  split
  · exact ⟨_, rfl⟩
  · exact ⟨_, rfl⟩

/-- The kernel scales the columns of `Wq`, the reference the scores. -/
theorem score_scaled (hx : ∀ i, ∃ r : ℝ, x i = (r : EReal)) (hw : ∀ i, ∃ r : ℝ, wq i = (r : EReal)) (hk : ∀ i, ∃ r : ℝ, k i = (r : EReal))
    (b : Fin 2) (h : Fin 64) (i j : Fin 256) :
    (∑ d : Fin 64, (∑ n : Fin 512, x (ix3 b i n) * (wq (ix2 n (col h d)) * Ideal.ofBits .bf16 0x3E00#16)) * k (ix4 b j h d))
      = (∑ d : Fin 64, (∑ n : Fin 512, x (ix3 b i n) * wq (ix2 n (col h d))) * k (ix4 b j h d)) * Ideal.ofBits .f32 0x3E000000#32 := by
  choose x' hx using hx
  choose w' hw using hw
  choose k' hk using hk
  rw [eighth_f32, eighth_bf16]
  simp only [hx, hw, hk]
  exact scale_last (fun n => x' (ix3 b i n)) (fun n d => w' (ix2 n (col h d))) (fun d => k' (ix4 b j h d)) _

/-- The weights, with the greatest score taken off and without. -/
theorem weight_eq (s : Fin 256 → EReal) (hs : ∀ j, ∃ r : ℝ, s j = (r : EReal)) (j : Fin 256) :
    Ideal.div (Ideal.exp (s j)) (∑ j', Ideal.exp (s j'))
      = Ideal.div (Ideal.exp (s j - Finset.fold max (Ideal.ofBits .f32 0xFF800000#32) s Finset.univ))
          (∑ j', Ideal.exp (s j' - Finset.fold max (Ideal.ofBits .f32 0xFF800000#32) s Finset.univ)) := by
  choose r hr using hs
  obtain rfl : s = fun j => (r j : EReal) := funext hr
  rw [ninf_f32]
  exact weights_eq r j

/-- An element of the result, as both programs compute it. -/
def result (b : Fin 2) (i : Fin 256) (l : Fin 512) : EReal :=
  ∑ e : Fin 4096, (∑ j : Fin 256,
      v (ix4 b j (hOf e) (dOf e)) * Ideal.div (Ideal.exp (score x wq k b (hOf e) i j)) (∑ j', Ideal.exp (score x wq k b (hOf e) i j')))
    * wo (ix2 e l)

/-- The reference's result. -/
theorem ref_result (hx : ∀ i, ∃ r : ℝ, x i = (r : EReal)) (hw : ∀ i, ∃ r : ℝ, wq i = (r : EReal)) (hk : ∀ i, ∃ r : ℝ, k i = (r : EReal))
    (b : Fin 2) (i : Fin 256) (l : Fin 512) :
    Cert.ReferenceIdeal.Stage.out (Cert.ReferenceIdeal.Stage.wts (Cert.ReferenceIdeal.Stage.ex (Cert.ReferenceIdeal.Stage.sco (F := Ideal) x wq k))) v wo (ix3 b i l)
      = result x wq k v wo b i l := by
  rw [Cert.ReferenceIdeal.Stage.out_apply]
  unfold result
  refine Finset.sum_congr rfl fun e _ => congrArg (· * _) (Finset.sum_congr rfl fun j _ => congrArg (_ * ·) ?_)
  rw [Cert.ReferenceIdeal.Stage.wts_apply]
  simp only [Cert.ReferenceIdeal.Stage.ex_apply, Cert.ReferenceIdeal.Stage.sco_apply]
  exact (weight_eq (fun j => score x wq k b (hOf e) i j) (fun j => score_is_real x wq k hx hw hk b _ i j) j).symm

/-- Column `hd h d` of device `c`'s block. -/
def blkCol (c : Fin 16) (e : Fin 256) : Fin 4096 := ⟨c.val * 256 + e.val, by omega⟩
theorem blkCol_hd (c : Fin 16) (h : Fin 4) (d : Fin 64) : blkCol c (Cert.KernelIdeal.Att.hd h d) = col (head c h) d :=
  Fin.ext (by simp only [blkCol, Cert.KernelIdeal.Att.hd, col, head]; omega)

open Cert.KernelIdeal.Att in
/-- The sum of the devices' partial products. -/
theorem ker_result (A : Fin 16 → Ins Ideal) (hx : ∀ i, ∃ r : ℝ, x i = (r : EReal)) (hw : ∀ i, ∃ r : ℝ, wq i = (r : EReal)) (hk : ∀ i, ∃ r : ℝ, k i = (r : EReal))
    (ax : ∀ c, (A c).x = x)
    (awq : ∀ (c : Fin 16) (n : Fin 512) (e : Fin 256), (A c).wq (ix2 n e) = wq (ix2 n (blkCol c e)) * Ideal.ofBits .bf16 0x3E00#16)
    (ak : ∀ (c : Fin 16) (b : Fin 2) (j : Fin 256) (h : Fin 4) (d : Fin 64), (A c).k (ix3 b j (hd h d)) = k (ix4 b j (head c h) d))
    (av : ∀ (c : Fin 16) (b : Fin 2) (j : Fin 256) (h : Fin 4) (d : Fin 64), (A c).v (ix3 b j (hd h d)) = v (ix4 b j (head c h) d))
    (awo : ∀ (c : Fin 16) (e : Fin 256) (l : Fin 512), (A c).wo (ix2 e l) = wo (ix2 (blkCol c e) l))
    (b : Fin 2) (i : Fin 256) (l : Fin 512) : outF A (ix3 b i l) = result x wq k v wo b i l := by
  rw [outF_apply]
  unfold result
  rw [sum_cols]
  refine Finset.sum_congr rfl fun c _ => ?_
  unfold dpart
  refine Finset.sum_congr rfl fun h _ => Finset.sum_congr rfl fun d _ => ?_
  rw [awo, blkCol_hd, hOf_col, dOf_col]
  refine congrArg (· * _) ?_
  unfold kctx
  refine Finset.sum_congr rfl fun j _ => ?_
  refine (mul_comm _ _).trans (congrArg₂ (· * ·) (av c b j h d) ?_)
  have hs : ∀ j : Fin 256, ksc mask (fun i e => ∑ n : Fin 512, (A c).x (ix3 b i n) * (A c).wq (ix2 n e)) (fun j e => (A c).k (ix3 b j e)) h i j
      = score x wq k b (head c h) i j := by
    intro j
    unfold ksc score low
    rw [mask_apply]
    refine congrArg (fun t => Scalar.select _ t _) ?_
    rw [← score_scaled x wq k hx hw hk]
    simp only [ak, ax, awq, blkCol_hd]
  unfold kwt
  simp only [hs]
end

end Cert.Att

end
-- ==== Proof.Finite.lean ====
module

public import proofs.«01_k».proof.Pre_finite_scores_KernelIdeal
public import proofs.«01_k».proof.Pre_finite_scores_ReferenceIdeal
public import proofs.«01_k».proof.Proof.Soft
public import Idealize.ShloMosaic.Lib.ReduceAll

/-! # What the precondition says of a device's blocks

Every element of `x`, of `Wq` and of `K_ext` is a real number. -/

@[expose] public section

noncomputable section

namespace Cert.Pre_finite_scores_KernelIdeal

/-- The shape relations the precondition's operations take. -/
theorem facts : Facts where
  bcast_S_S2x256x512 := by decide
  reducesTo_S2x256x512_S_d0_1_2 := by decide
  h_S_ := by decide
  bcast_S_S512x256 := by decide
  reducesTo_S512x256_S_d0_1 := by decide
  bcast_S_S2x256x64x64 := by decide
  reducesTo_S2x256x64x64_S_d0_1_2_3 := by decide

end Cert.Pre_finite_scores_KernelIdeal

namespace Cert.Pre_finite_scores_ReferenceIdeal

/-- The same, over the whole arrays. -/
theorem facts : Facts where
  bcast_S_S2x256x512 := by decide
  reducesTo_S2x256x512_S_d0_1_2 := by decide
  h_S_ := by decide
  bcast_S_S512x4096 := by decide
  reducesTo_S512x4096_S_d0_1 := by decide
  bcast_S_S2x256x64x64 := by decide
  reducesTo_S2x256x64x64_S_d0_1_2_3 := by decide

end Cert.Pre_finite_scores_ReferenceIdeal

namespace Cert.Att

open Idealize.ShloMosaic

/-- A number whose magnitude is below infinity is real. -/
theorem real_of_abs (x : EReal) (h : Ideal.cmp .olt (max x (-x)) (Ideal.ofBits .bf16 0x7F80#16) = 1#1) : ∃ r : ℝ, x = (r : EReal) := by
  rw [inf_bf16] at h
  induction x with
  | bot => simp [Ideal.cmp] at h
  | top => simp [Ideal.cmp] at h
  | coe r => exact ⟨r, rfl⟩

open Cert.Pre_finite_scores_KernelIdeal in
/-- The precondition, read. -/
theorem finite_of_pre [Facts] (x : FVec Ideal S2x256x512 .bf16) (wq : FVec Ideal S512x256 .bf16) (k v : FVec Ideal S2x256x64x64 .bf16)
    (wo : FVec Ideal S256x512 .bf16) (h : fn (F := Ideal) x wq k v wo = fun _ => 1#1) :
    (∀ i, ∃ r : ℝ, x i = (r : EReal)) ∧ (∀ i, ∃ r : ℝ, wq i = (r : EReal)) ∧ (∀ i, ∃ r : ℝ, k i = (r : EReal)) := by
  have h0 := congrFun h (Shape.Idx.first Facts.h_S_)
  dsimp only [fn] at h0
  obtain ⟨h01, hk⟩ := IntOp.andi_eq_one.1 h0
  obtain ⟨hx, hw⟩ := IntOp.andi_eq_one.1 h01
  have : Subsingleton S_.Idx := ⟨fun a b => funext fun i => i.elim0⟩
  exact ⟨fun i => real_of_abs _ (Host.reduce_andi_all _ _ _ _ _ hx i), fun i => real_of_abs _ (Host.reduce_andi_all _ _ _ _ _ hw i),
    fun i => real_of_abs _ (Host.reduce_andi_all _ _ _ _ _ hk i)⟩

end Cert.Att

end
-- ==== Proof.Equal.lean ====
module

public import proofs.«01_k».proof.Proof.Value
public import proofs.«01_k».proof.Proof.Finite
public import Idealize.ShloMosaic.Lib.Layout

/-! # The two programs' results from arguments that agree

Each device holds 256 columns of `Wq` and 256 rows of `Wo`, and all of the rest. -/

@[expose] public section

noncomputable section

namespace Cert.Att

open Idealize.ShloMosaic Idealize.SL.Sem

/-- Column `e` of device `c`'s block of `Wq`. -/
theorem block_wq (c : Fin 16) (w : (⟨2, ![512, 4096]⟩ : Shape).Idx → EReal) (n : Fin 512) (e : Fin 256) :
    Layout.block ⟨2, ![512, 256]⟩ ⟨2, ![512, 4096]⟩ 1 16 c w (by decide) (ix2 n e) = w (ix2 n (blkCol c e)) := by
  rw [Layout.block_apply]
  refine congrArg w ?_
  rw [eq_ix2 (Layout.Tiles.idx _ c (ix2 n e))]
  rfl

/-- Row `e` of device `c`'s block of `Wo`. -/
theorem block_wo (c : Fin 16) (w : (⟨2, ![4096, 512]⟩ : Shape).Idx → EReal) (e : Fin 256) (l : Fin 512) :
    Layout.block ⟨2, ![256, 512]⟩ ⟨2, ![4096, 512]⟩ 0 16 c w (by decide) (ix2 e l) = w (ix2 (blkCol c e) l) := by
  rw [Layout.block_apply]
  refine congrArg w ?_
  rw [eq_ix2 (Layout.Tiles.idx _ c (ix2 e l))]
  rfl

/-- Every column is a column of some device's block. -/
theorem blkCol_surj (e : Fin 4096) : blkCol ⟨e.val / 256, by omega⟩ ⟨e.val % 256, by omega⟩ = e :=
  Fin.ext (by simp only [blkCol]; omega)

open Cert.KernelIdeal.Att in
/-- The kernel's result is the reference's, when what the devices hold agrees with the reference's arguments and
    `x`, `Wq` and `K_ext` are real. -/
theorem results_eq (m : (ℓ : Loc Cert.KernelIdeal.nD Cert.KernelIdeal.τ Cert.KernelIdeal.sig) → Buf (Elt Ideal) ℓ)
    (x : FVec Ideal Cert.ReferenceIdeal.S2x256x512 .bf16) (wq : FVec Ideal Cert.ReferenceIdeal.S512x4096 .bf16)
    (k v : FVec Ideal Cert.ReferenceIdeal.S2x256x64x64 .bf16) (wo : FVec Ideal Cert.ReferenceIdeal.S4096x512 .bf16)
    (hx : ∀ c, aX m c = x) (hw : ∀ c, aWq m c = Layout.block ⟨2, ![512, 256]⟩ ⟨2, ![512, 4096]⟩ 1 16 c wq (by decide))
    (hk : ∀ c, aK m c = k) (hv : ∀ c, aV m c = v)
    (ho : ∀ c, aWo m c = Layout.block ⟨2, ![256, 512]⟩ ⟨2, ![4096, 512]⟩ 0 16 c wo (by decide))
    (fx : ∀ c i, ∃ r : ℝ, aX m c i = (r : EReal)) (fw : ∀ c i, ∃ r : ℝ, aWq m c i = (r : EReal)) (fk : ∀ c i, ∃ r : ℝ, aK m c i = (r : EReal)) :
    outF (ins m) = Cert.ReferenceIdeal.Stage.out (Cert.ReferenceIdeal.Stage.wts (Cert.ReferenceIdeal.Stage.ex (Cert.ReferenceIdeal.Stage.sco (F := Ideal) x wq k))) v wo := by
  have rx : ∀ i, ∃ r : ℝ, x i = (r : EReal) := fun i => by rw [← hx 0]; exact fx 0 i
  have rk : ∀ i, ∃ r : ℝ, k i = (r : EReal) := fun i => by rw [← hk 0]; exact fk 0 i
  have rw' : ∀ i, ∃ r : ℝ, wq i = (r : EReal) := fun i => by
    obtain ⟨n, e, rfl⟩ : ∃ (n : Fin 512) (e : Fin 4096), i = ix2 n e := ⟨i 0, i 1, eq_ix2 i⟩
    have h := (congrFun (hw (⟨e.val / 256, by omega⟩ : Fin 16)) (ix2 n ⟨e.val % 256, by omega⟩)).trans (block_wq _ wq n _)
    rw [blkCol_surj] at h
    rw [← h]
    exact fw _ _
  funext i
  obtain ⟨b, j, l, rfl⟩ : ∃ (b : Fin 2) (j : Fin 256) (l : Fin 512), i = ix3 b j l := ⟨i 0, i 1, i 2, eq_ix3 i⟩
  refine Eq.trans ?_ (ref_result x wq k v wo rx rw' rk b j l).symm
  refine ker_result x wq k v wo (ins m) rx rw' rk (fun c => hx c) (fun c n e => ?_) (fun c b j h d => ?_) (fun c b j h d => ?_) (fun c e l => ?_) _ _ _
  · rw [ins_wq, hw c, block_wq]
  · rw [← hk c]; exact ins_k m c b j h d
  · rw [← hv c]; exact ins_v m c b j h d
  · rw [ins_wo, ho c, block_wo]

end Cert.Att

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Launch
public import proofs.«01_k».proof.Proof.Equal
public import Idealize.ShloMosaic.Adequacy
public import Idealize.ShloMosaic.Init

@[expose] public section

noncomputable section

namespace Cert.Proof

open Idealize.ShloMosaic Idealize.SL.Sem

/-- The idealized kernel ends from any launch, its arguments unchanged and every counter at zero. -/
theorem frame_ideal : Cert.quiescent_KernelIdeal (hKernelIdeal := Cert.KernelIdeal.Gen.facts) := fun m ρ _ =>
  Cert.KernelIdeal.Att.run_frame (F := Ideal) m ρ

local instance : Cert.Kernel.Facts := Cert.Kernel.Gen.facts
local instance : Cert.KernelIdeal.Facts := Cert.KernelIdeal.Gen.facts

/-- The two programs have one text: their kernels are the same. -/
theorem same_body : Cert.Kernel.defs₀ (F := Bits) = Cert.KernelIdeal.defs₀ (F := Bits) := by
  unfold Cert.Kernel.defs₀ Cert.KernelIdeal.defs₀
  refine congrArg Defs.onTc (funext fun l => funext fun x => ?_)
  match l, x with
  | ⟨0, _⟩, (t, s) => rfl
theorem same_defs : Cert.Kernel.defs (F := Bits) = Cert.KernelIdeal.defs (F := Bits) :=
  congrArg (Pipeline.defs (Cert.KernelIdeal.pcfgs (F := Bits))) same_body

/-- The kernel as printed: the same text, run over the bits. -/
theorem frame_kernel : Cert.quiescent_Kernel (hKernel := Cert.Kernel.Gen.facts) := fun m ρ _ => by
  have h := Cert.KernelIdeal.Att.run_frame (F := Bits) m ρ
  rw [← same_defs] at h
  exact h

/-- The reference, all of it host operations. -/
theorem frame_ref : Cert.quiescent_ReferenceIdeal (hReferenceIdeal := Cert.ReferenceIdeal.Gen.facts) := fun m ρ _ =>
  (θ_run Cert.ReferenceIdeal.defs _ _).mono (fun r h => ⟨fun c => (h c).2, funext fun g => nomatch g.2⟩) (Cert.ReferenceIdeal.Value.run (F := Ideal) m ρ)

local instance : Cert.ReferenceIdeal.Facts := Cert.ReferenceIdeal.Gen.facts
local instance : Cert.Pre_finite_scores_KernelIdeal.Facts := Cert.Pre_finite_scores_KernelIdeal.facts

/-- Over the extended reals the kernel's result, on every device, is the reference's. -/
theorem algebraic : Cert.algebraic_KernelIdeal_ReferenceIdeal_pre_finite_scores_KernelIdeal
    (hKernelIdeal := Cert.KernelIdeal.Gen.facts) (hReferenceIdeal := Cert.ReferenceIdeal.Gen.facts)
    (hPre_finite_scores_KernelIdeal := Cert.Pre_finite_scores_KernelIdeal.facts) := fun m g m' g' hpre hagree => by
  have hf := fun c => Cert.Att.finite_of_pre _ _ _ _ _ (hpre c)
  have he := Cert.Att.results_eq m _ _ _ _ _ (fun c => (hagree c).1) (fun c => (hagree c).2.1) (fun c => (hagree c).2.2.1)
    (fun c => (hagree c).2.2.2.1) (fun c => (hagree c).2.2.2.2) (fun c => (hf c).1) (fun c => (hf c).2.1) (fun c => (hf c).2.2)
  refine ⟨Cert.ReferenceIdeal.Value.res_out0 m' 0, ?_, ?_⟩
  · refine (θ_run Cert.KernelIdeal.defs _ _).mono (fun r h c => ?_) (Cert.KernelIdeal.Att.run_main (F := Ideal) m g)
    exact ⟨((h.1 c).2.trans he).trans (Cert.ReferenceIdeal.Stage.res_eq m' 0).symm, (h.1 c).1⟩
  · exact (θ_run Cert.ReferenceIdeal.defs _ _).mono (fun r h => h 0) (Cert.ReferenceIdeal.Value.run (F := Ideal) m' g')

theorem claim : Cert.Claim := ⟨Cert.Kernel.Gen.facts, Cert.KernelIdeal.Gen.facts, Cert.ReferenceIdeal.Gen.facts,
  Cert.Pre_finite_scores_KernelIdeal.facts, Cert.Pre_finite_scores_ReferenceIdeal.facts,
  frame_kernel, frame_ideal, fun m ρ _ => frame_ideal m ρ trivial, frame_ref, fun m ρ _ => frame_ref m ρ trivial, trivial, algebraic⟩

end Cert.Proof

end
